-- ==== Defs.lean ====
def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Gout (m : (ℓ : Loc Cert.Gout.nD Cert.Gout.τ Cert.Gout.sig) → Buf (Elt Bits) ℓ) : Prop :=
  True

def Pre_GoutIdeal (m : (ℓ : Loc Cert.GoutIdeal.nD Cert.GoutIdeal.τ Cert.GoutIdeal.sig) → Buf (Elt Ideal) ℓ) : Prop :=
  True

def Pre_GoutRefIdeal (m : (ℓ : Loc Cert.GoutRefIdeal.nD Cert.GoutRefIdeal.τ Cert.GoutRefIdeal.sig) → Buf (Elt Ideal) ℓ) : Prop :=
  True

def Pre_Glow (m : (ℓ : Loc Cert.Glow.nD Cert.Glow.τ Cert.Glow.sig) → Buf (Elt Bits) ℓ) : Prop :=
  True

def Pre_GlowIdeal (m : (ℓ : Loc Cert.GlowIdeal.nD Cert.GlowIdeal.τ Cert.GlowIdeal.sig) → Buf (Elt Ideal) ℓ) : Prop :=
  True

def Pre_GlowRefIdeal (m : (ℓ : Loc Cert.GlowRefIdeal.nD Cert.GlowRefIdeal.τ Cert.GlowRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pq (m : (ℓ : Loc Cert.Pq.nD Cert.Pq.τ Cert.Pq.sig) → Buf (Elt Bits) ℓ) : Prop :=
  True

def Pre_PqIdeal (m : (ℓ : Loc Cert.PqIdeal.nD Cert.PqIdeal.τ Cert.PqIdeal.sig) → Buf (Elt Ideal) ℓ) : Prop :=
  True

def Pre_PqRefIdeal (m : (ℓ : Loc Cert.PqRefIdeal.nD Cert.PqRefIdeal.τ Cert.PqRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_inputs [hPre_finite_inputs : Cert.Pre_finite_inputs.Facts] (m : (ℓ : Loc Cert.AttnIdeal.nD Cert.AttnIdeal.τ Cert.AttnIdeal.sig) → Buf (Elt Ideal) ℓ) : Prop :=
  ∀ c : Dev Cert.AttnIdeal.nD,
    (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.1 = (fun _ => 1#1)
    ∧ (Cert.Pre_finite_inputs.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_inputs [hPre_finite_inputs : Cert.Pre_finite_inputs.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.1 = (fun _ => 1#1)
    ∧ (Cert.Pre_finite_inputs.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2))).2.2 = (fun _ => 1#1)

def Pre_Modu (m : (ℓ : Loc Cert.Modu.nD Cert.Modu.τ Cert.Modu.sig) → Buf (Elt Bits) ℓ) : Prop :=
  True

def Pre_ModuIdeal (m : (ℓ : Loc Cert.ModuIdeal.nD Cert.ModuIdeal.τ Cert.ModuIdeal.sig) → Buf (Elt Ideal) ℓ) : Prop :=
  True

def Pre_ModuRefIdeal (m : (ℓ : Loc Cert.ModuRefIdeal.nD Cert.ModuRefIdeal.τ Cert.ModuRefIdeal.sig) → Buf (Elt Ideal) ℓ) : Prop :=
  True

def Pre_Norma (m : (ℓ : Loc Cert.Norma.nD Cert.Norma.τ Cert.Norma.sig) → Buf (Elt Bits) ℓ) : Prop :=
  True

def Pre_NormaIdeal (m : (ℓ : Loc Cert.NormaIdeal.nD Cert.NormaIdeal.τ Cert.NormaIdeal.sig) → Buf (Elt Ideal) ℓ) : Prop :=
  True

def Pre_NormaRefIdeal (m : (ℓ : Loc Cert.NormaRefIdeal.nD Cert.NormaRefIdeal.τ Cert.NormaRefIdeal.sig) → Buf (Elt Ideal) ℓ) : Prop :=
  True

def Pre_Normb (m : (ℓ : Loc Cert.Normb.nD Cert.Normb.τ Cert.Normb.sig) → Buf (Elt Bits) ℓ) : Prop :=
  True

def Pre_NormbIdeal (m : (ℓ : Loc Cert.NormbIdeal.nD Cert.NormbIdeal.τ Cert.NormbIdeal.sig) → Buf (Elt Ideal) ℓ) : Prop :=
  True

def Pre_NormbRefIdeal (m : (ℓ : Loc Cert.NormbRefIdeal.nD Cert.NormbRefIdeal.τ Cert.NormbRefIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalRefIdeal (m : (ℓ : Loc Cert.FinalRefIdeal.nD Cert.FinalRefIdeal.τ Cert.FinalRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Gout [hGout : Cert.Gout.Facts] : Prop :=
  ∀ (m : (ℓ : Loc Cert.Gout.nD Cert.Gout.τ Cert.Gout.sig) → Buf (Elt Bits) ℓ) (g : Dev Cert.Gout.nD → PrngReg), Pre_Gout m →
    θ_run (Cert.Gout.defs (F := Bits)) (onTc (τ := Cert.Gout.τ) (Cert.Gout.main (F := Bits))) ⟨m, fun _ => 0, g⟩ (fun r => (∀ c : Dev Cert.Gout.nD,
      r.2.mem ((c.tc : Thread Cert.Gout.nD Cert.Gout.τ).loc Cert.Gout.main_arg0) = m ((c.tc : Thread Cert.Gout.nD Cert.Gout.τ).loc Cert.Gout.main_arg0)
      ∧ r.2.mem ((c.tc : Thread Cert.Gout.nD Cert.Gout.τ).loc Cert.Gout.main_arg1) = m ((c.tc : Thread Cert.Gout.nD Cert.Gout.τ).loc Cert.Gout.main_arg1))
      ∧ r.2.sem = fun _ => 0)

def quiescent_GoutIdeal [hGoutIdeal : Cert.GoutIdeal.Facts] : Prop :=
  ∀ (m : (ℓ : Loc Cert.GoutIdeal.nD Cert.GoutIdeal.τ Cert.GoutIdeal.sig) → Buf (Elt Ideal) ℓ) (g : Dev Cert.GoutIdeal.nD → PrngReg), Pre_GoutIdeal m →
    θ_run (Cert.GoutIdeal.defs (F := Ideal)) (onTc (τ := Cert.GoutIdeal.τ) (Cert.GoutIdeal.main (F := Ideal))) ⟨m, fun _ => 0, g⟩ (fun r => (∀ c : Dev Cert.GoutIdeal.nD,
      r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
      ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ r.2.sem = fun _ => 0)

def quiescent_GoutRefIdeal [hGoutRefIdeal : Cert.GoutRefIdeal.Facts] : Prop :=
  ∀ (m : (ℓ : Loc Cert.GoutRefIdeal.nD Cert.GoutRefIdeal.τ Cert.GoutRefIdeal.sig) → Buf (Elt Ideal) ℓ) (g : Dev Cert.GoutRefIdeal.nD → PrngReg), Pre_GoutRefIdeal m →
    θ_run (Cert.GoutRefIdeal.defs (F := Ideal)) (onTc (τ := Cert.GoutRefIdeal.τ) (Cert.GoutRefIdeal.main (F := Ideal))) ⟨m, fun _ => 0, g⟩ (fun r => (∀ c : Dev Cert.GoutRefIdeal.nD,
      r.2.mem ((c.tc : Thread Cert.GoutRefIdeal.nD Cert.GoutRefIdeal.τ).loc Cert.GoutRefIdeal.main_arg0) = m ((c.tc : Thread Cert.GoutRefIdeal.nD Cert.GoutRefIdeal.τ).loc Cert.GoutRefIdeal.main_arg0)
      ∧ r.2.mem ((c.tc : Thread Cert.GoutRefIdeal.nD Cert.GoutRefIdeal.τ).loc Cert.GoutRefIdeal.main_arg1) = m ((c.tc : Thread Cert.GoutRefIdeal.nD Cert.GoutRefIdeal.τ).loc Cert.GoutRefIdeal.main_arg1))
      ∧ r.2.sem = fun _ => 0)

def quiescent_Glow [hGlow : Cert.Glow.Facts] : Prop :=
  ∀ (m : (ℓ : Loc Cert.Glow.nD Cert.Glow.τ Cert.Glow.sig) → Buf (Elt Bits) ℓ) (g : Dev Cert.Glow.nD → PrngReg), Pre_Glow m →
    θ_run (Cert.Glow.defs (F := Bits)) (onTc (τ := Cert.Glow.τ) (Cert.Glow.main (F := Bits))) ⟨m, fun _ => 0, g⟩ (fun r => (∀ c : Dev Cert.Glow.nD,
      r.2.mem ((c.tc : Thread Cert.Glow.nD Cert.Glow.τ).loc Cert.Glow.main_arg0) = m ((c.tc : Thread Cert.Glow.nD Cert.Glow.τ).loc Cert.Glow.main_arg0)
      ∧ r.2.mem ((c.tc : Thread Cert.Glow.nD Cert.Glow.τ).loc Cert.Glow.main_arg1) = m ((c.tc : Thread Cert.Glow.nD Cert.Glow.τ).loc Cert.Glow.main_arg1))
      ∧ r.2.sem = fun _ => 0)

def quiescent_GlowIdeal [hGlowIdeal : Cert.GlowIdeal.Facts] : Prop :=
  ∀ (m : (ℓ : Loc Cert.GlowIdeal.nD Cert.GlowIdeal.τ Cert.GlowIdeal.sig) → Buf (Elt Ideal) ℓ) (g : Dev Cert.GlowIdeal.nD → PrngReg), Pre_GlowIdeal m →
    θ_run (Cert.GlowIdeal.defs (F := Ideal)) (onTc (τ := Cert.GlowIdeal.τ) (Cert.GlowIdeal.main (F := Ideal))) ⟨m, fun _ => 0, g⟩ (fun r => (∀ c : Dev Cert.GlowIdeal.nD,
      r.2.mem ((c.tc : Thread Cert.GlowIdeal.nD Cert.GlowIdeal.τ).loc Cert.GlowIdeal.main_arg0) = m ((c.tc : Thread Cert.GlowIdeal.nD Cert.GlowIdeal.τ).loc Cert.GlowIdeal.main_arg0)
      ∧ r.2.mem ((c.tc : Thread Cert.GlowIdeal.nD Cert.GlowIdeal.τ).loc Cert.GlowIdeal.main_arg1) = m ((c.tc : Thread Cert.GlowIdeal.nD Cert.GlowIdeal.τ).loc Cert.GlowIdeal.main_arg1))
      ∧ r.2.sem = fun _ => 0)

def quiescent_GlowRefIdeal [hGlowRefIdeal : Cert.GlowRefIdeal.Facts] : Prop :=
  ∀ (m : (ℓ : Loc Cert.GlowRefIdeal.nD Cert.GlowRefIdeal.τ Cert.GlowRefIdeal.sig) → Buf (Elt Ideal) ℓ) (g : Dev Cert.GlowRefIdeal.nD → PrngReg), Pre_GlowRefIdeal m →
    θ_run (Cert.GlowRefIdeal.defs (F := Ideal)) (onTc (τ := Cert.GlowRefIdeal.τ) (Cert.GlowRefIdeal.main (F := Ideal))) ⟨m, fun _ => 0, g⟩ (fun r => (∀ c : Dev Cert.GlowRefIdeal.nD,
      r.2.mem ((c.tc : Thread Cert.GlowRefIdeal.nD Cert.GlowRefIdeal.τ).loc Cert.GlowRefIdeal.main_arg0) = m ((c.tc : Thread Cert.GlowRefIdeal.nD Cert.GlowRefIdeal.τ).loc Cert.GlowRefIdeal.main_arg0)
      ∧ r.2.mem ((c.tc : Thread Cert.GlowRefIdeal.nD Cert.GlowRefIdeal.τ).loc Cert.GlowRefIdeal.main_arg1) = m ((c.tc : Thread Cert.GlowRefIdeal.nD Cert.GlowRefIdeal.τ).loc Cert.GlowRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Pq [hPq : Cert.Pq.Facts] : Prop :=
  ∀ (m : (ℓ : Loc Cert.Pq.nD Cert.Pq.τ Cert.Pq.sig) → Buf (Elt Bits) ℓ) (g : Dev Cert.Pq.nD → PrngReg), Pre_Pq m →
    θ_run (Cert.Pq.defs (F := Bits)) (onTc (τ := Cert.Pq.τ) (Cert.Pq.main (F := Bits))) ⟨m, fun _ => 0, g⟩ (fun r => (∀ c : Dev Cert.Pq.nD,
      r.2.mem ((c.tc : Thread Cert.Pq.nD Cert.Pq.τ).loc Cert.Pq.main_arg0) = m ((c.tc : Thread Cert.Pq.nD Cert.Pq.τ).loc Cert.Pq.main_arg0)
      ∧ r.2.mem ((c.tc : Thread Cert.Pq.nD Cert.Pq.τ).loc Cert.Pq.main_arg1) = m ((c.tc : Thread Cert.Pq.nD Cert.Pq.τ).loc Cert.Pq.main_arg1))
      ∧ r.2.sem = fun _ => 0)

def quiescent_PqIdeal [hPqIdeal : Cert.PqIdeal.Facts] : Prop :=
  ∀ (m : (ℓ : Loc Cert.PqIdeal.nD Cert.PqIdeal.τ Cert.PqIdeal.sig) → Buf (Elt Ideal) ℓ) (g : Dev Cert.PqIdeal.nD → PrngReg), Pre_PqIdeal m →
    θ_run (Cert.PqIdeal.defs (F := Ideal)) (onTc (τ := Cert.PqIdeal.τ) (Cert.PqIdeal.main (F := Ideal))) ⟨m, fun _ => 0, g⟩ (fun r => (∀ c : Dev Cert.PqIdeal.nD,
      r.2.mem ((c.tc : Thread Cert.PqIdeal.nD Cert.PqIdeal.τ).loc Cert.PqIdeal.main_arg0) = m ((c.tc : Thread Cert.PqIdeal.nD Cert.PqIdeal.τ).loc Cert.PqIdeal.main_arg0)
      ∧ r.2.mem ((c.tc : Thread Cert.PqIdeal.nD Cert.PqIdeal.τ).loc Cert.PqIdeal.main_arg1) = m ((c.tc : Thread Cert.PqIdeal.nD Cert.PqIdeal.τ).loc Cert.PqIdeal.main_arg1))
      ∧ r.2.sem = fun _ => 0)

def quiescent_PqRefIdeal [hPqRefIdeal : Cert.PqRefIdeal.Facts] : Prop :=
  ∀ (m : (ℓ : Loc Cert.PqRefIdeal.nD Cert.PqRefIdeal.τ Cert.PqRefIdeal.sig) → Buf (Elt Ideal) ℓ) (g : Dev Cert.PqRefIdeal.nD → PrngReg), Pre_PqRefIdeal m →
    θ_run (Cert.PqRefIdeal.defs (F := Ideal)) (onTc (τ := Cert.PqRefIdeal.τ) (Cert.PqRefIdeal.main (F := Ideal))) ⟨m, fun _ => 0, g⟩ (fun r => (∀ c : Dev Cert.PqRefIdeal.nD,
      r.2.mem ((c.tc : Thread Cert.PqRefIdeal.nD Cert.PqRefIdeal.τ).loc Cert.PqRefIdeal.main_arg0) = m ((c.tc : Thread Cert.PqRefIdeal.nD Cert.PqRefIdeal.τ).loc Cert.PqRefIdeal.main_arg0)
      ∧ r.2.mem ((c.tc : Thread Cert.PqRefIdeal.nD Cert.PqRefIdeal.τ).loc Cert.PqRefIdeal.main_arg1) = m ((c.tc : Thread Cert.PqRefIdeal.nD Cert.PqRefIdeal.τ).loc Cert.PqRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnIdeal_pre_finite_inputs [hAttnIdeal : Cert.AttnIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_inputs m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AttnRefIdeal_pre_finite_inputs [hAttnRefIdeal : Cert.AttnRefIdeal.Facts] [hPre_finite_inputs : Cert.Pre_finite_inputs.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_inputs m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_Modu [hModu : Cert.Modu.Facts] : Prop :=
  ∀ (m : (ℓ : Loc Cert.Modu.nD Cert.Modu.τ Cert.Modu.sig) → Buf (Elt Bits) ℓ) (g : Dev Cert.Modu.nD → PrngReg), Pre_Modu m →
    θ_run (Cert.Modu.defs (F := Bits)) (onTc (τ := Cert.Modu.τ) (Cert.Modu.main (F := Bits))) ⟨m, fun _ => 0, g⟩ (fun r => (∀ c : Dev Cert.Modu.nD,
      r.2.mem ((c.tc : Thread Cert.Modu.nD Cert.Modu.τ).loc Cert.Modu.main_arg0) = m ((c.tc : Thread Cert.Modu.nD Cert.Modu.τ).loc Cert.Modu.main_arg0)
      ∧ r.2.mem ((c.tc : Thread Cert.Modu.nD Cert.Modu.τ).loc Cert.Modu.main_arg1) = m ((c.tc : Thread Cert.Modu.nD Cert.Modu.τ).loc Cert.Modu.main_arg1)
      ∧ r.2.mem ((c.tc : Thread Cert.Modu.nD Cert.Modu.τ).loc Cert.Modu.main_arg2) = m ((c.tc : Thread Cert.Modu.nD Cert.Modu.τ).loc Cert.Modu.main_arg2))
      ∧ r.2.sem = fun _ => 0)

def quiescent_ModuIdeal [hModuIdeal : Cert.ModuIdeal.Facts] : Prop :=
  ∀ (m : (ℓ : Loc Cert.ModuIdeal.nD Cert.ModuIdeal.τ Cert.ModuIdeal.sig) → Buf (Elt Ideal) ℓ) (g : Dev Cert.ModuIdeal.nD → PrngReg), Pre_ModuIdeal m →
    θ_run (Cert.ModuIdeal.defs (F := Ideal)) (onTc (τ := Cert.ModuIdeal.τ) (Cert.ModuIdeal.main (F := Ideal))) ⟨m, fun _ => 0, g⟩ (fun r => (∀ c : Dev Cert.ModuIdeal.nD,
      r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
      ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
      ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2))
      ∧ r.2.sem = fun _ => 0)

def quiescent_ModuRefIdeal [hModuRefIdeal : Cert.ModuRefIdeal.Facts] : Prop :=
  ∀ (m : (ℓ : Loc Cert.ModuRefIdeal.nD Cert.ModuRefIdeal.τ Cert.ModuRefIdeal.sig) → Buf (Elt Ideal) ℓ) (g : Dev Cert.ModuRefIdeal.nD → PrngReg), Pre_ModuRefIdeal m →
    θ_run (Cert.ModuRefIdeal.defs (F := Ideal)) (onTc (τ := Cert.ModuRefIdeal.τ) (Cert.ModuRefIdeal.main (F := Ideal))) ⟨m, fun _ => 0, g⟩ (fun r => (∀ c : Dev Cert.ModuRefIdeal.nD,
      r.2.mem ((c.tc : Thread Cert.ModuRefIdeal.nD Cert.ModuRefIdeal.τ).loc Cert.ModuRefIdeal.main_arg0) = m ((c.tc : Thread Cert.ModuRefIdeal.nD Cert.ModuRefIdeal.τ).loc Cert.ModuRefIdeal.main_arg0)
      ∧ r.2.mem ((c.tc : Thread Cert.ModuRefIdeal.nD Cert.ModuRefIdeal.τ).loc Cert.ModuRefIdeal.main_arg1) = m ((c.tc : Thread Cert.ModuRefIdeal.nD Cert.ModuRefIdeal.τ).loc Cert.ModuRefIdeal.main_arg1)
      ∧ r.2.mem ((c.tc : Thread Cert.ModuRefIdeal.nD Cert.ModuRefIdeal.τ).loc Cert.ModuRefIdeal.main_arg2) = m ((c.tc : Thread Cert.ModuRefIdeal.nD Cert.ModuRefIdeal.τ).loc Cert.ModuRefIdeal.main_arg2))
      ∧ r.2.sem = fun _ => 0)

def quiescent_Norma [hNorma : Cert.Norma.Facts] : Prop :=
  ∀ (m : (ℓ : Loc Cert.Norma.nD Cert.Norma.τ Cert.Norma.sig) → Buf (Elt Bits) ℓ) (g : Dev Cert.Norma.nD → PrngReg), Pre_Norma m →
    θ_run (Cert.Norma.defs (F := Bits)) (onTc (τ := Cert.Norma.τ) (Cert.Norma.main (F := Bits))) ⟨m, fun _ => 0, g⟩ (fun r => (∀ c : Dev Cert.Norma.nD,
      r.2.mem ((c.tc : Thread Cert.Norma.nD Cert.Norma.τ).loc Cert.Norma.main_arg0) = m ((c.tc : Thread Cert.Norma.nD Cert.Norma.τ).loc Cert.Norma.main_arg0)
      ∧ r.2.mem ((c.tc : Thread Cert.Norma.nD Cert.Norma.τ).loc Cert.Norma.main_arg1) = m ((c.tc : Thread Cert.Norma.nD Cert.Norma.τ).loc Cert.Norma.main_arg1)
      ∧ r.2.mem ((c.tc : Thread Cert.Norma.nD Cert.Norma.τ).loc Cert.Norma.main_arg2) = m ((c.tc : Thread Cert.Norma.nD Cert.Norma.τ).loc Cert.Norma.main_arg2))
      ∧ r.2.sem = fun _ => 0)

def quiescent_NormaIdeal [hNormaIdeal : Cert.NormaIdeal.Facts] : Prop :=
  ∀ (m : (ℓ : Loc Cert.NormaIdeal.nD Cert.NormaIdeal.τ Cert.NormaIdeal.sig) → Buf (Elt Ideal) ℓ) (g : Dev Cert.NormaIdeal.nD → PrngReg), Pre_NormaIdeal m →
    θ_run (Cert.NormaIdeal.defs (F := Ideal)) (onTc (τ := Cert.NormaIdeal.τ) (Cert.NormaIdeal.main (F := Ideal))) ⟨m, fun _ => 0, g⟩ (fun r => (∀ c : Dev Cert.NormaIdeal.nD,
      r.2.mem ((c.tc : Thread Cert.NormaIdeal.nD Cert.NormaIdeal.τ).loc Cert.NormaIdeal.main_arg0) = m ((c.tc : Thread Cert.NormaIdeal.nD Cert.NormaIdeal.τ).loc Cert.NormaIdeal.main_arg0)
      ∧ r.2.mem ((c.tc : Thread Cert.NormaIdeal.nD Cert.NormaIdeal.τ).loc Cert.NormaIdeal.main_arg1) = m ((c.tc : Thread Cert.NormaIdeal.nD Cert.NormaIdeal.τ).loc Cert.NormaIdeal.main_arg1)
      ∧ r.2.mem ((c.tc : Thread Cert.NormaIdeal.nD Cert.NormaIdeal.τ).loc Cert.NormaIdeal.main_arg2) = m ((c.tc : Thread Cert.NormaIdeal.nD Cert.NormaIdeal.τ).loc Cert.NormaIdeal.main_arg2))
      ∧ r.2.sem = fun _ => 0)

def quiescent_NormaRefIdeal [hNormaRefIdeal : Cert.NormaRefIdeal.Facts] : Prop :=
  ∀ (m : (ℓ : Loc Cert.NormaRefIdeal.nD Cert.NormaRefIdeal.τ Cert.NormaRefIdeal.sig) → Buf (Elt Ideal) ℓ) (g : Dev Cert.NormaRefIdeal.nD → PrngReg), Pre_NormaRefIdeal m →
    θ_run (Cert.NormaRefIdeal.defs (F := Ideal)) (onTc (τ := Cert.NormaRefIdeal.τ) (Cert.NormaRefIdeal.main (F := Ideal))) ⟨m, fun _ => 0, g⟩ (fun r => (∀ c : Dev Cert.NormaRefIdeal.nD,
      r.2.mem ((c.tc : Thread Cert.NormaRefIdeal.nD Cert.NormaRefIdeal.τ).loc Cert.NormaRefIdeal.main_arg0) = m ((c.tc : Thread Cert.NormaRefIdeal.nD Cert.NormaRefIdeal.τ).loc Cert.NormaRefIdeal.main_arg0)
      ∧ r.2.mem ((c.tc : Thread Cert.NormaRefIdeal.nD Cert.NormaRefIdeal.τ).loc Cert.NormaRefIdeal.main_arg1) = m ((c.tc : Thread Cert.NormaRefIdeal.nD Cert.NormaRefIdeal.τ).loc Cert.NormaRefIdeal.main_arg1)
      ∧ r.2.mem ((c.tc : Thread Cert.NormaRefIdeal.nD Cert.NormaRefIdeal.τ).loc Cert.NormaRefIdeal.main_arg2) = m ((c.tc : Thread Cert.NormaRefIdeal.nD Cert.NormaRefIdeal.τ).loc Cert.NormaRefIdeal.main_arg2))
      ∧ r.2.sem = fun _ => 0)

def quiescent_Normb [hNormb : Cert.Normb.Facts] : Prop :=
  ∀ (m : (ℓ : Loc Cert.Normb.nD Cert.Normb.τ Cert.Normb.sig) → Buf (Elt Bits) ℓ) (g : Dev Cert.Normb.nD → PrngReg), Pre_Normb m →
    θ_run (Cert.Normb.defs (F := Bits)) (onTc (τ := Cert.Normb.τ) (Cert.Normb.main (F := Bits))) ⟨m, fun _ => 0, g⟩ (fun r => (∀ c : Dev Cert.Normb.nD,
      r.2.mem ((c.tc : Thread Cert.Normb.nD Cert.Normb.τ).loc Cert.Normb.main_arg0) = m ((c.tc : Thread Cert.Normb.nD Cert.Normb.τ).loc Cert.Normb.main_arg0)
      ∧ r.2.mem ((c.tc : Thread Cert.Normb.nD Cert.Normb.τ).loc Cert.Normb.main_arg1) = m ((c.tc : Thread Cert.Normb.nD Cert.Normb.τ).loc Cert.Normb.main_arg1)
      ∧ r.2.mem ((c.tc : Thread Cert.Normb.nD Cert.Normb.τ).loc Cert.Normb.main_arg2) = m ((c.tc : Thread Cert.Normb.nD Cert.Normb.τ).loc Cert.Normb.main_arg2))
      ∧ r.2.sem = fun _ => 0)

def quiescent_NormbIdeal [hNormbIdeal : Cert.NormbIdeal.Facts] : Prop :=
  ∀ (m : (ℓ : Loc Cert.NormbIdeal.nD Cert.NormbIdeal.τ Cert.NormbIdeal.sig) → Buf (Elt Ideal) ℓ) (g : Dev Cert.NormbIdeal.nD → PrngReg), Pre_NormbIdeal m →
    θ_run (Cert.NormbIdeal.defs (F := Ideal)) (onTc (τ := Cert.NormbIdeal.τ) (Cert.NormbIdeal.main (F := Ideal))) ⟨m, fun _ => 0, g⟩ (fun r => (∀ c : Dev Cert.NormbIdeal.nD,
      r.2.mem ((c.tc : Thread Cert.NormbIdeal.nD Cert.NormbIdeal.τ).loc Cert.NormbIdeal.main_arg0) = m ((c.tc : Thread Cert.NormbIdeal.nD Cert.NormbIdeal.τ).loc Cert.NormbIdeal.main_arg0)
      ∧ r.2.mem ((c.tc : Thread Cert.NormbIdeal.nD Cert.NormbIdeal.τ).loc Cert.NormbIdeal.main_arg1) = m ((c.tc : Thread Cert.NormbIdeal.nD Cert.NormbIdeal.τ).loc Cert.NormbIdeal.main_arg1)
      ∧ r.2.mem ((c.tc : Thread Cert.NormbIdeal.nD Cert.NormbIdeal.τ).loc Cert.NormbIdeal.main_arg2) = m ((c.tc : Thread Cert.NormbIdeal.nD Cert.NormbIdeal.τ).loc Cert.NormbIdeal.main_arg2))
      ∧ r.2.sem = fun _ => 0)

def quiescent_NormbRefIdeal [hNormbRefIdeal : Cert.NormbRefIdeal.Facts] : Prop :=
  ∀ (m : (ℓ : Loc Cert.NormbRefIdeal.nD Cert.NormbRefIdeal.τ Cert.NormbRefIdeal.sig) → Buf (Elt Ideal) ℓ) (g : Dev Cert.NormbRefIdeal.nD → PrngReg), Pre_NormbRefIdeal m →
    θ_run (Cert.NormbRefIdeal.defs (F := Ideal)) (onTc (τ := Cert.NormbRefIdeal.τ) (Cert.NormbRefIdeal.main (F := Ideal))) ⟨m, fun _ => 0, g⟩ (fun r => (∀ c : Dev Cert.NormbRefIdeal.nD,
      r.2.mem ((c.tc : Thread Cert.NormbRefIdeal.nD Cert.NormbRefIdeal.τ).loc Cert.NormbRefIdeal.main_arg0) = m ((c.tc : Thread Cert.NormbRefIdeal.nD Cert.NormbRefIdeal.τ).loc Cert.NormbRefIdeal.main_arg0)
      ∧ r.2.mem ((c.tc : Thread Cert.NormbRefIdeal.nD Cert.NormbRefIdeal.τ).loc Cert.NormbRefIdeal.main_arg1) = m ((c.tc : Thread Cert.NormbRefIdeal.nD Cert.NormbRefIdeal.τ).loc Cert.NormbRefIdeal.main_arg1)
      ∧ r.2.mem ((c.tc : Thread Cert.NormbRefIdeal.nD Cert.NormbRefIdeal.τ).loc Cert.NormbRefIdeal.main_arg2) = m ((c.tc : Thread Cert.NormbRefIdeal.nD Cert.NormbRefIdeal.τ).loc Cert.NormbRefIdeal.main_arg2))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalRefIdeal [hFinalRefIdeal : Cert.FinalRefIdeal.Facts] : Prop :=
  ∀ (m : (ℓ : Loc Cert.FinalRefIdeal.nD Cert.FinalRefIdeal.τ Cert.FinalRefIdeal.sig) → Buf (Elt Ideal) ℓ) (g : Dev Cert.FinalRefIdeal.nD → PrngReg), Pre_FinalRefIdeal m →
    θ_run (Cert.FinalRefIdeal.defs (F := Ideal)) (onTc (τ := Cert.FinalRefIdeal.τ) (Cert.FinalRefIdeal.main (F := Ideal))) ⟨m, fun _ => 0, g⟩ (fun r => (∀ c : Dev Cert.FinalRefIdeal.nD,
      r.2.mem ((c.tc : Thread Cert.FinalRefIdeal.nD Cert.FinalRefIdeal.τ).loc Cert.FinalRefIdeal.main_arg0) = m ((c.tc : Thread Cert.FinalRefIdeal.nD Cert.FinalRefIdeal.τ).loc Cert.FinalRefIdeal.main_arg0)
      ∧ r.2.mem ((c.tc : Thread Cert.FinalRefIdeal.nD Cert.FinalRefIdeal.τ).loc Cert.FinalRefIdeal.main_arg1) = m ((c.tc : Thread Cert.FinalRefIdeal.nD Cert.FinalRefIdeal.τ).loc Cert.FinalRefIdeal.main_arg1)
      ∧ r.2.mem ((c.tc : Thread Cert.FinalRefIdeal.nD Cert.FinalRefIdeal.τ).loc Cert.FinalRefIdeal.main_arg2) = m ((c.tc : Thread Cert.FinalRefIdeal.nD Cert.FinalRefIdeal.τ).loc Cert.FinalRefIdeal.main_arg2)
      ∧ r.2.mem ((c.tc : Thread Cert.FinalRefIdeal.nD Cert.FinalRefIdeal.τ).loc Cert.FinalRefIdeal.main_arg3) = m ((c.tc : Thread Cert.FinalRefIdeal.nD Cert.FinalRefIdeal.τ).loc Cert.FinalRefIdeal.main_arg3))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3)
      ∧ r.2.mem ((c.tc : Thread Cert.Gla.nD Cert.Gla.τ).loc Cert.Gla.main_arg4) = m ((c.tc : Thread Cert.Gla.nD Cert.Gla.τ).loc Cert.Gla.main_arg4)
      ∧ r.2.mem ((c.tc : Thread Cert.Gla.nD Cert.Gla.τ).loc Cert.Gla.main_arg5) = m ((c.tc : Thread Cert.Gla.nD Cert.Gla.τ).loc Cert.Gla.main_arg5))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3)
      ∧ r.2.mem ((c.tc : Thread Cert.GlaIdeal.nD Cert.GlaIdeal.τ).loc Cert.GlaIdeal.main_arg4) = m ((c.tc : Thread Cert.GlaIdeal.nD Cert.GlaIdeal.τ).loc Cert.GlaIdeal.main_arg4)
      ∧ r.2.mem ((c.tc : Thread Cert.GlaIdeal.nD Cert.GlaIdeal.τ).loc Cert.GlaIdeal.main_arg5) = m ((c.tc : Thread Cert.GlaIdeal.nD Cert.GlaIdeal.τ).loc Cert.GlaIdeal.main_arg5))
      ∧ r.2.sem = fun _ => 0)

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v4) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Gout_GoutIdeal : Prop :=
  True

def algebraic_GoutIdeal_GoutRefIdeal [hGoutIdeal : Cert.GoutIdeal.Facts] [hGoutRefIdeal : Cert.GoutRefIdeal.Facts] : Prop :=
  ∀ (m : (ℓ : Loc Cert.GoutIdeal.nD Cert.GoutIdeal.τ Cert.GoutIdeal.sig) → Buf (Elt Ideal) ℓ) (g : Dev Cert.GoutIdeal.nD → PrngReg)
    (m' : (ℓ : Loc Cert.GoutRefIdeal.nD Cert.GoutRefIdeal.τ Cert.GoutRefIdeal.sig) → Buf (Elt Ideal) ℓ) (g' : Dev Cert.GoutRefIdeal.nD → PrngReg), Pre_GoutIdeal m →
    (∀ c : Dev Cert.GoutIdeal.nD,
      m' ((c.tc : Thread Cert.GoutRefIdeal.nD Cert.GoutRefIdeal.τ).loc Cert.GoutRefIdeal.main_arg0) = m ((c.tc : Thread Cert.GoutIdeal.nD Cert.GoutIdeal.τ).loc Cert.GoutIdeal.main_arg0)
      ∧ m' ((c.tc : Thread Cert.GoutRefIdeal.nD Cert.GoutRefIdeal.τ).loc Cert.GoutRefIdeal.main_arg1) = m ((c.tc : Thread Cert.GoutIdeal.nD Cert.GoutIdeal.τ).loc Cert.GoutIdeal.main_arg1)) →
    ∃ (v0 : (c : Dev Cert.GoutIdeal.nD) → Buf (Elt Ideal) ((c.tc : Thread Cert.GoutIdeal.nD Cert.GoutIdeal.τ).loc Cert.GoutIdeal.main_v2)),
      θ_run (Cert.GoutIdeal.defs (F := Ideal)) (onTc (τ := Cert.GoutIdeal.τ) (Cert.GoutIdeal.main (F := Ideal))) ⟨m, fun _ => 0, g⟩ (fun r => ∀ c : Dev Cert.GoutIdeal.nD,
          r.2.mem ((c.tc : Thread Cert.GoutIdeal.nD Cert.GoutIdeal.τ).loc Cert.GoutIdeal.main_v2) = v0 c
          ∧ r.2.mem ((c.tc : Thread Cert.GoutIdeal.nD Cert.GoutIdeal.τ).loc Cert.GoutIdeal.main_arg0) = m ((c.tc : Thread Cert.GoutIdeal.nD Cert.GoutIdeal.τ).loc Cert.GoutIdeal.main_arg0)
          ∧ r.2.mem ((c.tc : Thread Cert.GoutIdeal.nD Cert.GoutIdeal.τ).loc Cert.GoutIdeal.main_arg1) = m ((c.tc : Thread Cert.GoutIdeal.nD Cert.GoutIdeal.τ).loc Cert.GoutIdeal.main_arg1))
      ∧ θ_run (Cert.GoutRefIdeal.defs (F := Ideal)) (onTc (τ := Cert.GoutRefIdeal.τ) (Cert.GoutRefIdeal.main (F := Ideal))) ⟨m', fun _ => 0, g'⟩ (fun r => ∀ c : Dev Cert.GoutRefIdeal.nD,
          r.2.mem ((c.tc : Thread Cert.GoutRefIdeal.nD Cert.GoutRefIdeal.τ).loc Cert.GoutRefIdeal.main_v4) = v0 c
          ∧ r.2.mem ((c.tc : Thread Cert.GoutRefIdeal.nD Cert.GoutRefIdeal.τ).loc Cert.GoutRefIdeal.main_arg0) = m' ((c.tc : Thread Cert.GoutRefIdeal.nD Cert.GoutRefIdeal.τ).loc Cert.GoutRefIdeal.main_arg0)
          ∧ r.2.mem ((c.tc : Thread Cert.GoutRefIdeal.nD Cert.GoutRefIdeal.τ).loc Cert.GoutRefIdeal.main_arg1) = m' ((c.tc : Thread Cert.GoutRefIdeal.nD Cert.GoutRefIdeal.τ).loc Cert.GoutRefIdeal.main_arg1))

def preserves_Glow_GlowIdeal : Prop :=
  True

def algebraic_GlowIdeal_GlowRefIdeal [hGlowIdeal : Cert.GlowIdeal.Facts] [hGlowRefIdeal : Cert.GlowRefIdeal.Facts] : Prop :=
  ∀ (m : (ℓ : Loc Cert.GlowIdeal.nD Cert.GlowIdeal.τ Cert.GlowIdeal.sig) → Buf (Elt Ideal) ℓ) (g : Dev Cert.GlowIdeal.nD → PrngReg)
    (m' : (ℓ : Loc Cert.GlowRefIdeal.nD Cert.GlowRefIdeal.τ Cert.GlowRefIdeal.sig) → Buf (Elt Ideal) ℓ) (g' : Dev Cert.GlowRefIdeal.nD → PrngReg), Pre_GlowIdeal m →
    (∀ c : Dev Cert.GlowIdeal.nD,
      m' ((c.tc : Thread Cert.GlowRefIdeal.nD Cert.GlowRefIdeal.τ).loc Cert.GlowRefIdeal.main_arg0) = m ((c.tc : Thread Cert.GlowIdeal.nD Cert.GlowIdeal.τ).loc Cert.GlowIdeal.main_arg0)
      ∧ m' ((c.tc : Thread Cert.GlowRefIdeal.nD Cert.GlowRefIdeal.τ).loc Cert.GlowRefIdeal.main_arg1) = m ((c.tc : Thread Cert.GlowIdeal.nD Cert.GlowIdeal.τ).loc Cert.GlowIdeal.main_arg1)) →
    ∃ (v0 : (c : Dev Cert.GlowIdeal.nD) → Buf (Elt Ideal) ((c.tc : Thread Cert.GlowIdeal.nD Cert.GlowIdeal.τ).loc Cert.GlowIdeal.main_v2)),
      θ_run (Cert.GlowIdeal.defs (F := Ideal)) (onTc (τ := Cert.GlowIdeal.τ) (Cert.GlowIdeal.main (F := Ideal))) ⟨m, fun _ => 0, g⟩ (fun r => ∀ c : Dev Cert.GlowIdeal.nD,
          r.2.mem ((c.tc : Thread Cert.GlowIdeal.nD Cert.GlowIdeal.τ).loc Cert.GlowIdeal.main_v2) = v0 c
          ∧ r.2.mem ((c.tc : Thread Cert.GlowIdeal.nD Cert.GlowIdeal.τ).loc Cert.GlowIdeal.main_arg0) = m ((c.tc : Thread Cert.GlowIdeal.nD Cert.GlowIdeal.τ).loc Cert.GlowIdeal.main_arg0)
          ∧ r.2.mem ((c.tc : Thread Cert.GlowIdeal.nD Cert.GlowIdeal.τ).loc Cert.GlowIdeal.main_arg1) = m ((c.tc : Thread Cert.GlowIdeal.nD Cert.GlowIdeal.τ).loc Cert.GlowIdeal.main_arg1))
      ∧ θ_run (Cert.GlowRefIdeal.defs (F := Ideal)) (onTc (τ := Cert.GlowRefIdeal.τ) (Cert.GlowRefIdeal.main (F := Ideal))) ⟨m', fun _ => 0, g'⟩ (fun r => ∀ c : Dev Cert.GlowRefIdeal.nD,
          r.2.mem ((c.tc : Thread Cert.GlowRefIdeal.nD Cert.GlowRefIdeal.τ).loc Cert.GlowRefIdeal.main_v3) = v0 c
          ∧ r.2.mem ((c.tc : Thread Cert.GlowRefIdeal.nD Cert.GlowRefIdeal.τ).loc Cert.GlowRefIdeal.main_arg0) = m' ((c.tc : Thread Cert.GlowRefIdeal.nD Cert.GlowRefIdeal.τ).loc Cert.GlowRefIdeal.main_arg0)
          ∧ r.2.mem ((c.tc : Thread Cert.GlowRefIdeal.nD Cert.GlowRefIdeal.τ).loc Cert.GlowRefIdeal.main_arg1) = m' ((c.tc : Thread Cert.GlowRefIdeal.nD Cert.GlowRefIdeal.τ).loc Cert.GlowRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v15) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Pq_PqIdeal : Prop :=
  True

def algebraic_PqIdeal_PqRefIdeal [hPqIdeal : Cert.PqIdeal.Facts] [hPqRefIdeal : Cert.PqRefIdeal.Facts] : Prop :=
  ∀ (m : (ℓ : Loc Cert.PqIdeal.nD Cert.PqIdeal.τ Cert.PqIdeal.sig) → Buf (Elt Ideal) ℓ) (g : Dev Cert.PqIdeal.nD → PrngReg)
    (m' : (ℓ : Loc Cert.PqRefIdeal.nD Cert.PqRefIdeal.τ Cert.PqRefIdeal.sig) → Buf (Elt Ideal) ℓ) (g' : Dev Cert.PqRefIdeal.nD → PrngReg), Pre_PqIdeal m →
    (∀ c : Dev Cert.PqIdeal.nD,
      m' ((c.tc : Thread Cert.PqRefIdeal.nD Cert.PqRefIdeal.τ).loc Cert.PqRefIdeal.main_arg0) = m ((c.tc : Thread Cert.PqIdeal.nD Cert.PqIdeal.τ).loc Cert.PqIdeal.main_arg0)
      ∧ m' ((c.tc : Thread Cert.PqRefIdeal.nD Cert.PqRefIdeal.τ).loc Cert.PqRefIdeal.main_arg1) = m ((c.tc : Thread Cert.PqIdeal.nD Cert.PqIdeal.τ).loc Cert.PqIdeal.main_arg1)) →
    ∃ (v0 : (c : Dev Cert.PqIdeal.nD) → Buf (Elt Ideal) ((c.tc : Thread Cert.PqIdeal.nD Cert.PqIdeal.τ).loc Cert.PqIdeal.main_v1)),
      θ_run (Cert.PqIdeal.defs (F := Ideal)) (onTc (τ := Cert.PqIdeal.τ) (Cert.PqIdeal.main (F := Ideal))) ⟨m, fun _ => 0, g⟩ (fun r => ∀ c : Dev Cert.PqIdeal.nD,
          r.2.mem ((c.tc : Thread Cert.PqIdeal.nD Cert.PqIdeal.τ).loc Cert.PqIdeal.main_v1) = v0 c
          ∧ r.2.mem ((c.tc : Thread Cert.PqIdeal.nD Cert.PqIdeal.τ).loc Cert.PqIdeal.main_arg0) = m ((c.tc : Thread Cert.PqIdeal.nD Cert.PqIdeal.τ).loc Cert.PqIdeal.main_arg0)
          ∧ r.2.mem ((c.tc : Thread Cert.PqIdeal.nD Cert.PqIdeal.τ).loc Cert.PqIdeal.main_arg1) = m ((c.tc : Thread Cert.PqIdeal.nD Cert.PqIdeal.τ).loc Cert.PqIdeal.main_arg1))
      ∧ θ_run (Cert.PqRefIdeal.defs (F := Ideal)) (onTc (τ := Cert.PqRefIdeal.τ) (Cert.PqRefIdeal.main (F := Ideal))) ⟨m', fun _ => 0, g'⟩ (fun r => ∀ c : Dev Cert.PqRefIdeal.nD,
          r.2.mem ((c.tc : Thread Cert.PqRefIdeal.nD Cert.PqRefIdeal.τ).loc Cert.PqRefIdeal.main_v2) = v0 c
          ∧ r.2.mem ((c.tc : Thread Cert.PqRefIdeal.nD Cert.PqRefIdeal.τ).loc Cert.PqRefIdeal.main_arg0) = m' ((c.tc : Thread Cert.PqRefIdeal.nD Cert.PqRefIdeal.τ).loc Cert.PqRefIdeal.main_arg0)
          ∧ r.2.mem ((c.tc : Thread Cert.PqRefIdeal.nD Cert.PqRefIdeal.τ).loc Cert.PqRefIdeal.main_arg1) = m' ((c.tc : Thread Cert.PqRefIdeal.nD Cert.PqRefIdeal.τ).loc Cert.PqRefIdeal.main_arg1))

def preserves_Attn_AttnIdeal : Prop :=
  IdealRules.named_const.Statement Cert.AttnIdeal.κ "mask" .f32 0xF149F2CA#32 ⊥

def algebraic_AttnIdeal_AttnRefIdeal_pre_finite_inputs [hAttnIdeal : Cert.AttnIdeal.Facts] [hAttnRefIdeal : Cert.AttnRefIdeal.Facts] [hPre_finite_inputs : Cert.Pre_finite_inputs.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_inputs m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)) →
    ∃ (v0 : (c : Dev Cert.AttnIdeal.nD) → Buf (Elt Ideal) ((c.tc : Thread Cert.AttnIdeal.nD Cert.AttnIdeal.τ).loc Cert.AttnIdeal.main_v38)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v38) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v106) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2))

def preserves_Modu_ModuIdeal : Prop :=
  True

def algebraic_ModuIdeal_ModuRefIdeal [hModuIdeal : Cert.ModuIdeal.Facts] [hModuRefIdeal : Cert.ModuRefIdeal.Facts] : Prop :=
  ∀ (m : (ℓ : Loc Cert.ModuIdeal.nD Cert.ModuIdeal.τ Cert.ModuIdeal.sig) → Buf (Elt Ideal) ℓ) (g : Dev Cert.ModuIdeal.nD → PrngReg)
    (m' : (ℓ : Loc Cert.ModuRefIdeal.nD Cert.ModuRefIdeal.τ Cert.ModuRefIdeal.sig) → Buf (Elt Ideal) ℓ) (g' : Dev Cert.ModuRefIdeal.nD → PrngReg), Pre_ModuIdeal m →
    (∀ c : Dev Cert.ModuIdeal.nD,
      m' ((c.tc : Thread Cert.ModuRefIdeal.nD Cert.ModuRefIdeal.τ).loc Cert.ModuRefIdeal.main_arg0) = m ((c.tc : Thread Cert.ModuIdeal.nD Cert.ModuIdeal.τ).loc Cert.ModuIdeal.main_arg0)
      ∧ m' ((c.tc : Thread Cert.ModuRefIdeal.nD Cert.ModuRefIdeal.τ).loc Cert.ModuRefIdeal.main_arg1) = m ((c.tc : Thread Cert.ModuIdeal.nD Cert.ModuIdeal.τ).loc Cert.ModuIdeal.main_arg1)
      ∧ m' ((c.tc : Thread Cert.ModuRefIdeal.nD Cert.ModuRefIdeal.τ).loc Cert.ModuRefIdeal.main_arg2) = m ((c.tc : Thread Cert.ModuIdeal.nD Cert.ModuIdeal.τ).loc Cert.ModuIdeal.main_arg2)) →
    ∃ (v0 : (c : Dev Cert.ModuIdeal.nD) → Buf (Elt Ideal) ((c.tc : Thread Cert.ModuIdeal.nD Cert.ModuIdeal.τ).loc Cert.ModuIdeal.main_v3)),
      θ_run (Cert.ModuIdeal.defs (F := Ideal)) (onTc (τ := Cert.ModuIdeal.τ) (Cert.ModuIdeal.main (F := Ideal))) ⟨m, fun _ => 0, g⟩ (fun r => ∀ c : Dev Cert.ModuIdeal.nD,
          r.2.mem ((c.tc : Thread Cert.ModuIdeal.nD Cert.ModuIdeal.τ).loc Cert.ModuIdeal.main_v3) = v0 c
          ∧ r.2.mem ((c.tc : Thread Cert.ModuIdeal.nD Cert.ModuIdeal.τ).loc Cert.ModuIdeal.main_arg0) = m ((c.tc : Thread Cert.ModuIdeal.nD Cert.ModuIdeal.τ).loc Cert.ModuIdeal.main_arg0)
          ∧ r.2.mem ((c.tc : Thread Cert.ModuIdeal.nD Cert.ModuIdeal.τ).loc Cert.ModuIdeal.main_arg1) = m ((c.tc : Thread Cert.ModuIdeal.nD Cert.ModuIdeal.τ).loc Cert.ModuIdeal.main_arg1)
          ∧ r.2.mem ((c.tc : Thread Cert.ModuIdeal.nD Cert.ModuIdeal.τ).loc Cert.ModuIdeal.main_arg2) = m ((c.tc : Thread Cert.ModuIdeal.nD Cert.ModuIdeal.τ).loc Cert.ModuIdeal.main_arg2))
      ∧ θ_run (Cert.ModuRefIdeal.defs (F := Ideal)) (onTc (τ := Cert.ModuRefIdeal.τ) (Cert.ModuRefIdeal.main (F := Ideal))) ⟨m', fun _ => 0, g'⟩ (fun r => ∀ c : Dev Cert.ModuRefIdeal.nD,
          r.2.mem ((c.tc : Thread Cert.ModuRefIdeal.nD Cert.ModuRefIdeal.τ).loc Cert.ModuRefIdeal.main_v6) = v0 c
          ∧ r.2.mem ((c.tc : Thread Cert.ModuRefIdeal.nD Cert.ModuRefIdeal.τ).loc Cert.ModuRefIdeal.main_arg0) = m' ((c.tc : Thread Cert.ModuRefIdeal.nD Cert.ModuRefIdeal.τ).loc Cert.ModuRefIdeal.main_arg0)
          ∧ r.2.mem ((c.tc : Thread Cert.ModuRefIdeal.nD Cert.ModuRefIdeal.τ).loc Cert.ModuRefIdeal.main_arg1) = m' ((c.tc : Thread Cert.ModuRefIdeal.nD Cert.ModuRefIdeal.τ).loc Cert.ModuRefIdeal.main_arg1)
          ∧ r.2.mem ((c.tc : Thread Cert.ModuRefIdeal.nD Cert.ModuRefIdeal.τ).loc Cert.ModuRefIdeal.main_arg2) = m' ((c.tc : Thread Cert.ModuRefIdeal.nD Cert.ModuRefIdeal.τ).loc Cert.ModuRefIdeal.main_arg2))

def preserves_Norma_NormaIdeal : Prop :=
  True

def algebraic_NormaIdeal_NormaRefIdeal [hNormaIdeal : Cert.NormaIdeal.Facts] [hNormaRefIdeal : Cert.NormaRefIdeal.Facts] : Prop :=
  ∀ (m : (ℓ : Loc Cert.NormaIdeal.nD Cert.NormaIdeal.τ Cert.NormaIdeal.sig) → Buf (Elt Ideal) ℓ) (g : Dev Cert.NormaIdeal.nD → PrngReg)
    (m' : (ℓ : Loc Cert.NormaRefIdeal.nD Cert.NormaRefIdeal.τ Cert.NormaRefIdeal.sig) → Buf (Elt Ideal) ℓ) (g' : Dev Cert.NormaRefIdeal.nD → PrngReg), Pre_NormaIdeal m →
    (∀ c : Dev Cert.NormaIdeal.nD,
      m' ((c.tc : Thread Cert.NormaRefIdeal.nD Cert.NormaRefIdeal.τ).loc Cert.NormaRefIdeal.main_arg0) = m ((c.tc : Thread Cert.NormaIdeal.nD Cert.NormaIdeal.τ).loc Cert.NormaIdeal.main_arg0)
      ∧ m' ((c.tc : Thread Cert.NormaRefIdeal.nD Cert.NormaRefIdeal.τ).loc Cert.NormaRefIdeal.main_arg1) = m ((c.tc : Thread Cert.NormaIdeal.nD Cert.NormaIdeal.τ).loc Cert.NormaIdeal.main_arg1)
      ∧ m' ((c.tc : Thread Cert.NormaRefIdeal.nD Cert.NormaRefIdeal.τ).loc Cert.NormaRefIdeal.main_arg2) = m ((c.tc : Thread Cert.NormaIdeal.nD Cert.NormaIdeal.τ).loc Cert.NormaIdeal.main_arg2)) →
    ∃ (v0 : (c : Dev Cert.NormaIdeal.nD) → Buf (Elt Ideal) ((c.tc : Thread Cert.NormaIdeal.nD Cert.NormaIdeal.τ).loc Cert.NormaIdeal.main_v4)),
      θ_run (Cert.NormaIdeal.defs (F := Ideal)) (onTc (τ := Cert.NormaIdeal.τ) (Cert.NormaIdeal.main (F := Ideal))) ⟨m, fun _ => 0, g⟩ (fun r => ∀ c : Dev Cert.NormaIdeal.nD,
          r.2.mem ((c.tc : Thread Cert.NormaIdeal.nD Cert.NormaIdeal.τ).loc Cert.NormaIdeal.main_v4) = v0 c
          ∧ r.2.mem ((c.tc : Thread Cert.NormaIdeal.nD Cert.NormaIdeal.τ).loc Cert.NormaIdeal.main_arg0) = m ((c.tc : Thread Cert.NormaIdeal.nD Cert.NormaIdeal.τ).loc Cert.NormaIdeal.main_arg0)
          ∧ r.2.mem ((c.tc : Thread Cert.NormaIdeal.nD Cert.NormaIdeal.τ).loc Cert.NormaIdeal.main_arg1) = m ((c.tc : Thread Cert.NormaIdeal.nD Cert.NormaIdeal.τ).loc Cert.NormaIdeal.main_arg1)
          ∧ r.2.mem ((c.tc : Thread Cert.NormaIdeal.nD Cert.NormaIdeal.τ).loc Cert.NormaIdeal.main_arg2) = m ((c.tc : Thread Cert.NormaIdeal.nD Cert.NormaIdeal.τ).loc Cert.NormaIdeal.main_arg2))
      ∧ θ_run (Cert.NormaRefIdeal.defs (F := Ideal)) (onTc (τ := Cert.NormaRefIdeal.τ) (Cert.NormaRefIdeal.main (F := Ideal))) ⟨m', fun _ => 0, g'⟩ (fun r => ∀ c : Dev Cert.NormaRefIdeal.nD,
          r.2.mem ((c.tc : Thread Cert.NormaRefIdeal.nD Cert.NormaRefIdeal.τ).loc Cert.NormaRefIdeal.main_v28) = v0 c
          ∧ r.2.mem ((c.tc : Thread Cert.NormaRefIdeal.nD Cert.NormaRefIdeal.τ).loc Cert.NormaRefIdeal.main_arg0) = m' ((c.tc : Thread Cert.NormaRefIdeal.nD Cert.NormaRefIdeal.τ).loc Cert.NormaRefIdeal.main_arg0)
          ∧ r.2.mem ((c.tc : Thread Cert.NormaRefIdeal.nD Cert.NormaRefIdeal.τ).loc Cert.NormaRefIdeal.main_arg1) = m' ((c.tc : Thread Cert.NormaRefIdeal.nD Cert.NormaRefIdeal.τ).loc Cert.NormaRefIdeal.main_arg1)
          ∧ r.2.mem ((c.tc : Thread Cert.NormaRefIdeal.nD Cert.NormaRefIdeal.τ).loc Cert.NormaRefIdeal.main_arg2) = m' ((c.tc : Thread Cert.NormaRefIdeal.nD Cert.NormaRefIdeal.τ).loc Cert.NormaRefIdeal.main_arg2))

def preserves_Normb_NormbIdeal : Prop :=
  True

def algebraic_NormbIdeal_NormbRefIdeal [hNormbIdeal : Cert.NormbIdeal.Facts] [hNormbRefIdeal : Cert.NormbRefIdeal.Facts] : Prop :=
  ∀ (m : (ℓ : Loc Cert.NormbIdeal.nD Cert.NormbIdeal.τ Cert.NormbIdeal.sig) → Buf (Elt Ideal) ℓ) (g : Dev Cert.NormbIdeal.nD → PrngReg)
    (m' : (ℓ : Loc Cert.NormbRefIdeal.nD Cert.NormbRefIdeal.τ Cert.NormbRefIdeal.sig) → Buf (Elt Ideal) ℓ) (g' : Dev Cert.NormbRefIdeal.nD → PrngReg), Pre_NormbIdeal m →
    (∀ c : Dev Cert.NormbIdeal.nD,
      m' ((c.tc : Thread Cert.NormbRefIdeal.nD Cert.NormbRefIdeal.τ).loc Cert.NormbRefIdeal.main_arg0) = m ((c.tc : Thread Cert.NormbIdeal.nD Cert.NormbIdeal.τ).loc Cert.NormbIdeal.main_arg0)
      ∧ m' ((c.tc : Thread Cert.NormbRefIdeal.nD Cert.NormbRefIdeal.τ).loc Cert.NormbRefIdeal.main_arg1) = m ((c.tc : Thread Cert.NormbIdeal.nD Cert.NormbIdeal.τ).loc Cert.NormbIdeal.main_arg1)
      ∧ m' ((c.tc : Thread Cert.NormbRefIdeal.nD Cert.NormbRefIdeal.τ).loc Cert.NormbRefIdeal.main_arg2) = m ((c.tc : Thread Cert.NormbIdeal.nD Cert.NormbIdeal.τ).loc Cert.NormbIdeal.main_arg2)) →
    ∃ (v0 : (c : Dev Cert.NormbIdeal.nD) → Buf (Elt Ideal) ((c.tc : Thread Cert.NormbIdeal.nD Cert.NormbIdeal.τ).loc Cert.NormbIdeal.main_v3)),
      θ_run (Cert.NormbIdeal.defs (F := Ideal)) (onTc (τ := Cert.NormbIdeal.τ) (Cert.NormbIdeal.main (F := Ideal))) ⟨m, fun _ => 0, g⟩ (fun r => ∀ c : Dev Cert.NormbIdeal.nD,
          r.2.mem ((c.tc : Thread Cert.NormbIdeal.nD Cert.NormbIdeal.τ).loc Cert.NormbIdeal.main_v3) = v0 c
          ∧ r.2.mem ((c.tc : Thread Cert.NormbIdeal.nD Cert.NormbIdeal.τ).loc Cert.NormbIdeal.main_arg0) = m ((c.tc : Thread Cert.NormbIdeal.nD Cert.NormbIdeal.τ).loc Cert.NormbIdeal.main_arg0)
          ∧ r.2.mem ((c.tc : Thread Cert.NormbIdeal.nD Cert.NormbIdeal.τ).loc Cert.NormbIdeal.main_arg1) = m ((c.tc : Thread Cert.NormbIdeal.nD Cert.NormbIdeal.τ).loc Cert.NormbIdeal.main_arg1)
          ∧ r.2.mem ((c.tc : Thread Cert.NormbIdeal.nD Cert.NormbIdeal.τ).loc Cert.NormbIdeal.main_arg2) = m ((c.tc : Thread Cert.NormbIdeal.nD Cert.NormbIdeal.τ).loc Cert.NormbIdeal.main_arg2))
      ∧ θ_run (Cert.NormbRefIdeal.defs (F := Ideal)) (onTc (τ := Cert.NormbRefIdeal.τ) (Cert.NormbRefIdeal.main (F := Ideal))) ⟨m', fun _ => 0, g'⟩ (fun r => ∀ c : Dev Cert.NormbRefIdeal.nD,
          r.2.mem ((c.tc : Thread Cert.NormbRefIdeal.nD Cert.NormbRefIdeal.τ).loc Cert.NormbRefIdeal.main_v29) = v0 c
          ∧ r.2.mem ((c.tc : Thread Cert.NormbRefIdeal.nD Cert.NormbRefIdeal.τ).loc Cert.NormbRefIdeal.main_arg0) = m' ((c.tc : Thread Cert.NormbRefIdeal.nD Cert.NormbRefIdeal.τ).loc Cert.NormbRefIdeal.main_arg0)
          ∧ r.2.mem ((c.tc : Thread Cert.NormbRefIdeal.nD Cert.NormbRefIdeal.τ).loc Cert.NormbRefIdeal.main_arg1) = m' ((c.tc : Thread Cert.NormbRefIdeal.nD Cert.NormbRefIdeal.τ).loc Cert.NormbRefIdeal.main_arg1)
          ∧ r.2.mem ((c.tc : Thread Cert.NormbRefIdeal.nD Cert.NormbRefIdeal.τ).loc Cert.NormbRefIdeal.main_arg2) = m' ((c.tc : Thread Cert.NormbRefIdeal.nD Cert.NormbRefIdeal.τ).loc Cert.NormbRefIdeal.main_arg2))

def preserves_Final_FinalIdeal : Prop :=
  True

def algebraic_FinalIdeal_FinalRefIdeal [hFinalIdeal : Cert.FinalIdeal.Facts] [hFinalRefIdeal : Cert.FinalRefIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalRefIdeal.nD Cert.FinalRefIdeal.τ Cert.FinalRefIdeal.sig) → Buf (Elt Ideal) ℓ) (g' : Dev Cert.FinalRefIdeal.nD → PrngReg), Pre_FinalIdeal m →
    (∀ c : Dev Cert.FinalIdeal.nD,
      m' ((c.tc : Thread Cert.FinalRefIdeal.nD Cert.FinalRefIdeal.τ).loc Cert.FinalRefIdeal.main_arg0) = m ((c.tc : Thread Cert.FinalIdeal.nD Cert.FinalIdeal.τ).loc Cert.FinalIdeal.main_arg0)
      ∧ m' ((c.tc : Thread Cert.FinalRefIdeal.nD Cert.FinalRefIdeal.τ).loc Cert.FinalRefIdeal.main_arg1) = m ((c.tc : Thread Cert.FinalIdeal.nD Cert.FinalIdeal.τ).loc Cert.FinalIdeal.main_arg1)
      ∧ m' ((c.tc : Thread Cert.FinalRefIdeal.nD Cert.FinalRefIdeal.τ).loc Cert.FinalRefIdeal.main_arg2) = m ((c.tc : Thread Cert.FinalIdeal.nD Cert.FinalIdeal.τ).loc Cert.FinalIdeal.main_arg2)
      ∧ m' ((c.tc : Thread Cert.FinalRefIdeal.nD Cert.FinalRefIdeal.τ).loc Cert.FinalRefIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalRefIdeal.defs (F := Ideal)) (onTc (τ := Cert.FinalRefIdeal.τ) (Cert.FinalRefIdeal.main (F := Ideal))) ⟨m', fun _ => 0, g'⟩ (fun r => ∀ c : Dev Cert.FinalRefIdeal.nD,
          r.2.mem ((c.tc : Thread Cert.FinalRefIdeal.nD Cert.FinalRefIdeal.τ).loc Cert.FinalRefIdeal.main_v27) = v0 c
          ∧ r.2.mem ((c.tc : Thread Cert.FinalRefIdeal.nD Cert.FinalRefIdeal.τ).loc Cert.FinalRefIdeal.main_arg0) = m' ((c.tc : Thread Cert.FinalRefIdeal.nD Cert.FinalRefIdeal.τ).loc Cert.FinalRefIdeal.main_arg0)
          ∧ r.2.mem ((c.tc : Thread Cert.FinalRefIdeal.nD Cert.FinalRefIdeal.τ).loc Cert.FinalRefIdeal.main_arg1) = m' ((c.tc : Thread Cert.FinalRefIdeal.nD Cert.FinalRefIdeal.τ).loc Cert.FinalRefIdeal.main_arg1)
          ∧ r.2.mem ((c.tc : Thread Cert.FinalRefIdeal.nD Cert.FinalRefIdeal.τ).loc Cert.FinalRefIdeal.main_arg2) = m' ((c.tc : Thread Cert.FinalRefIdeal.nD Cert.FinalRefIdeal.τ).loc Cert.FinalRefIdeal.main_arg2)
          ∧ r.2.mem ((c.tc : Thread Cert.FinalRefIdeal.nD Cert.FinalRefIdeal.τ).loc Cert.FinalRefIdeal.main_arg3) = m' ((c.tc : Thread Cert.FinalRefIdeal.nD Cert.FinalRefIdeal.τ).loc Cert.FinalRefIdeal.main_arg3))

def preserves_Gla_GlaIdeal : Prop :=
  True

def Claim : Prop :=
  ∃ (hIn : Cert.In.Facts) (hInIdeal : Cert.InIdeal.Facts) (hInRefIdeal : Cert.InRefIdeal.Facts) (hGout : Cert.Gout.Facts) (hGoutIdeal : Cert.GoutIdeal.Facts) (hGoutRefIdeal : Cert.GoutRefIdeal.Facts) (hGlow : Cert.Glow.Facts) (hGlowIdeal : Cert.GlowIdeal.Facts) (hGlowRefIdeal : Cert.GlowRefIdeal.Facts) (hOut : Cert.Out.Facts) (hOutIdeal : Cert.OutIdeal.Facts) (hOutRefIdeal : Cert.OutRefIdeal.Facts) (hPq : Cert.Pq.Facts) (hPqIdeal : Cert.PqIdeal.Facts) (hPqRefIdeal : Cert.PqRefIdeal.Facts) (hAttn : Cert.Attn.Facts) (hAttnIdeal : Cert.AttnIdeal.Facts) (hAttnRefIdeal : Cert.AttnRefIdeal.Facts) (hModu : Cert.Modu.Facts) (hModuIdeal : Cert.ModuIdeal.Facts) (hModuRefIdeal : Cert.ModuRefIdeal.Facts) (hNorma : Cert.Norma.Facts) (hNormaIdeal : Cert.NormaIdeal.Facts) (hNormaRefIdeal : Cert.NormaRefIdeal.Facts) (hNormb : Cert.Normb.Facts) (hNormbIdeal : Cert.NormbIdeal.Facts) (hNormbRefIdeal : Cert.NormbRefIdeal.Facts) (hFinal : Cert.Final.Facts) (hFinalIdeal : Cert.FinalIdeal.Facts) (hFinalRefIdeal : Cert.FinalRefIdeal.Facts) (hGla : Cert.Gla.Facts) (hGlaIdeal : Cert.GlaIdeal.Facts) (hPre_finite_inputs : Cert.Pre_finite_inputs.Facts),
    quiescent_In (hIn := hIn)
    ∧ quiescent_InIdeal (hInIdeal := hInIdeal)
    ∧ quiescent_InRefIdeal (hInRefIdeal := hInRefIdeal)
    ∧ quiescent_Gout (hGout := hGout)
    ∧ quiescent_GoutIdeal (hGoutIdeal := hGoutIdeal)
    ∧ quiescent_GoutRefIdeal (hGoutRefIdeal := hGoutRefIdeal)
    ∧ quiescent_Glow (hGlow := hGlow)
    ∧ quiescent_GlowIdeal (hGlowIdeal := hGlowIdeal)
    ∧ quiescent_GlowRefIdeal (hGlowRefIdeal := hGlowRefIdeal)
    ∧ quiescent_Out (hOut := hOut)
    ∧ quiescent_OutIdeal (hOutIdeal := hOutIdeal)
    ∧ quiescent_OutRefIdeal (hOutRefIdeal := hOutRefIdeal)
    ∧ quiescent_Pq (hPq := hPq)
    ∧ quiescent_PqIdeal (hPqIdeal := hPqIdeal)
    ∧ quiescent_PqRefIdeal (hPqRefIdeal := hPqRefIdeal)
    ∧ quiescent_Attn (hAttn := hAttn)
    ∧ quiescent_AttnIdeal (hAttnIdeal := hAttnIdeal)
    ∧ quiescent_AttnIdeal_pre_finite_inputs (hAttnIdeal := hAttnIdeal) (hPre_finite_inputs := hPre_finite_inputs)
    ∧ quiescent_AttnRefIdeal (hAttnRefIdeal := hAttnRefIdeal)
    ∧ quiescent_AttnRefIdeal_pre_finite_inputs (hAttnRefIdeal := hAttnRefIdeal) (hPre_finite_inputs := hPre_finite_inputs)
    ∧ quiescent_Modu (hModu := hModu)
    ∧ quiescent_ModuIdeal (hModuIdeal := hModuIdeal)
    ∧ quiescent_ModuRefIdeal (hModuRefIdeal := hModuRefIdeal)
    ∧ quiescent_Norma (hNorma := hNorma)
    ∧ quiescent_NormaIdeal (hNormaIdeal := hNormaIdeal)
    ∧ quiescent_NormaRefIdeal (hNormaRefIdeal := hNormaRefIdeal)
    ∧ quiescent_Normb (hNormb := hNormb)
    ∧ quiescent_NormbIdeal (hNormbIdeal := hNormbIdeal)
    ∧ quiescent_NormbRefIdeal (hNormbRefIdeal := hNormbRefIdeal)
    ∧ quiescent_Final (hFinal := hFinal)
    ∧ quiescent_FinalIdeal (hFinalIdeal := hFinalIdeal)
    ∧ quiescent_FinalRefIdeal (hFinalRefIdeal := hFinalRefIdeal)
    ∧ quiescent_Gla (hGla := hGla)
    ∧ quiescent_GlaIdeal (hGlaIdeal := hGlaIdeal)
    ∧ preserves_In_InIdeal
    ∧ algebraic_InIdeal_InRefIdeal (hInIdeal := hInIdeal) (hInRefIdeal := hInRefIdeal)
    ∧ preserves_Gout_GoutIdeal
    ∧ algebraic_GoutIdeal_GoutRefIdeal (hGoutIdeal := hGoutIdeal) (hGoutRefIdeal := hGoutRefIdeal)
    ∧ preserves_Glow_GlowIdeal
    ∧ algebraic_GlowIdeal_GlowRefIdeal (hGlowIdeal := hGlowIdeal) (hGlowRefIdeal := hGlowRefIdeal)
    ∧ preserves_Out_OutIdeal
    ∧ algebraic_OutIdeal_OutRefIdeal (hOutIdeal := hOutIdeal) (hOutRefIdeal := hOutRefIdeal)
    ∧ preserves_Pq_PqIdeal
    ∧ algebraic_PqIdeal_PqRefIdeal (hPqIdeal := hPqIdeal) (hPqRefIdeal := hPqRefIdeal)
    ∧ preserves_Attn_AttnIdeal
    ∧ algebraic_AttnIdeal_AttnRefIdeal_pre_finite_inputs (hAttnIdeal := hAttnIdeal) (hAttnRefIdeal := hAttnRefIdeal) (hPre_finite_inputs := hPre_finite_inputs)
    ∧ preserves_Modu_ModuIdeal
    ∧ algebraic_ModuIdeal_ModuRefIdeal (hModuIdeal := hModuIdeal) (hModuRefIdeal := hModuRefIdeal)
    ∧ preserves_Norma_NormaIdeal
    ∧ algebraic_NormaIdeal_NormaRefIdeal (hNormaIdeal := hNormaIdeal) (hNormaRefIdeal := hNormaRefIdeal)
    ∧ preserves_Normb_NormbIdeal
    ∧ algebraic_NormbIdeal_NormbRefIdeal (hNormbIdeal := hNormbIdeal) (hNormbRefIdeal := hNormbRefIdeal)
    ∧ preserves_Final_FinalIdeal
    ∧ algebraic_FinalIdeal_FinalRefIdeal (hFinalIdeal := hFinalIdeal) (hFinalRefIdeal := hFinalRefIdeal)
    ∧ preserves_Gla_GlaIdeal
-- ==== Pre_finite_inputs.lean ====
abbrev S8192x6656 : Shape := ⟨2, ![8192, 6656]⟩
abbrev S32x16 : Shape := ⟨2, ![32, 16]⟩
abbrev S16 : Shape := ⟨1, ![16]⟩
abbrev S_ : Shape := ⟨0, ![]⟩

class Facts : Prop where
  bitsLt_bf16_f32 : FTy.bits .bf16 < FTy.bits .f32
  bcast_S_S8192x6656 : S_.BroadcastsInDim S8192x6656 (![] : Fin 0 → Fin S8192x6656.rank)
  bcast_S_S32x16 : S_.BroadcastsInDim S32x16 (![] : Fin 0 → Fin S32x16.rank)
  bcast_S_S16 : S_.BroadcastsInDim S16 (![] : Fin 0 → Fin S16.rank)

variable [Facts]

def fn {F : FTy → Type} [FloatOps F] (main_arg0 : FVec F S8192x6656 .bf16) (main_arg1 : FVec F S32x16 .f32) (main_arg2 : FVec F S16 .f32) : IVec S8192x6656 1 × IVec S32x16 1 × IVec S16 1 :=
  let main_v0 : FVec F S8192x6656 .f32 := (extf .f32 · bitsLt_bf16_f32) main_arg0
  let main_v1 : FVec F S8192x6656 .f32 := Host.absf main_v0
  let main_cst : FVec F S_ .f32 := constant S_ .f32 0x7F800000#32
  let main_v2 : FVec F S8192x6656 .f32 := broadcastInDim S8192x6656 ![] bcast_S_S8192x6656 main_cst
  let main_v3 : IVec S8192x6656 1 := cmpf .olt main_v1 main_v2
  let main_v4 : FVec F S32x16 .f32 := Host.absf main_arg1
  let main_cst_0 : FVec F S_ .f32 := constant S_ .f32 0x7F800000#32
  let main_v5 : FVec F S32x16 .f32 := broadcastInDim S32x16 ![] bcast_S_S32x16 main_cst_0
  let main_v6 : IVec S32x16 1 := cmpf .olt main_v4 main_v5
  let main_v7 : FVec F S16 .f32 := Host.absf main_arg2
  let main_cst_1 : FVec F S_ .f32 := constant S_ .f32 0x7F800000#32
  let main_v8 : FVec F S16 .f32 := broadcastInDim S16 ![] bcast_S_S16 main_cst_1
  let main_v9 : IVec S16 1 := cmpf .olt main_v7 main_v8
  (main_v3, main_v6, main_v9)
-- ==== In.lean ====
abbrev S8192x4096 : Shape := ⟨2, ![8192, 4096]⟩
abbrev S1x4096x8720 : Shape := ⟨3, ![1, 4096, 8720]⟩
abbrev S1x8720x4096 : Shape := ⟨3, ![1, 8720, 4096]⟩
abbrev S8720x4096 : Shape := ⟨2, ![8720, 4096]⟩
abbrev S8192x6656 : Shape := ⟨2, ![8192, 6656]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x8720, .f32⟩
  | .hbm, ⟨2, _⟩ => ⟨S1x8720x4096, .f32⟩
  | .hbm, ⟨3, _⟩ => ⟨S8720x4096, .f32⟩
  | .hbm, ⟨4, _⟩ => ⟨S8192x6656, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![13, 8], ![false, false]⟩

def k0_mult1 (i : grid0.Coords) : BitVec 32 :=
  let c0_i32 : BitVec 32 := 0#32
  let arg0 : BitVec 32 := BitVec.ofNat 32 (i 0).val
  let c512_i32 : BitVec 32 := 512#32
  let v0 : BitVec 32 := Scalar.muli arg0 c512_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InRefIdeal.lean ====
abbrev S8192x4096 : Shape := ⟨2, ![8192, 4096]⟩
abbrev S1x4096x8720 : Shape := ⟨3, ![1, 4096, 8720]⟩
abbrev S4096x8720 : Shape := ⟨2, ![4096, 8720]⟩
abbrev S8192x8720 : Shape := ⟨2, ![8192, 8720]⟩
abbrev S8192x6656 : Shape := ⟨2, ![8192, 6656]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8720, .f32⟩
  | .hbm, ⟨2, _⟩ => ⟨S8192x4096, .f32⟩
  | .hbm, ⟨3, _⟩ => ⟨S4096x8720, .f32⟩
  | .hbm, ⟨4, _⟩ => ⟨S8192x8720, .f32⟩
  | .hbm, ⟨5, _⟩ => ⟨S8192x6656, .f32⟩
  | .hbm, ⟨6, _⟩ => ⟨S8192x6656, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Gout.lean ====
abbrev S8192x4096 : Shape := ⟨2, ![8192, 4096]⟩
abbrev S1x4096x8720 : Shape := ⟨3, ![1, 4096, 8720]⟩
abbrev S1x8720x4096 : Shape := ⟨3, ![1, 8720, 4096]⟩
abbrev S8720x4096 : Shape := ⟨2, ![8720, 4096]⟩
abbrev S8192x2048 : Shape := ⟨2, ![8192, 2048]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x8720, .f32⟩
  | .hbm, ⟨2, _⟩ => ⟨S1x8720x4096, .f32⟩
  | .hbm, ⟨3, _⟩ => ⟨S8720x4096, .f32⟩
  | .hbm, ⟨4, _⟩ => ⟨S8192x2048, .bf16⟩
  | .local _ .vmem, ⟨0, _⟩ => ⟨S1024x4096, .bf16⟩
  | .local _ .vmem, ⟨1, _⟩ => ⟨S1024x4096, .bf16⟩
  | .local _ .vmem, ⟨2, _⟩ => ⟨S512x4096, .f32⟩
  | .local _ .vmem, ⟨3, _⟩ => ⟨S512x4096, .f32⟩
  | .local _ .vmem, ⟨4, _⟩ => ⟨S1024x512, .bf16⟩
  | .local _ .vmem, ⟨5, _⟩ => ⟨S1024x512, .bf16⟩
  | .local _ .vmem, ⟨6, _⟩ => ⟨S512x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let c6672_i32 : BitVec 32 := 6672#32
  let arg0 : BitVec 32 := BitVec.ofNat 32 (i 0).val
  let c512_i32 : BitVec 32 := 512#32
  let v0 : BitVec 32 := Scalar.muli arg0 c512_i32
  let v1 : BitVec 32 := Scalar.addi c6672_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c6672_i32 : BitVec 32 := 6672#32
  let v1 : BitVec 32 := Scalar.addi c6672_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GoutRefIdeal.lean ====
abbrev S8192x4096 : Shape := ⟨2, ![8192, 4096]⟩
abbrev S1x4096x8720 : Shape := ⟨3, ![1, 4096, 8720]⟩
abbrev S4096x8720 : Shape := ⟨2, ![4096, 8720]⟩
abbrev S8192x8720 : Shape := ⟨2, ![8192, 8720]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8720, .f32⟩
  | .hbm, ⟨2, _⟩ => ⟨S8192x4096, .f32⟩
  | .hbm, ⟨3, _⟩ => ⟨S4096x8720, .f32⟩
  | .hbm, ⟨4, _⟩ => ⟨S8192x8720, .f32⟩
  | .hbm, ⟨5, _⟩ => ⟨S8192x2048, .f32⟩
  | .hbm, ⟨6, _⟩ => ⟨S8192x2048, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Glow.lean ====
abbrev S8192x4096 : Shape := ⟨2, ![8192, 4096]⟩
abbrev S1x4096x8720 : Shape := ⟨3, ![1, 4096, 8720]⟩
abbrev S1x8720x4096 : Shape := ⟨3, ![1, 8720, 4096]⟩
abbrev S8720x4096 : Shape := ⟨2, ![8720, 4096]⟩
abbrev S8192x16 : Shape := ⟨2, ![8192, 16]⟩
abbrev S1024x4096 : Shape := ⟨2, ![1024, 4096]⟩
abbrev S16x4096 : Shape := ⟨2, ![16, 4096]⟩
abbrev S1024x16 : Shape := ⟨2, ![1024, 16]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S1x4096x8720, .f32⟩
  | .hbm, ⟨2, _⟩ => ⟨S1x8720x4096, .f32⟩
  | .hbm, ⟨3, _⟩ => ⟨S8720x4096, .f32⟩
  | .hbm, ⟨4, _⟩ => ⟨S8192x16, .f32⟩
  | .local _ .vmem, ⟨0, _⟩ => ⟨S1024x4096, .bf16⟩
  | .local _ .vmem, ⟨1, _⟩ => ⟨S1024x4096, .bf16⟩
  | .local _ .vmem, ⟨2, _⟩ => ⟨S16x4096, .f32⟩
  | .local _ .vmem, ⟨3, _⟩ => ⟨S1024x16, .f32⟩
  | .local _ .vmem, ⟨4, _⟩ => ⟨S1024x16, .f32⟩
  | .local _ .vmem, ⟨5, _⟩ => ⟨S16x4096, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def k0_mult1 (i : grid0.Coords) : BitVec 32 :=
  let c6656_i32 : BitVec 32 := 6656#32
  let arg0 : BitVec 32 := BitVec.ofNat 32 (i 0).val
  let c16_i32 : BitVec 32 := 16#32
  let v0 : BitVec 32 := Scalar.muli arg0 c16_i32
  let v1 : BitVec 32 := Scalar.addi c6656_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c6656_i32 : BitVec 32 := 6656#32
  let v1 : BitVec 32 := Scalar.addi c6656_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S16x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GlowRefIdeal.lean ====
abbrev S8192x4096 : Shape := ⟨2, ![8192, 4096]⟩
abbrev S1x4096x8720 : Shape := ⟨3, ![1, 4096, 8720]⟩
abbrev S4096x8720 : Shape := ⟨2, ![4096, 8720]⟩
abbrev S8192x8720 : Shape := ⟨2, ![8192, 8720]⟩
abbrev S8192x16 : Shape := ⟨2, ![8192, 16]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x8720, .f32⟩
  | .hbm, ⟨2, _⟩ => ⟨S8192x4096, .f32⟩
  | .hbm, ⟨3, _⟩ => ⟨S4096x8720, .f32⟩
  | .hbm, ⟨4, _⟩ => ⟨S8192x8720, .f32⟩
  | .hbm, ⟨5, _⟩ => ⟨S8192x16, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Out.lean ====
abbrev S8192x2048 : Shape := ⟨2, ![8192, 2048]⟩
abbrev S1x4096x4096 : Shape := ⟨3, ![1, 4096, 4096]⟩
abbrev S4x2048x4096 : Shape := ⟨3, ![4, 2048, 4096]⟩
abbrev S4x24576 : Shape := ⟨2, ![4, 24576]⟩
abbrev S8192x4096 : Shape := ⟨2, ![8192, 4096]⟩
abbrev S24x1x4096 : Shape := ⟨3, ![24, 1, 4096]⟩
abbrev S4096x4096 : Shape := ⟨2, ![4096, 4096]⟩
abbrev S1024x2048 : Shape := ⟨2, ![1024, 2048]⟩
abbrev S4096x512 : Shape := ⟨2, ![4096, 512]⟩
abbrev S1024x512 : Shape := ⟨2, ![1024, 512]⟩
abbrev S1x1x512 : Shape := ⟨3, ![1, 1, 512]⟩
abbrev S2048x512 : Shape := ⟨2, ![2048, 512]⟩
abbrev S1x512 : Shape := ⟨2, ![1, 512]⟩

abbrev nBuf : Space → Nat
  | .hbm => 9
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S4x2048x4096, .f32⟩
  | .hbm, ⟨4, _⟩ => ⟨S4x24576, .f32⟩
  | .hbm, ⟨5, _⟩ => ⟨S8192x4096, .f32⟩
  | .hbm, ⟨6, _⟩ => ⟨S24x1x4096, .f32⟩
  | .hbm, ⟨7, _⟩ => ⟨S4096x4096, .f32⟩
  | .hbm, ⟨8, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S4096x512, .f32⟩
  | .local _ .vmem, ⟨5, _⟩ => ⟨S4096x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | .local _ .vmem, ⟨12, _⟩ => ⟨S4096x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c2_i32 : BitVec 32 := 2#32
  let v19 : BitVec 32 := Scalar.addi v18 c2_i32
  let c0_i32_4 : BitVec 32 := 0#32
  let c0_i32_5 : BitVec 32 := 0#32
  ![v19.toNat, c0_i32_4.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8192x2048 : Shape := ⟨2, ![8192, 2048]⟩
abbrev S1x4096x4096 : Shape := ⟨3, ![1, 4096, 4096]⟩
abbrev S4x2048x4096 : Shape := ⟨3, ![4, 2048, 4096]⟩
abbrev S4x24576 : Shape := ⟨2, ![4, 24576]⟩
abbrev S4x1x24576 : Shape := ⟨3, ![4, 1, 24576]⟩
abbrev S4x1x4096 : Shape := ⟨3, ![4, 1, 4096]⟩
abbrev S8192x4096 : Shape := ⟨2, ![8192, 4096]⟩
abbrev S4096x4096 : Shape := ⟨2, ![4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S4x2048x4096, .f32⟩
  | .hbm, ⟨4, _⟩ => ⟨S4x24576, .f32⟩
  | .hbm, ⟨5, _⟩ => ⟨S4x1x24576, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S4x1x4096, .f32⟩
  | .hbm, ⟨12, _⟩ => ⟨S8192x4096, .bf16⟩
  | .hbm, ⟨13, _⟩ => ⟨S8192x4096, .f32⟩
  | .hbm, ⟨14, _⟩ => ⟨S4096x4096, .f32⟩
  | .hbm, ⟨15, _⟩ => ⟨S8192x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S4x2048x4096, .f32⟩
  | .hbm, ⟨20, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Pq.lean ====
abbrev S8192x4096 : Shape := ⟨2, ![8192, 4096]⟩
abbrev S1x4096x2048 : Shape := ⟨3, ![1, 4096, 2048]⟩
abbrev S4096x2048 : Shape := ⟨2, ![4096, 2048]⟩
abbrev S8192x2048 : Shape := ⟨2, ![8192, 2048]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S4096x2048, .f32⟩
  | .hbm, ⟨3, _⟩ => ⟨S8192x2048, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | .local _ .vmem, ⟨6, _⟩ => ⟨S4096x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PqRefIdeal.lean ====
abbrev S8192x4096 : Shape := ⟨2, ![8192, 4096]⟩
abbrev S1x4096x2048 : Shape := ⟨3, ![1, 4096, 2048]⟩
abbrev S4096x2048 : Shape := ⟨2, ![4096, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x4096x2048, .f32⟩
  | .hbm, ⟨2, _⟩ => ⟨S8192x4096, .f32⟩
  | .hbm, ⟨3, _⟩ => ⟨S4096x2048, .f32⟩
  | .hbm, ⟨4, _⟩ => ⟨S8192x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Attn.lean ====
abbrev S8192x6656 : Shape := ⟨2, ![8192, 6656]⟩
abbrev S32x16 : Shape := ⟨2, ![32, 16]⟩
abbrev S16 : Shape := ⟨1, ![16]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S2x16x128x256 : Shape := ⟨4, ![2, 16, 128, 256]⟩
abbrev S2x1x128x256 : Shape := ⟨4, ![2, 1, 128, 256]⟩
abbrev S1x1 : Shape := ⟨2, ![1, 1]⟩
abbrev S1 : Shape := ⟨1, ![1]⟩
abbrev S1x1x128x256 : Shape := ⟨4, ![1, 1, 128, 256]⟩
abbrev S2x2x1024x256 : Shape := ⟨4, ![2, 2, 1024, 256]⟩
abbrev S8192x2048 : Shape := ⟨2, ![8192, 2048]⟩
abbrev S128x2048 : Shape := ⟨2, ![128, 2048]⟩
abbrev S1x2x1024x256 : Shape := ⟨4, ![1, 2, 1024, 256]⟩
abbrev S128x128 : Shape := ⟨2, ![128, 128]⟩
abbrev S128x1024 : Shape := ⟨2, ![128, 1024]⟩
abbrev S1024x128 : Shape := ⟨2, ![1024, 128]⟩
abbrev S256x128 : Shape := ⟨2, ![256, 128]⟩
abbrev S1024x256 : Shape := ⟨2, ![1024, 256]⟩
abbrev S1x1x1024x256 : Shape := ⟨4, ![1, 1, 1024, 256]⟩
abbrev S1024 : Shape := ⟨1, ![1024]⟩
abbrev S1024x1 : Shape := ⟨2, ![1024, 1]⟩
abbrev S256x256 : Shape := ⟨2, ![256, 256]⟩

abbrev nBuf : Space → Nat
  | .hbm => 56
  | .vmem => 17
  | .smem => 2
  | _ => 0

abbrev bufTy : (tb : Table) → Fin (tcTables nBuf tb) → BufTy
  | .hbm, ⟨0, _⟩ => ⟨S8192x6656, .bf16⟩
  | .hbm, ⟨1, _⟩ => ⟨S32x16, .f32⟩
  | .hbm, ⟨2, _⟩ => ⟨S16, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .f32⟩
  | .hbm, ⟨38, _⟩ => ⟨S128x256, .i32⟩
  | .hbm, ⟨39, _⟩ => ⟨S_, .i32⟩
  | .hbm, ⟨40, _⟩ => ⟨S128x256, .i32⟩
  | .hbm, ⟨41, _⟩ => ⟨S128x256, .i32⟩
  | .hbm, ⟨42, _⟩ => ⟨S_, .i32⟩
  | .hbm, ⟨43, _⟩ => ⟨S128x256, .i32⟩
  | .hbm, ⟨44, _⟩ => ⟨S128x256, .i32⟩
  | .hbm, ⟨45, _⟩ => ⟨S_, .i32⟩
  | .hbm, ⟨46, _⟩ => ⟨S128x256, .i32⟩
  | .hbm, ⟨47, _⟩ => ⟨S128x256, .i1⟩
  | .hbm, ⟨48, _⟩ => ⟨S128x256, .i32⟩
  | .hbm, ⟨49, _⟩ => ⟨S_, .i32⟩
  | .hbm, ⟨50, _⟩ => ⟨S_, .i32⟩
  | .hbm, ⟨51, _⟩ => ⟨S128x256, .i32⟩
  | .hbm, ⟨52, _⟩ => ⟨S128x256, .i32⟩
  | .hbm, ⟨53, _⟩ => ⟨S2x16x128x256, .f32⟩
  | .hbm, ⟨54, _⟩ => ⟨S2x2x1024x256, .f32⟩
  | .hbm, ⟨55, _⟩ => ⟨S8192x2048, .bf16⟩
  | .local _ .vmem, ⟨0, _⟩ => ⟨S128x256, .i32⟩
  | .local _ .vmem, ⟨1, _⟩ => ⟨S2x1x128x256, .f32⟩
  | .local _ .vmem, ⟨2, _⟩ => ⟨S2x1x128x256, .f32⟩
  | .local _ .vmem, ⟨3, _⟩ => ⟨S128x2048, .bf16⟩
  | .local _ .vmem, ⟨4, _⟩ => ⟨S128x2048, .bf16⟩
  | .local _ .vmem, ⟨5, _⟩ => ⟨S128x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S1x2x1024x256, .f32⟩
  | .local _ .vmem, ⟨14, _⟩ => ⟨S1x2x1024x256, .f32⟩
  | .local _ .vmem, ⟨15, _⟩ => ⟨S128x2048, .bf16⟩
  | .local _ .vmem, ⟨16, _⟩ => ⟨S128x2048, .bf16⟩
  | .local _ .smem, ⟨0, _⟩ => ⟨S32x16, .f32⟩
  | .local _ .smem, ⟨1, _⟩ => ⟨S16, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_6 : Ref sig .tc := ⟨.hbm, 39, rfl⟩
abbrev main_v28 : Ref sig .tc := ⟨.hbm, 40, rfl⟩
abbrev main_v29 : Ref sig .tc := ⟨.hbm, 41, rfl⟩
abbrev main_c_7 : Ref sig .tc := ⟨.hbm, 42, rfl⟩
abbrev main_v30 : Ref sig .tc := ⟨.hbm, 43, rfl⟩
abbrev main_v31 : Ref sig .tc := ⟨.hbm, 44, rfl⟩
abbrev main_c_8 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_9 : Ref sig .tc := ⟨.hbm, 49, rfl⟩
abbrev main_call1_v0 : Ref sig .tc := ⟨.hbm, 50, rfl⟩
abbrev main_call1_v1 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg5_1 : Ref sig .tc := ⟨.vmem, 14, rfl⟩
abbrev cc1_stg6_0 : Ref sig .tc := ⟨.vmem, 15, rfl⟩
abbrev cc1_stg6_1 : Ref sig .tc := ⟨.vmem, 16, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem5_1 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let c0_1 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def k0_off33 (i : grid0.Coords) : Fin 1 → Nat :=
  let arg0 : BitVec 32 := BitVec.ofNat 32 (i 0).val
  let v198 : Index := Scalar.indexCast arg0
  ![v198.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .smem S32x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![4, 16], ![false, false]⟩

def cc1_transform_0 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c8_i32 : BitVec 32 := 8#32
  let c0_i32_0 : BitVec 32 := 0#32
  ![v3.toNat, c8_i32.toNat]

def cc1_transform_2 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c8_i32 : BitVec 32 := 8#32
  let c0_i32 : BitVec 32 := 0#32
  ![v1.toNat, c8_i32.toNat]

def cc1_transform_3 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c9_i32 : BitVec 32 := 9#32
  let c0_i32_0 : BitVec 32 := 0#32
  ![v3.toNat, c9_i32.toNat]

def cc1_transform_4 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c9_i32 : BitVec 32 := 9#32
  let c0_i32 : BitVec 32 := 0#32
  ![v1.toNat, c9_i32.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c1_i32 : BitVec 32 := 1#32
  let c0_i32_0 : BitVec 32 := 0#32
  let v1 : BitVec 32 := Scalar.select v0 c1_i32 c0_i32_0
  let c0_i32_1 : BitVec 32 := 0#32
  let c0_i32_2 : BitVec 32 := 0#32
  let c0_i32_3 : BitVec 32 := 0#32
  let c0_i32_4 : BitVec 32 := 0#32
  ![v1.toNat, c0_i32_1.toNat, c0_i32_2.toNat, c0_i32_3.toNat]

def cc1_transform_6 (i : grid1.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage1_0 : Fin 2 → Memref sig .tc .vmem S128x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S128x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S128x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S128x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x2x1024x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S128x2048 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== AttnIdeal.lean ====
variable {F : FTy → Type} [FloatOps F] [Named F]
def κ : String → Option EReal := fun
  | "mask" => some ⊥
  | _ => none
-- ==== AttnRefIdeal.lean ====
abbrev S8192x6656 : Shape := ⟨2, ![8192, 6656]⟩
abbrev S32x16 : Shape := ⟨2, ![32, 16]⟩
abbrev S16 : Shape := ⟨1, ![16]⟩
abbrev S8192x2048 : Shape := ⟨2, ![8192, 2048]⟩
abbrev S4x2048x16x128 : Shape := ⟨4, ![4, 2048, 16, 128]⟩
abbrev S8192x256 : Shape := ⟨2, ![8192, 256]⟩
abbrev S4x2048x2x128 : Shape := ⟨4, ![4, 2048, 2, 128]⟩
abbrev S4x16x128x2x8x128 : Shape := ⟨6, ![4, 16, 128, 2, 8, 128]⟩
abbrev S4x16x128x2x128 : Shape := ⟨5, ![4, 16, 128, 2, 128]⟩
abbrev S_ : Shape := ⟨0, ![]⟩
abbrev S4x17x128x2x128 : Shape := ⟨5, ![4, 17, 128, 2, 128]⟩
abbrev S4x16x256x2x128 : Shape := ⟨5, ![4, 16, 256, 2, 128]⟩
abbrev S4x16x2x256x128x8 : Shape := ⟨6, ![4, 16, 2, 256, 128, 8]⟩
abbrev S4x16x2x8x128x256 : Shape := ⟨6, ![4, 16, 2, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x256x1 : Shape := ⟨3, ![128, 256, 1]⟩
abbrev S128x256x16 : Shape := ⟨3, ![128, 256, 16]⟩
abbrev S16x128x256 : Shape := ⟨3, ![16, 128, 256]⟩
abbrev S2x8x128x256 : Shape := ⟨4, ![2, 8, 128, 256]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S1x16x1x1x128x256 : Shape := ⟨6, ![1, 16, 1, 1, 128, 256]⟩
abbrev S1x1x2x8x128x256 : Shape := ⟨6, ![1, 1, 2, 8, 128, 256]⟩
abbrev S2x8 : Shape := ⟨2, ![2, 8]⟩
abbrev S1x1x2x8x1x1 : Shape := ⟨6, ![1, 1, 2, 8, 1, 1]⟩
abbrev S4x16x2x8x128 : Shape := ⟨5, ![4, 16, 2, 8, 128]⟩
abbrev S4x16x2x8x128x1 : Shape := ⟨6, ![4, 16, 2, 8, 128, 1]⟩
abbrev S4x16x2x128x8x128 : Shape := ⟨6, ![4, 16, 2, 128, 8, 128]⟩

abbrev nBuf : Space → Nat
  | .hbm => 137
  | .vmem => 0
  | .smem => 0
  | _ => 0

abbrev hbmTy0_0 (i : Nat) : BufTy := match i % 128 with
  | 0 => ⟨S8192x6656, .bf16⟩
  | 1 => ⟨S32x16, .f32⟩
  | 2 => ⟨S16, .f32⟩
  | 3 => ⟨S8192x6656, .f32⟩
  | 4 => ⟨S8192x2048, .f32⟩
  | 5 => ⟨S4x2048x16x128, .f32⟩
  | 6 => ⟨S8192x256, .f32⟩
  | 7 => ⟨S4x2048x2x128, .f32⟩
  | 8 => ⟨S8192x256, .f32⟩
  | 9 => ⟨S4x2048x2x128, .f32⟩
  | 10 => ⟨S4x16x128x2x8x128, .f32⟩
  | 11 => ⟨S4x16x128x2x128, .f32⟩
  | 12 => ⟨S_, .i32⟩
  | 13 => ⟨S_, .f32⟩
  | 14 => ⟨S4x17x128x2x128, .f32⟩
  | 15 => ⟨S4x16x128x2x128, .f32⟩
  | 16 => ⟨S4x16x256x2x128, .f32⟩
  | 17 => ⟨S4x16x128x2x128, .f32⟩
  | 18 => ⟨S_, .i32⟩
  | 19 => ⟨S_, .f32⟩
  | 20 => ⟨S4x17x128x2x128, .f32⟩
  | 21 => ⟨S4x16x128x2x128, .f32⟩
  | 22 => ⟨S4x16x256x2x128, .f32⟩
  | 23 => ⟨S4x16x2x256x128x8, .f32⟩
  | 24 => ⟨S4x16x2x8x128x256, .f32⟩
  | 25 => ⟨S_, .f32⟩
  | 26 => ⟨S4x16x2x8x128x256, .f32⟩
  | 27 => ⟨S4x16x2x8x128x256, .f32⟩
  | 28 => ⟨S128, .i32⟩
  | 29 => ⟨S128x1, .i32⟩
  | 30 => ⟨S256, .i32⟩
  | 31 => ⟨S1x256, .i32⟩
  | 32 => ⟨S_, .i32⟩
  | 33 => ⟨S128x1, .i32⟩
  | 34 => ⟨S128x1, .i32⟩
  | 35 => ⟨S128x256, .i32⟩
  | 36 => ⟨S128x256, .i32⟩
  | 37 => ⟨S128x256, .i32⟩
  | 38 => ⟨S_, .i32⟩
  | 39 => ⟨S128x256, .i32⟩
  | 40 => ⟨S128x256, .i1⟩
  | 41 => ⟨S_, .i32⟩
  | 42 => ⟨S128x256, .i32⟩
  | 43 => ⟨S128x256, .i1⟩
  | 44 => ⟨S128x256, .i1⟩
  | 45 => ⟨S_, .i32⟩
  | 46 => ⟨S128x256, .i32⟩
  | 47 => ⟨S128x256, .i32⟩
  | 48 => ⟨S_, .i32⟩
  | 49 => ⟨S128x256, .i32⟩
  | 50 => ⟨S128x256, .i32⟩
  | 51 => ⟨S128x256, .f32⟩
  | 52 => ⟨S_, .f32⟩
  | 53 => ⟨S128x256, .f32⟩
  | 54 => ⟨S128x256, .f32⟩
  | 55 => ⟨S128x256, .f32⟩
  | 56 => ⟨S_, .f32⟩
  | 57 => ⟨S128x256, .f32⟩
  | 58 => ⟨S128x256, .f32⟩
  | 59 => ⟨S_, .f32⟩
  | 60 => ⟨S128x256, .f32⟩
  | 61 => ⟨S128x256, .f32⟩
  | 62 => ⟨S128x256, .i32⟩
  | 63 => ⟨S_, .i32⟩
  | 64 => ⟨S128x256, .i32⟩
  | 65 => ⟨S128x256, .i32⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i1⟩
  | 72 => ⟨S128x256, .i32⟩
  | 73 => ⟨S_, .i32⟩
  | 74 => ⟨S128x256, .i32⟩
  | 75 => ⟨S128x256, .i1⟩
  | 76 => ⟨S_, .i32⟩
  | 77 => ⟨S128x256, .i32⟩
  | 78 => ⟨S128x256, .i32⟩
  | 79 => ⟨S128x256, .i32⟩
  | 80 => ⟨S128x256x1, .i32⟩
  | 81 => ⟨S128x256x16, .f32⟩
  | 82 => ⟨S16x128x256, .f32⟩
  | 83 => ⟨S2x8x128x256, .f32⟩
  | 84 => ⟨S16, .i32⟩
  | 85 => ⟨S16x1, .i32⟩
  | 86 => ⟨S_, .i32⟩
  | 87 => ⟨S16x1, .i32⟩
  | 88 => ⟨S16x1, .i32⟩
  | 89 => ⟨S_, .i32⟩
  | 90 => ⟨S16x1, .i32⟩
  | 91 => ⟨S16x1, .i32⟩
  | 92 => ⟨S256, .i32⟩
  | 93 => ⟨S1x256, .i32⟩
  | 94 => ⟨S16x256, .i32⟩
  | 95 => ⟨S16x256, .i32⟩
  | 96 => ⟨S16x256, .i32⟩
  | 97 => ⟨S1x128x256, .i1⟩
  | 98 => ⟨S_, .i32⟩
  | 99 => ⟨S16x256, .i32⟩
  | 100 => ⟨S16x256, .i1⟩
  | 101 => ⟨S16x1x256, .i1⟩
  | 102 => ⟨S16x128x256, .i1⟩
  | 103 => ⟨S16x128x256, .i1⟩
  | 104 => ⟨S16x128x256, .i1⟩
  | 105 => ⟨S1x16x1x1x128x256, .i1⟩
  | 106 => ⟨S1x1x2x8x128x256, .f32⟩
  | 107 => ⟨S4x16x2x8x128x256, .f32⟩
  | 108 => ⟨S4x16x2x8x128x256, .f32⟩
  | 109 => ⟨S_, .f32⟩
  | 110 => ⟨S_, .f32⟩
  | 111 => ⟨S4x16x2x8x128x256, .i1⟩
  | 112 => ⟨S4x16x2x8x128x256, .f32⟩
  | 113 => ⟨S4x16x2x8x128x256, .f32⟩
  | 114 => ⟨S2x8, .f32⟩
  | 115 => ⟨S1x1x2x8x1x1, .f32⟩
  | 116 => ⟨S_, .f32⟩
  | 117 => ⟨S4x16x2x8x128, .f32⟩
  | 118 => ⟨S4x16x2x8x128x1, .f32⟩
  | 119 => ⟨S4x16x2x8x128x1, .f32⟩
  | 120 => ⟨S4x16x2x8x128x1, .f32⟩
  | 121 => ⟨S4x16x2x8x128x256, .f32⟩
  | 122 => ⟨S4x16x2x8x128x256, .f32⟩
  | 123 => ⟨S4x16x2x8x128x256, .f32⟩
  | 124 => ⟨S_, .f32⟩
  | 125 => ⟨S4x16x2x8x128, .f32⟩
  | 126 => ⟨S4x16x2x8x128x1, .f32⟩
  | 127 => ⟨S4x16x2x8x128x1, .f32⟩
  | _ => ⟨S8192x6656, .bf16⟩

abbrev hbmTy0_1 (i : Nat) : BufTy := match i % 128 with
  | 0 => ⟨S4x16x2x8x128x1, .f32⟩
  | 1 => ⟨S4x16x2x8x128x1, .f32⟩
  | 2 => ⟨S4x16x2x8x128x1, .f32⟩
  | 3 => ⟨S4x16x2x8x128x256, .f32⟩
  | 4 => ⟨S4x16x2x8x128x256, .f32⟩
  | 5 => ⟨S4x16x2x128x8x128, .f32⟩
  | 6 => ⟨S4x16x128x2x8x128, .f32⟩
  | 7 => ⟨S8192x2048, .f32⟩
  | 8 => ⟨S8192x2048, .bf16⟩
  | _ => ⟨S8192x6656, .bf16⟩

abbrev hbmTy (i : Nat) : BufTy := match i / 128 with
  | 0 => hbmTy0_0 i
  | 1 => hbmTy0_1 i
  | _ => ⟨S8192x6656, .bf16⟩

abbrev bufTy : (tb : Table) → Fin (tcTables nBuf tb) → BufTy
  | .hbm, ⟨i, _⟩ => hbmTy i
  | _, _ => ⟨S8192x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c : Ref sig .tc := ⟨.hbm, 12, rfl⟩
abbrev main_call0_v0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_0 : Ref sig .tc := ⟨.hbm, 18, rfl⟩
abbrev main_call1_v0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_c_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_2 : Ref sig .tc := ⟨.hbm, 38, rfl⟩
abbrev main_v29 : Ref sig .tc := ⟨.hbm, 39, rfl⟩
abbrev main_v30 : Ref sig .tc := ⟨.hbm, 40, rfl⟩
abbrev main_c_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_4 : Ref sig .tc := ⟨.hbm, 45, rfl⟩
abbrev main_v34 : Ref sig .tc := ⟨.hbm, 46, rfl⟩
abbrev main_v35 : Ref sig .tc := ⟨.hbm, 47, rfl⟩
abbrev main_c_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_6 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_cst_8 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_c_9 : Ref sig .tc := ⟨.hbm, 63, rfl⟩
abbrev main_v47 : Ref sig .tc := ⟨.hbm, 64, rfl⟩
abbrev main_v48 : Ref sig .tc := ⟨.hbm, 65, rfl⟩
abbrev main_c_10 : Ref sig .tc := ⟨.hbm, 66, rfl⟩
abbrev main_v49 : Ref sig .tc := ⟨.hbm, 67, rfl⟩
abbrev main_v50 : Ref sig .tc := ⟨.hbm, 68, rfl⟩
abbrev main_c_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_12 : Ref sig .tc := ⟨.hbm, 73, rfl⟩
abbrev main_v54 : Ref sig .tc := ⟨.hbm, 74, rfl⟩
abbrev main_v55 : Ref sig .tc := ⟨.hbm, 75, rfl⟩
abbrev main_c_13 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_c_14 : Ref sig .tc := ⟨.hbm, 86, rfl⟩
abbrev main_v65 : Ref sig .tc := ⟨.hbm, 87, rfl⟩
abbrev main_v66 : Ref sig .tc := ⟨.hbm, 88, rfl⟩
abbrev main_c_15 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩

abbrev nD : Nat := 1
abbrev τ : Topo := Topo.v7x

variable {F : FTy → Type} [FloatOps F]
-- ==== Modu.lean ====
abbrev S8x4096 : Shape := ⟨2, ![8, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S8x24576 : Shape := ⟨2, ![8, 24576]⟩
abbrev S4096x1024 : Shape := ⟨2, ![4096, 1024]⟩
abbrev S1x1024 : Shape := ⟨2, ![1, 1024]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S4096x24576, .f32⟩
  | .hbm, ⟨4, _⟩ => ⟨S24576, .f32⟩
  | .hbm, ⟨5, _⟩ => ⟨S1x24576, .f32⟩
  | .hbm, ⟨6, _⟩ => ⟨S8x24576, .f32⟩
  | .local _ .vmem, ⟨0, _⟩ => ⟨S8x4096, .f32⟩
  | .local _ .vmem, ⟨1, _⟩ => ⟨S4096x1024, .f32⟩
  | .local _ .vmem, ⟨2, _⟩ => ⟨S4096x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModuRefIdeal.lean ====
abbrev S8x4096 : Shape := ⟨2, ![8, 4096]⟩
abbrev S1x4096x24576 : Shape := ⟨3, ![1, 4096, 24576]⟩
abbrev S1x24576 : Shape := ⟨2, ![1, 24576]⟩
abbrev S_ : Shape := ⟨0, ![]⟩
abbrev S4096x24576 : Shape := ⟨2, ![4096, 24576]⟩
abbrev S8x24576 : Shape := ⟨2, ![8, 24576]⟩
abbrev S24576 : Shape := ⟨1, ![24576]⟩

abbrev nBuf : Space → Nat
  | .hbm => 18
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S1x4096x24576, .f32⟩
  | .hbm, ⟨2, _⟩ => ⟨S1x24576, .f32⟩
  | .hbm, ⟨3, _⟩ => ⟨S8x4096, .f32⟩
  | .hbm, ⟨4, _⟩ => ⟨S8x4096, .f32⟩
  | .hbm, ⟨5, _⟩ => ⟨S_, .f32⟩
  | .hbm, ⟨6, _⟩ => ⟨S8x4096, .f32⟩
  | .hbm, ⟨7, _⟩ => ⟨S8x4096, .f32⟩
  | .hbm, ⟨8, _⟩ => ⟨S_, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S4096x24576, .f32⟩
  | .hbm, ⟨13, _⟩ => ⟨S8x24576, .f32⟩
  | .hbm, ⟨14, _⟩ => ⟨S24576, .f32⟩
  | .hbm, ⟨15, _⟩ => ⟨S1x24576, .f32⟩
  | .hbm, ⟨16, _⟩ => ⟨S8x24576, .f32⟩
  | .hbm, ⟨17, _⟩ => ⟨S8x24576, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Norma.lean ====
abbrev S4x2048x4096 : Shape := ⟨3, ![4, 2048, 4096]⟩
abbrev S1x4096 : Shape := ⟨2, ![1, 4096]⟩
abbrev S4x24576 : Shape := ⟨2, ![4, 24576]⟩
abbrev S8192x4096 : Shape := ⟨2, ![8192, 4096]⟩
abbrev S24x1x4096 : Shape := ⟨3, ![24, 1, 4096]⟩
abbrev S4096 : Shape := ⟨1, ![4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S4x24576, .f32⟩
  | .hbm, ⟨3, _⟩ => ⟨S8192x4096, .f32⟩
  | .hbm, ⟨4, _⟩ => ⟨S24x1x4096, .f32⟩
  | .hbm, ⟨5, _⟩ => ⟨S4096, .f32⟩
  | .hbm, ⟨6, _⟩ => ⟨S1x4096, .f32⟩
  | .hbm, ⟨7, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c1_i32_4 : BitVec 32 := 1#32
  let v19 : BitVec 32 := Scalar.addi v18 c1_i32_4
  let c0_i32_5 : BitVec 32 := 0#32
  let c0_i32_6 : BitVec 32 := 0#32
  let c0_i32_7 : BitVec 32 := 0#32
  ![v19.toNat, c0_i32_5.toNat, c0_i32_6.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c0_i32_4 : BitVec 32 := 0#32
  let v19 : BitVec 32 := Scalar.addi v18 c0_i32_4
  let c0_i32_5 : BitVec 32 := 0#32
  let c0_i32_6 : BitVec 32 := 0#32
  let c0_i32_7 : BitVec 32 := 0#32
  ![v19.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormaRefIdeal.lean ====
abbrev S4x2048x4096 : Shape := ⟨3, ![4, 2048, 4096]⟩
abbrev S1x4096 : Shape := ⟨2, ![1, 4096]⟩
abbrev S4x24576 : Shape := ⟨2, ![4, 24576]⟩
abbrev S4x1x24576 : Shape := ⟨3, ![4, 1, 24576]⟩
abbrev S4x1x4096 : Shape := ⟨3, ![4, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096, .f32⟩
  | .hbm, ⟨2, _⟩ => ⟨S4x24576, .f32⟩
  | .hbm, ⟨3, _⟩ => ⟨S4x1x24576, .f32⟩
  | .hbm, ⟨4, _⟩ => ⟨S4x1x4096, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4096, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S4x2048x1, .f32⟩
  | .hbm, ⟨22, _⟩ => ⟨S4x2048x4096, .f32⟩
  | .hbm, ⟨23, _⟩ => ⟨S4x2048x4096, .f32⟩
  | .hbm, ⟨24, _⟩ => ⟨S1x1x4096, .f32⟩
  | .hbm, ⟨25, _⟩ => ⟨S4x2048x4096, .f32⟩
  | .hbm, ⟨26, _⟩ => ⟨S4x2048x4096, .f32⟩
  | .hbm, ⟨27, _⟩ => ⟨S_, .f32⟩
  | .hbm, ⟨28, _⟩ => ⟨S4x1x4096, .f32⟩
  | .hbm, ⟨29, _⟩ => ⟨S4x1x4096, .f32⟩
  | .hbm, ⟨30, _⟩ => ⟨S4x2048x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S8192x4096, .f32⟩
  | .hbm, ⟨35, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Normb.lean ====
abbrev S8192x4096 : Shape := ⟨2, ![8192, 4096]⟩
abbrev S1x4096 : Shape := ⟨2, ![1, 4096]⟩
abbrev S4x24576 : Shape := ⟨2, ![4, 24576]⟩
abbrev S24x1x4096 : Shape := ⟨3, ![24, 1, 4096]⟩
abbrev S4096 : Shape := ⟨1, ![4096]⟩
abbrev S512x4096 : Shape := ⟨2, ![512, 4096]⟩
abbrev S1x1x4096 : Shape := ⟨3, ![1, 1, 4096]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4x24576, .f32⟩
  | .hbm, ⟨3, _⟩ => ⟨S24x1x4096, .f32⟩
  | .hbm, ⟨4, _⟩ => ⟨S4096, .f32⟩
  | .hbm, ⟨5, _⟩ => ⟨S1x4096, .f32⟩
  | .hbm, ⟨6, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S512x4096, .bf16⟩
  | .local _ .vmem, ⟨8, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c4_i32 : BitVec 32 := 4#32
  let v19 : BitVec 32 := Scalar.addi v18 c4_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c3_i32 : BitVec 32 := 3#32
  let v19 : BitVec 32 := Scalar.addi v18 c3_i32
  let c0_i32_4 : BitVec 32 := 0#32
  let c0_i32_5 : BitVec 32 := 0#32
  let c0_i32_6 : BitVec 32 := 0#32
  ![v19.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormbRefIdeal.lean ====
abbrev S8192x4096 : Shape := ⟨2, ![8192, 4096]⟩
abbrev S1x4096 : Shape := ⟨2, ![1, 4096]⟩
abbrev S4x24576 : Shape := ⟨2, ![4, 24576]⟩
abbrev S4x1x24576 : Shape := ⟨3, ![4, 1, 24576]⟩
abbrev S4x1x4096 : Shape := ⟨3, ![4, 1, 4096]⟩
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4x24576, .f32⟩
  | .hbm, ⟨3, _⟩ => ⟨S4x1x24576, .f32⟩
  | .hbm, ⟨4, _⟩ => ⟨S4x1x4096, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x2048x4096, .f32⟩
  | .hbm, ⟨11, _⟩ => ⟨S4096, .f32⟩
  | .hbm, ⟨12, _⟩ => ⟨S4x2048x4096, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | .hbm, ⟨28, _⟩ => ⟨S_, .f32⟩
  | .hbm, ⟨29, _⟩ => ⟨S4x1x4096, .f32⟩
  | .hbm, ⟨30, _⟩ => ⟨S4x1x4096, .f32⟩
  | .hbm, ⟨31, _⟩ => ⟨S4x2048x4096, .f32⟩
  | .hbm, ⟨32, _⟩ => ⟨S4x2048x4096, .f32⟩
  | .hbm, ⟨33, _⟩ => ⟨S4x2048x4096, .f32⟩
  | .hbm, ⟨34, _⟩ => ⟨S4x2048x4096, .f32⟩
  | .hbm, ⟨35, _⟩ => ⟨S8192x4096, .f32⟩
  | .hbm, ⟨36, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Final.lean ====
abbrev S8192x4096 : Shape := ⟨2, ![8192, 4096]⟩
abbrev S4096x8192 : Shape := ⟨2, ![4096, 8192]⟩
abbrev S4x24576 : Shape := ⟨2, ![4, 24576]⟩
abbrev S4096 : Shape := ⟨1, ![4096]⟩
abbrev S24x1x4096 : Shape := ⟨3, ![24, 1, 4096]⟩
abbrev S1x4096 : Shape := ⟨2, ![1, 4096]⟩
abbrev S512x4096 : Shape := ⟨2, ![512, 4096]⟩
abbrev S4096x512 : Shape := ⟨2, ![4096, 512]⟩
abbrev S1x1x4096 : Shape := ⟨3, ![1, 1, 4096]⟩
abbrev S512 : Shape := ⟨1, ![512]⟩
abbrev S512x1 : Shape := ⟨2, ![512, 1]⟩

abbrev nBuf : Space → Nat
  | .hbm => 7
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x8192, .bf16⟩
  | .hbm, ⟨2, _⟩ => ⟨S4x24576, .f32⟩
  | .hbm, ⟨3, _⟩ => ⟨S4096, .f32⟩
  | .hbm, ⟨4, _⟩ => ⟨S24x1x4096, .f32⟩
  | .hbm, ⟨5, _⟩ => ⟨S1x4096, .f32⟩
  | .hbm, ⟨6, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S4096x512, .bf16⟩
  | .local _ .vmem, ⟨3, _⟩ => ⟨S4096x512, .bf16⟩
  | .local _ .vmem, ⟨4, _⟩ => ⟨S1x1x4096, .f32⟩
  | .local _ .vmem, ⟨5, _⟩ => ⟨S1x1x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c6_i32 : BitVec 32 := 6#32
  let v18 : BitVec 32 := Scalar.muli v17 c6_i32
  let c5_i32 : BitVec 32 := 5#32
  let v19 : BitVec 32 := Scalar.addi v18 c5_i32
  let c0_i32_4 : BitVec 32 := 0#32
  let c0_i32_5 : BitVec 32 := 0#32
  let c0_i32_6 : BitVec 32 := 0#32
  ![v19.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalRefIdeal.lean ====
abbrev S8192x4096 : Shape := ⟨2, ![8192, 4096]⟩
abbrev S4096x8192 : Shape := ⟨2, ![4096, 8192]⟩
abbrev S4x24576 : Shape := ⟨2, ![4, 24576]⟩
abbrev S4096 : Shape := ⟨1, ![4096]⟩
abbrev S4x1x24576 : Shape := ⟨3, ![4, 1, 24576]⟩
abbrev S4x1x4096 : Shape := ⟨3, ![4, 1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩

abbrev nBuf : Space → Nat
  | .hbm => 35
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x8192, .bf16⟩
  | .hbm, ⟨2, _⟩ => ⟨S4x24576, .f32⟩
  | .hbm, ⟨3, _⟩ => ⟨S4096, .f32⟩
  | .hbm, ⟨4, _⟩ => ⟨S4x1x24576, .f32⟩
  | .hbm, ⟨5, _⟩ => ⟨S4x1x4096, .f32⟩
  | .hbm, ⟨6, _⟩ => ⟨S4x1x4096, .f32⟩
  | .hbm, ⟨7, _⟩ => ⟨S4x1x4096, .f32⟩
  | .hbm, ⟨8, _⟩ => ⟨S4x1x4096, .f32⟩
  | .hbm, ⟨9, _⟩ => ⟨S4x1x4096, .f32⟩
  | .hbm, ⟨10, _⟩ => ⟨S4x1x4096, .f32⟩
  | .hbm, ⟨11, _⟩ => ⟨S4096x8192, .f32⟩
  | .hbm, ⟨12, _⟩ => ⟨S8192x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S4x2048x4096, .f32⟩
  | .hbm, ⟨18, _⟩ => ⟨S4x2048x4096, .f32⟩
  | .hbm, ⟨19, _⟩ => ⟨S_, .f32⟩
  | .hbm, ⟨20, _⟩ => ⟨S4x2048, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S_, .f32⟩
  | .hbm, ⟨26, _⟩ => ⟨S4x2048x1, .f32⟩
  | .hbm, ⟨27, _⟩ => ⟨S4x2048x1, .f32⟩
  | .hbm, ⟨28, _⟩ => ⟨S4x2048x1, .f32⟩
  | .hbm, ⟨29, _⟩ => ⟨S4x2048x4096, .f32⟩
  | .hbm, ⟨30, _⟩ => ⟨S4x2048x4096, .f32⟩
  | .hbm, ⟨31, _⟩ => ⟨S1x1x4096, .f32⟩
  | .hbm, ⟨32, _⟩ => ⟨S4x2048x4096, .f32⟩
  | .hbm, ⟨33, _⟩ => ⟨S4x2048x4096, .f32⟩
  | .hbm, ⟨34, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== Gla.lean ====
abbrev S8192x6656 : Shape := ⟨2, ![8192, 6656]⟩
abbrev S8192x2048 : Shape := ⟨2, ![8192, 2048]⟩
abbrev S8192x16 : Shape := ⟨2, ![8192, 16]⟩
abbrev S1x16x1024 : Shape := ⟨3, ![1, 16, 1024]⟩
abbrev S1x1024 : Shape := ⟨2, ![1, 1024]⟩
abbrev S1x512 : Shape := ⟨2, ![1, 512]⟩
abbrev S16x1024 : Shape := ⟨2, ![16, 1024]⟩
abbrev S1024 : Shape := ⟨1, ![1024]⟩
abbrev S512 : Shape := ⟨1, ![512]⟩
abbrev S256x512 : Shape := ⟨2, ![256, 512]⟩
abbrev S256x2048 : Shape := ⟨2, ![256, 2048]⟩
abbrev S256x16 : Shape := ⟨2, ![256, 16]⟩
abbrev S4x512x256 : Shape := ⟨3, ![4, 512, 256]⟩
abbrev S128x128 : Shape := ⟨2, ![128, 128]⟩
abbrev S128x16 : Shape := ⟨2, ![128, 16]⟩
abbrev S128x1024 : Shape := ⟨2, ![128, 1024]⟩
abbrev S128x256 : Shape := ⟨2, ![128, 256]⟩
abbrev S128x512 : Shape := ⟨2, ![128, 512]⟩
abbrev S1x512x256 : Shape := ⟨3, ![1, 512, 256]⟩
abbrev S512x256 : Shape := ⟨2, ![512, 256]⟩
abbrev S1x256 : Shape := ⟨2, ![1, 256]⟩
abbrev S128 : Shape := ⟨1, ![128]⟩
abbrev S128x1 : Shape := ⟨2, ![128, 1]⟩

abbrev nBuf : Space → Nat
  | .hbm => 12
  | .vmem => 26
  | .smem => 0
  | _ => 0

abbrev bufTy : (tb : Table) → Fin (tcTables nBuf tb) → BufTy
  | .hbm, ⟨0, _⟩ => ⟨S8192x6656, .bf16⟩
  | .hbm, ⟨1, _⟩ => ⟨S8192x2048, .bf16⟩
  | .hbm, ⟨2, _⟩ => ⟨S8192x16, .f32⟩
  | .hbm, ⟨3, _⟩ => ⟨S1x16x1024, .f32⟩
  | .hbm, ⟨4, _⟩ => ⟨S1x1024, .f32⟩
  | .hbm, ⟨5, _⟩ => ⟨S1x512, .f32⟩
  | .hbm, ⟨6, _⟩ => ⟨S16x1024, .f32⟩
  | .hbm, ⟨7, _⟩ => ⟨S1024, .f32⟩
  | .hbm, ⟨8, _⟩ => ⟨S1x1024, .f32⟩
  | .hbm, ⟨9, _⟩ => ⟨S512, .f32⟩
  | .hbm, ⟨10, _⟩ => ⟨S1x512, .f32⟩
  | .hbm, ⟨11, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S256x512, .bf16⟩
  | .local _ .vmem, ⟨13, _⟩ => ⟨S256x512, .bf16⟩
  | .local _ .vmem, ⟨14, _⟩ => ⟨S256x512, .bf16⟩
  | .local _ .vmem, ⟨15, _⟩ => ⟨S256x512, .bf16⟩
  | .local _ .vmem, ⟨16, _⟩ => ⟨S256x2048, .bf16⟩
  | .local _ .vmem, ⟨17, _⟩ => ⟨S256x2048, .bf16⟩
  | .local _ .vmem, ⟨18, _⟩ => ⟨S256x16, .f32⟩
  | .local _ .vmem, ⟨19, _⟩ => ⟨S256x16, .f32⟩
  | .local _ .vmem, ⟨20, _⟩ => ⟨S16x1024, .f32⟩
  | .local _ .vmem, ⟨21, _⟩ => ⟨S1x1024, .f32⟩
  | .local _ .vmem, ⟨22, _⟩ => ⟨S1x512, .f32⟩
  | .local _ .vmem, ⟨23, _⟩ => ⟨S256x2048, .bf16⟩
  | .local _ .vmem, ⟨24, _⟩ => ⟨S256x2048, .bf16⟩
  | .local _ .vmem, ⟨25, _⟩ => ⟨S4x512x256, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c5_i32 : BitVec 32 := 5#32
  let c0_i32 : BitVec 32 := 0#32
  ![v1.toNat, c5_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c6_i32 : BitVec 32 := 6#32
  let c0_i32 : BitVec 32 := 0#32
  ![v1.toNat, c6_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c7_i32 : BitVec 32 := 7#32
  let c0_i32 : BitVec 32 := 0#32
  ![v1.toNat, c7_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c8_i32_0 : BitVec 32 := 8#32
  let c0_i32 : BitVec 32 := 0#32
  ![v1.toNat, c8_i32_0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c9_i32 : BitVec 32 := 9#32
  let c0_i32 : BitVec 32 := 0#32
  ![v1.toNat, c9_i32.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c10_i32 : BitVec 32 := 10#32
  let c0_i32 : BitVec 32 := 0#32
  ![v1.toNat, c10_i32.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c11_i32 : BitVec 32 := 11#32
  let c0_i32 : BitVec 32 := 0#32
  ![v1.toNat, c11_i32.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c12_i32 : BitVec 32 := 12#32
  let c0_i32 : BitVec 32 := 0#32
  ![v1.toNat, c12_i32.toNat]

def cc0_transform_8 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S16x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S256x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Proof.MatGlow.lean ====
/-
  The projection `h1 @ w_in[:, 6656:6672]` (the recurrence's low-rank gate), in the shape of `MatIn`.
-/
module

public import proofs.«01_k».proof.Proof.Gen.GlowIdeal.Value
public import proofs.«01_k».proof.Proof.Gen.GlowRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.GlowIdeal.MatValue

open Idealize.ShloMosaic Idealize.ShloMosaic.TcCoe Idealize.SL.Sem
open Idealize.ShloMosaic.Pipeline (Dat)
open Cert.GlowIdeal Cert.GlowIdeal.Gen

variable (m : (ℓ : Loc nD τ sig) → Buf (Elt Ideal) ℓ)

/-- The reference's product, the columns this call computes. -/
def REF (X : FVec Ideal Cert.GlowRefIdeal.S8192x4096 .bf16) (W : FVec Ideal Cert.GlowRefIdeal.S1x4096x8720 .f32) :
    FVec Ideal Cert.GlowRefIdeal.S8192x16 .f32 :=
  (extractStridedSlice Cert.GlowRefIdeal.S8192x16 ![0, 6656]
    (Host.dotGeneral Cert.GlowRefIdeal.dot_S8192x4096_S4096x8720_S8192x8720_1_0_0_1_n_n none
      (extf .f32 X Cert.GlowRefIdeal.Gen.bitsLt_bf16_f32)
      (shapeCast _ W Cert.GlowRefIdeal.Gen.shapeCasts_S1x4096x8720_S4096x8720))
    Cert.GlowRefIdeal.Gen.slices_S8192x8720_S8192x16_0_6656)

theorem idx : ∀ t : Fin cfg0.N, win0_0.index t = ![t.val % 8, 0] ∧ win0_1.index t = ![6656 + t.val / 8 * 16, 0]
    ∧ win0_2.index t = ![t.val % 8, t.val / 8] :=
  (by decide +kernel : ∀ t : Fin grid0.N, _)

/-- Where the weight block's rows lie. -/
theorem emb1_0 (t : Fin cfg0.N) (y : ((cfg0.win 1).xblock (cfg0.grid.coords t)).Idx) :
    (((View.whole main_v1).slice (win0_1.rect t)).emb y (0 : Fin 2) : ℕ) = 6656 + t.val / 8 * 16 + ((y (0 : Fin 2)).val : ℕ) := by
  show win0_1.index t (0 : Fin 2) + 1 * (y (0 : Fin 2)).val = _
  rw [(idx t).2.1, Nat.one_mul]
  rfl

theorem emb1_1 (t : Fin cfg0.N) (y : ((cfg0.win 1).xblock (cfg0.grid.coords t)).Idx) :
    (((View.whole main_v1).slice (win0_1.rect t)).emb y (1 : Fin 2) : ℕ) = ((y (1 : Fin 2)).val : ℕ) := by
  show win0_1.index t (1 : Fin 2) + 1 * (y (1 : Fin 2)).val = _
  rw [(idx t).2.1, Nat.one_mul]
  exact Nat.zero_add _

/-- The weight block does not move inside a column. -/
theorem blk_same (c : Dev nD) (t t' : Fin cfg0.N) (h : t.val / 8 = t'.val / 8) : iblk m c 1 t = iblk m c 1 t' := by
  funext y
  blk_simp [iblk]
  congr 1
  funext a
  apply Fin.ext
  match a with
  | ⟨0, _⟩ => exact (emb1_0 t y).trans (by rw [h]; exact (emb1_0 t' y).symm)
  | ⟨1, _⟩ => exact (emb1_1 t y).trans (emb1_1 t' y).symm

/-- What the scratch holds after a point: the weight block of the point's column. -/
theorem scr (c : Dev nD) : ∀ (n : ℕ) (h : n < cfg0.N), (outsAt0 m c n h).2 = fun y => iblk m c 1 ⟨n, h⟩ y := by
  intro n
  induction n with
  | zero =>
    intro h
    rw [outsAt0_A m c ⟨0, h⟩ rfl]
    funext y
    dsimp only
    frame_out
    pointwise [k0_pay1]
  | succ n ih =>
    intro h
    by_cases h0 : (n + 1) % 8 = 0
    · rw [outsAt0_A m c ⟨n + 1, h⟩ h0]
      funext y
      dsimp only
      frame_out
      pointwise [k0_pay1]
    · rw [outsAt0_B m c ⟨n + 1, h⟩ h0]
      dsimp only [sout0_B_0]
      show (outsAt0 m c n _).2 = _
      rw [ih, blk_same m c ⟨n, _⟩ ⟨n + 1, h⟩ (by dsimp only; omega)]

theorem rd (x : Vec Ideal S16x4096 .bf16) :
    (View.whole cc0_scratch0).read (Elt Ideal) ((Memref.isWhole_whole (κ := .tc) cc0_scratch0).unread x) = x :=
  (Memref.isWhole_whole (κ := .tc) cc0_scratch0).read_unread x

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  by_cases h0 : t.val % 8 = 0
  · rw [outsAt0_A m c t h0]
    dsimp only
    frame_out
    pointwise [k0_pay1, k0_pay2, REF]
    blk_point [iblk, V, idx t]
    · exact emb1_1 t _
    · exact (emb1_0 t _).trans (by exact Nat.add_assoc _ _ _)
  · have hs := scr m c (t.val - 1) (Nat.lt_of_le_of_lt (Nat.sub_le _ _) t.isLt)
    rw [blk_same m c ⟨t.val - 1, _⟩ t (by dsimp only; omega)] at hs
    rw [outsAt0_B m c t h0, hs]
    dsimp only
    frame_out
    pointwise [k0_pay1, k0_pay2, REF, rd]
    blk_point [iblk, V, idx t]
    · exact emb1_1 t _
    · exact (emb1_0 t _).trans (by exact Nat.add_assoc _ _ _)

end Cert.GlowIdeal.MatValue

end
-- ==== Proof.MatGout.lean ====
/-
  The projection `h1 @ w_in[:, 6672:]` (the recurrence's output gate), in the shape of `MatIn`.
-/
module

public import proofs.«01_k».proof.Proof.Gen.GoutIdeal.Value
public import proofs.«01_k».proof.Proof.Gen.GoutRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.GoutIdeal.MatValue

open Idealize.ShloMosaic Idealize.ShloMosaic.TcCoe Idealize.SL.Sem
open Idealize.ShloMosaic.Pipeline (Dat)
open Cert.GoutIdeal Cert.GoutIdeal.Gen

variable (m : (ℓ : Loc nD τ sig) → Buf (Elt Ideal) ℓ)

/-- The reference's product, the columns this call computes. -/
def REF (X : FVec Ideal Cert.GoutRefIdeal.S8192x4096 .bf16) (W : FVec Ideal Cert.GoutRefIdeal.S1x4096x8720 .f32) :
    FVec Ideal Cert.GoutRefIdeal.S8192x2048 .bf16 :=
  truncf .bf16 (extractStridedSlice Cert.GoutRefIdeal.S8192x2048 ![0, 6672]
    (Host.dotGeneral Cert.GoutRefIdeal.dot_S8192x4096_S4096x8720_S8192x8720_1_0_0_1_n_n none
      (extf .f32 X Cert.GoutRefIdeal.Gen.bitsLt_bf16_f32)
      (shapeCast _ W Cert.GoutRefIdeal.Gen.shapeCasts_S1x4096x8720_S4096x8720))
    Cert.GoutRefIdeal.Gen.slices_S8192x8720_S8192x2048_0_6672) Cert.GoutRefIdeal.Gen.bitsLt_bf16_f32

theorem idx : ∀ t : Fin cfg0.N, win0_0.index t = ![t.val % 8, 0] ∧ win0_1.index t = ![6672 + t.val / 8 * 512, 0]
    ∧ win0_2.index t = ![t.val % 8, t.val / 8] :=
  (by decide +kernel : ∀ t : Fin grid0.N, _)

/-- Where the weight block's rows lie. -/
theorem emb1_0 (t : Fin cfg0.N) (y : ((cfg0.win 1).xblock (cfg0.grid.coords t)).Idx) :
    (((View.whole main_v1).slice (win0_1.rect t)).emb y (0 : Fin 2) : ℕ) = 6672 + t.val / 8 * 512 + ((y (0 : Fin 2)).val : ℕ) := by
  show win0_1.index t (0 : Fin 2) + 1 * (y (0 : Fin 2)).val = _
  rw [(idx t).2.1, Nat.one_mul]
  rfl

theorem emb1_1 (t : Fin cfg0.N) (y : ((cfg0.win 1).xblock (cfg0.grid.coords t)).Idx) :
    (((View.whole main_v1).slice (win0_1.rect t)).emb y (1 : Fin 2) : ℕ) = ((y (1 : Fin 2)).val : ℕ) := by
  show win0_1.index t (1 : Fin 2) + 1 * (y (1 : Fin 2)).val = _
  rw [(idx t).2.1, Nat.one_mul]
  exact Nat.zero_add _

/-- The weight block does not move inside a column. -/
theorem blk_same (c : Dev nD) (t t' : Fin cfg0.N) (h : t.val / 8 = t'.val / 8) : iblk m c 1 t = iblk m c 1 t' := by
  funext y
  blk_simp [iblk]
  congr 1
  funext a
  apply Fin.ext
  match a with
  | ⟨0, _⟩ => exact (emb1_0 t y).trans (by rw [h]; exact (emb1_0 t' y).symm)
  | ⟨1, _⟩ => exact (emb1_1 t y).trans (emb1_1 t' y).symm

/-- What the scratch holds after a point: the weight block of the point's column. -/
theorem scr (c : Dev nD) : ∀ (n : ℕ) (h : n < cfg0.N), (outsAt0 m c n h).2 = fun y => iblk m c 1 ⟨n, h⟩ y := by
  intro n
  induction n with
  | zero =>
    intro h
    rw [outsAt0_A m c ⟨0, h⟩ rfl]
    funext y
    dsimp only
    frame_out
    pointwise [k0_pay1]
  | succ n ih =>
    intro h
    by_cases h0 : (n + 1) % 8 = 0
    · rw [outsAt0_A m c ⟨n + 1, h⟩ h0]
      funext y
      dsimp only
      frame_out
      pointwise [k0_pay1]
    · rw [outsAt0_B m c ⟨n + 1, h⟩ h0]
      dsimp only [sout0_B_0]
      show (outsAt0 m c n _).2 = _
      rw [ih, blk_same m c ⟨n, _⟩ ⟨n + 1, h⟩ (by dsimp only; omega)]

theorem rd (x : Vec Ideal S512x4096 .bf16) :
    (View.whole cc0_scratch0).read (Elt Ideal) ((Memref.isWhole_whole (κ := .tc) cc0_scratch0).unread x) = x :=
  (Memref.isWhole_whole (κ := .tc) cc0_scratch0).read_unread x

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  by_cases h0 : t.val % 8 = 0
  · rw [outsAt0_A m c t h0]
    dsimp only
    frame_out
    pointwise [k0_pay1, k0_pay2, REF]
    blk_point [iblk, V, idx t]
    · exact emb1_1 t _
    · exact (emb1_0 t _).trans (by exact Nat.add_assoc _ _ _)
  · have hs := scr m c (t.val - 1) (Nat.lt_of_le_of_lt (Nat.sub_le _ _) t.isLt)
    rw [blk_same m c ⟨t.val - 1, _⟩ t (by dsimp only; omega)] at hs
    rw [outsAt0_B m c t h0, hs]
    dsimp only
    frame_out
    pointwise [k0_pay1, k0_pay2, REF, rd]
    blk_point [iblk, V, idx t]
    · exact emb1_1 t _
    · exact (emb1_0 t _).trans (by exact Nat.add_assoc _ _ _)

end Cert.GoutIdeal.MatValue

end
-- ==== Proof.MatIn.lean ====
/-
  The projection `h1 @ w_in[:, :6656]` of the queries, keys, values and gates: the kernel keeps one row block of the
  transposed weight in its scratch for the eight row blocks of `h1` that use it.
-/
module

public import proofs.«01_k».proof.Proof.Gen.InIdeal.Value
public import proofs.«01_k».proof.Proof.Gen.InRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.InIdeal.MatValue

open Idealize.ShloMosaic Idealize.ShloMosaic.TcCoe Idealize.SL.Sem
open Idealize.ShloMosaic.Pipeline (Dat)
open Cert.InIdeal Cert.InIdeal.Gen

variable (m : (ℓ : Loc nD τ sig) → Buf (Elt Ideal) ℓ)

/-- The reference's product, the columns this call computes. -/
def REF (X : FVec Ideal Cert.InRefIdeal.S8192x4096 .bf16) (W : FVec Ideal Cert.InRefIdeal.S1x4096x8720 .f32) :
    FVec Ideal Cert.InRefIdeal.S8192x6656 .bf16 :=
  truncf .bf16 (extractStridedSlice Cert.InRefIdeal.S8192x6656 ![0, 0]
    (Host.dotGeneral Cert.InRefIdeal.dot_S8192x4096_S4096x8720_S8192x8720_1_0_0_1_n_n none
      (extf .f32 X Cert.InRefIdeal.Gen.bitsLt_bf16_f32)
      (shapeCast _ W Cert.InRefIdeal.Gen.shapeCasts_S1x4096x8720_S4096x8720))
    Cert.InRefIdeal.Gen.slices_S8192x8720_S8192x6656_0_0) Cert.InRefIdeal.Gen.bitsLt_bf16_f32

theorem idx : ∀ t : Fin cfg0.N, win0_0.index t = ![t.val % 8, 0] ∧ win0_1.index t = ![0 + t.val / 8 * 512, 0]
    ∧ win0_2.index t = ![t.val % 8, t.val / 8] :=
  (by decide +kernel : ∀ t : Fin grid0.N, _)

/-- Where the weight block's rows lie. -/
theorem emb1_0 (t : Fin cfg0.N) (y : ((cfg0.win 1).xblock (cfg0.grid.coords t)).Idx) :
    (((View.whole main_v1).slice (win0_1.rect t)).emb y (0 : Fin 2) : ℕ) = 0 + t.val / 8 * 512 + ((y (0 : Fin 2)).val : ℕ) := by
  show win0_1.index t (0 : Fin 2) + 1 * (y (0 : Fin 2)).val = _
  rw [(idx t).2.1, Nat.one_mul]
  rfl

theorem emb1_1 (t : Fin cfg0.N) (y : ((cfg0.win 1).xblock (cfg0.grid.coords t)).Idx) :
    (((View.whole main_v1).slice (win0_1.rect t)).emb y (1 : Fin 2) : ℕ) = ((y (1 : Fin 2)).val : ℕ) := by
  show win0_1.index t (1 : Fin 2) + 1 * (y (1 : Fin 2)).val = _
  rw [(idx t).2.1, Nat.one_mul]
  exact Nat.zero_add _

/-- The weight block does not move inside a column. -/
theorem blk_same (c : Dev nD) (t t' : Fin cfg0.N) (h : t.val / 8 = t'.val / 8) : iblk m c 1 t = iblk m c 1 t' := by
  funext y
  blk_simp [iblk]
  congr 1
  funext a
  apply Fin.ext
  match a with
  | ⟨0, _⟩ => exact (emb1_0 t y).trans (by rw [h]; exact (emb1_0 t' y).symm)
  | ⟨1, _⟩ => exact (emb1_1 t y).trans (emb1_1 t' y).symm

/-- What the scratch holds after a point: the weight block of the point's column. -/
theorem scr (c : Dev nD) : ∀ (n : ℕ) (h : n < cfg0.N), (outsAt0 m c n h).2 = fun y => iblk m c 1 ⟨n, h⟩ y := by
  intro n
  induction n with
  | zero =>
    intro h
    rw [outsAt0_A m c ⟨0, h⟩ rfl]
    funext y
    dsimp only
    frame_out
    pointwise [k0_pay1]
  | succ n ih =>
    intro h
    by_cases h0 : (n + 1) % 8 = 0
    · rw [outsAt0_A m c ⟨n + 1, h⟩ h0]
      funext y
      dsimp only
      frame_out
      pointwise [k0_pay1]
    · rw [outsAt0_B m c ⟨n + 1, h⟩ h0]
      dsimp only [sout0_B_0]
      show (outsAt0 m c n _).2 = _
      rw [ih, blk_same m c ⟨n, _⟩ ⟨n + 1, h⟩ (by dsimp only; omega)]

theorem rd (x : Vec Ideal S512x4096 .bf16) :
    (View.whole cc0_scratch0).read (Elt Ideal) ((Memref.isWhole_whole (κ := .tc) cc0_scratch0).unread x) = x :=
  (Memref.isWhole_whole (κ := .tc) cc0_scratch0).read_unread x

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  by_cases h0 : t.val % 8 = 0
  · rw [outsAt0_A m c t h0]
    dsimp only
    frame_out
    pointwise [k0_pay1, k0_pay2, REF]
    blk_point [iblk, V, idx t]
    · exact emb1_1 t _
    · exact (emb1_0 t _).trans (by rw [Nat.zero_add]; rfl)
  · have hs := scr m c (t.val - 1) (Nat.lt_of_le_of_lt (Nat.sub_le _ _) t.isLt)
    rw [blk_same m c ⟨t.val - 1, _⟩ t (by dsimp only; omega)] at hs
    rw [outsAt0_B m c t h0, hs]
    dsimp only
    frame_out
    pointwise [k0_pay1, k0_pay2, REF, rd]
    blk_point [iblk, V, idx t]
    · exact emb1_1 t _
    · exact (emb1_0 t _).trans (by rw [Nat.zero_add]; rfl)

end Cert.InIdeal.MatValue

end
-- ==== Proof.MatOut.lean ====
/-
  The output projection `x + gate1 * (concat(attention, recurrence) @ w_out)`: the kernel keeps one column block of the
  weight in its scratch, and adds the two halves' products instead of concatenating.
-/
module

public import proofs.«01_k».proof.Proof.Gen.OutIdeal.Value
public import proofs.«01_k».proof.Proof.Gen.OutRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.OutIdeal.MatValue

open Idealize.ShloMosaic Idealize.ShloMosaic.TcCoe Idealize.SL.Sem
open Idealize.ShloMosaic.Pipeline (Dat)
open Cert.OutIdeal Cert.OutIdeal.Gen

variable (m : (ℓ : Loc nD τ sig) → Buf (Elt Ideal) ℓ)

/-- The reference's output projection with the gated residual. -/
def REF (A : FVec Ideal Cert.OutRefIdeal.S8192x2048 .bf16) (G : FVec Ideal Cert.OutRefIdeal.S8192x2048 .bf16)
    (W : FVec Ideal Cert.OutRefIdeal.S1x4096x4096 .f32) (X : FVec Ideal Cert.OutRefIdeal.S4x2048x4096 .f32)
    (M : FVec Ideal Cert.OutRefIdeal.S4x24576 .f32) : FVec Ideal Cert.OutRefIdeal.S8192x4096 .f32 :=
  shapeCast _ (addf X (mulf
    (broadcastInDim Cert.OutRefIdeal.S4x2048x4096 ![0, 1, 2] Cert.OutRefIdeal.Gen.bcast_S4x1x4096_S4x2048x4096_0_1_2
      (extractStridedSlice Cert.OutRefIdeal.S4x1x4096 ![0, 0, 8192]
        (broadcastInDim Cert.OutRefIdeal.S4x1x24576 ![0, 2] Cert.OutRefIdeal.Gen.bcast_S4x24576_S4x1x24576_0_2 M)
        Cert.OutRefIdeal.Gen.slices_S4x1x24576_S4x1x4096_0_0_8192))
    (shapeCast _ (Host.dotGeneral Cert.OutRefIdeal.dot_S8192x4096_S4096x4096_S8192x4096_1_0_0_1_n_n none
      (extf .f32 (concatenate Cert.OutRefIdeal.S8192x4096 1
        [⟨Cert.OutRefIdeal.S8192x2048, A⟩, ⟨Cert.OutRefIdeal.S8192x2048, G⟩]
        Cert.OutRefIdeal.Gen.concatenates_S8192x2048_S8192x2048_S8192x4096_d1) Cert.OutRefIdeal.Gen.bitsLt_bf16_f32)
      (shapeCast _ W Cert.OutRefIdeal.Gen.shapeCasts_S1x4096x4096_S4096x4096))
      Cert.OutRefIdeal.Gen.shapeCasts_S8192x4096_S4x2048x4096))) Cert.OutRefIdeal.Gen.shapeCasts_S4x2048x4096_S8192x4096

theorem idx : ∀ t : Fin cfg0.N, win0_0.index t = ![t.val % 8, 0] ∧ win0_1.index t = ![t.val % 8, 0]
    ∧ win0_2.index t = ![0, t.val / 8] ∧ win0_3.index t = ![t.val % 8, t.val / 8]
    ∧ win0_4.index t = ![t.val % 8 / 2 * 6 + 2, 0, t.val / 8] ∧ win0_5.index t = ![t.val % 8, t.val / 8] :=
  (by decide +kernel : ∀ t : Fin grid0.N, _)

/-- The weight block does not move inside a column. -/
theorem blk_same (c : Dev nD) (t t' : Fin cfg0.N) (h : t.val / 8 = t'.val / 8) : iblk m c 2 t = iblk m c 2 t' := by
  funext y
  blk_simp [iblk]
  congr 1
  have h1 := (idx t).2.2.1
  have h2 := (idx t').2.2.1
  rw [h] at h1
  blk_ext [h1, h2]

/-- What the scratch holds after a point: the weight block of the point's column. -/
theorem scr (c : Dev nD) : ∀ (n : ℕ) (h : n < cfg0.N), (outsAt0 m c n h).2 = fun y => iblk m c 2 ⟨n, h⟩ y := by
  intro n
  induction n with
  | zero =>
    intro h
    rw [outsAt0_A m c ⟨0, h⟩ rfl]
    funext y
    dsimp only
    frame_out
    pointwise [k0_pay1]
  | succ n ih =>
    intro h
    by_cases h0 : (n + 1) % 8 = 0
    · rw [outsAt0_A m c ⟨n + 1, h⟩ h0]
      funext y
      dsimp only
      frame_out
      pointwise [k0_pay1]
    · rw [outsAt0_B m c ⟨n + 1, h⟩ h0]
      dsimp only [sout0_B_0]
      show (outsAt0 m c n _).2 = _
      rw [ih, blk_same m c ⟨n, _⟩ ⟨n + 1, h⟩ (by dsimp only; omega)]

theorem rd (x : Vec Ideal S4096x512 .bf16) :
    (View.whole cc0_scratch0).read (Elt Ideal) ((Memref.isWhole_whole (κ := .tc) cc0_scratch0).unread x) = x :=
  (Memref.isWhole_whole (κ := .tc) cc0_scratch0).read_unread x

/-- The reference at an index. -/
theorem REF_at (A : FVec Ideal S8192x2048 .bf16) (G : FVec Ideal S8192x2048 .bf16) (W : FVec Ideal S1x4096x4096 .f32)
    (X : FVec Ideal S4x2048x4096 .f32) (M : FVec Ideal S4x24576 .f32) (i : Fin 8192) (j : Fin 4096) :
    REF A G W X M (ix2 i j) = X (ix3 ⟨i.val / 2048, by omega⟩ ⟨i.val % 2048, by omega⟩ j)
      + M (ix2 ⟨i.val / 2048, by omega⟩ ⟨8192 + j.val, by omega⟩)
        * ((∑ k : Fin 2048, A (ix2 i k) * W (ix3 0 ⟨k.val, by omega⟩ j))
          + ∑ k : Fin 2048, G (ix2 i k) * W (ix3 0 ⟨2048 + k.val, by omega⟩ j)) := by
  pointwise [REF]

theorem r0 (c : Dev nD) (t : Fin cfg0.N) (a : Fin 1024) (k : Fin 2048) (I : Fin 8192) (hI : I.val = t.val % 8 * 1024 + a.val) :
    (iblk m c 0 t : Vec Ideal S1024x2048 .bf16) (ix2 a k) = (m ((c : Thread nD τ).loc main_arg0)) (ix2 I k) := by
  blk_ext [iblk, V, idx t]

theorem r1 (c : Dev nD) (t : Fin cfg0.N) (a : Fin 1024) (k : Fin 2048) (I : Fin 8192) (hI : I.val = t.val % 8 * 1024 + a.val) :
    (iblk m c 1 t : Vec Ideal S1024x2048 .bf16) (ix2 a k) = (m ((c : Thread nD τ).loc main_arg1)) (ix2 I k) := by
  blk_ext [iblk, V, idx t]

theorem V2 (c : Dev nD) (i j : Fin 4096) : V m c main_v2 (ix2 i j) = (m ((c : Thread nD τ).loc main_arg2)) (ix3 0 i j) := by
  entry_read
  pointwise

theorem V0 (c : Dev nD) (i : Fin 8192) (j : Fin 4096) : V m c main_v0 (ix2 i j)
    = (m ((c : Thread nD τ).loc main_arg3)) (ix3 ⟨i.val / 2048, by omega⟩ ⟨i.val % 2048, by omega⟩ j) := by
  entry_read
  pointwise

theorem V1 (c : Dev nD) (i : Fin 24) (j : Fin 4096) : V m c main_v1 (ix3 i 0 j)
    = (m ((c : Thread nD τ).loc main_arg4)) (ix2 ⟨i.val / 6, by omega⟩ ⟨i.val % 6 * 4096 + j.val, by omega⟩) := by
  entry_read
  pointwise

theorem r2 (c : Dev nD) (t : Fin cfg0.N) (k : Fin 4096) (b : Fin 512) (J : Fin 4096) (hJ : J.val = t.val / 8 * 512 + b.val) :
    (iblk m c 2 t : Vec Ideal S4096x512 .f32) (ix2 k b) = (m ((c : Thread nD τ).loc main_arg2)) (ix3 0 k J) := by
  rw [← V2 m c k J]
  blk_ext [iblk, idx t]

theorem r3 (c : Dev nD) (t : Fin cfg0.N) (a : Fin 1024) (b : Fin 512) (I : Fin 8192) (J : Fin 4096)
    (hI : I.val = t.val % 8 * 1024 + a.val) (hJ : J.val = t.val / 8 * 512 + b.val) :
    (iblk m c 3 t : Vec Ideal S1024x512 .f32) (ix2 a b)
      = (m ((c : Thread nD τ).loc main_arg3)) (ix3 ⟨I.val / 2048, by omega⟩ ⟨I.val % 2048, by omega⟩ J) := by
  rw [← V0 m c I J]
  blk_ext [iblk, idx t]

theorem r4' (c : Dev nD) (t : Fin cfg0.N) (b : Fin 512) (R : Fin 24) (J : Fin 4096)
    (hR : R.val = t.val % 8 / 2 * 6 + 2) (hJ : J.val = t.val / 8 * 512 + b.val) :
    (iblk m c 4 t : Vec Ideal S1x1x512 .f32) (ix3 0 0 b) = V m c main_v1 (ix3 R 0 J) := by
  blk_ext [iblk, idx t]

theorem r4 (c : Dev nD) (t : Fin cfg0.N) (b : Fin 512) (I : Fin 8192) (J : Fin 4096) (a : Fin 1024)
    (hI : I.val = t.val % 8 * 1024 + a.val) (hJ : J.val = t.val / 8 * 512 + b.val) :
    (iblk m c 4 t : Vec Ideal S1x1x512 .f32) (ix3 0 0 b)
      = (m ((c : Thread nD τ).loc main_arg4)) (ix2 ⟨I.val / 2048, by omega⟩ ⟨8192 + J.val, by omega⟩) := by
  rw [r4' m c t b ⟨t.val % 8 / 2 * 6 + 2, by omega⟩ J rfl hJ, V1]
  congr 1
  refine (ix2_inj ..).2 ⟨Fin.ext ?_, Fin.ext ?_⟩ <;> dsimp only <;> omega

/-- The kernel's arithmetic at an index, over the blocks of a point. -/
theorem pay_at (x0 x1 : Vec Ideal S1024x2048 .bf16) (w : Vec Ideal S4096x512 .bf16) (xb : Vec Ideal S1024x512 .f32)
    (g : Vec Ideal S1x1x512 .f32) (w0 w1 : Vec Ideal S2048x512 .bf16)
    (h0 : ∀ (k : Fin 2048) (b : Fin 512), w0 (ix2 k b) = w (ix2 ⟨k.val, by omega⟩ b))
    (h1 : ∀ (k : Fin 2048) (b : Fin 512), w1 (ix2 k b) = w (ix2 ⟨2048 + k.val, by omega⟩ b)) (a : Fin 1024) (b : Fin 512) :
    k0_pay2 (F := Ideal) x0 w0 x1 w1 xb g (ix2 a b) = xb (ix2 a b) + g (ix3 0 0 b)
      * ((∑ k : Fin 2048, x0 (ix2 a k) * w (ix2 ⟨k.val, by omega⟩ b))
        + ∑ k : Fin 2048, x1 (ix2 a k) * w (ix2 ⟨2048 + k.val, by omega⟩ b)) := by
  pointwise [k0_pay2, h0, h1]

/-- … and the reference's over the same blocks. -/
theorem ref_blk (c : Dev nD) (t : Fin cfg0.N) (a : Fin 1024) (b : Fin 512) (I : Fin 8192) (J : Fin 4096)
    (hI : I.val = t.val % 8 * 1024 + a.val) (hJ : J.val = t.val / 8 * 512 + b.val)
    (w : FVec Ideal S4096x512 .bf16) (hw : w = fun y => iblk m c 2 t y)
    (x0 x1 : FVec Ideal S1024x2048 .bf16) (xb : FVec Ideal S1024x512 .f32) (g : FVec Ideal S1x1x512 .f32)
    (hx0 : x0 = iblk m c 0 t) (hx1 : x1 = iblk m c 1 t) (hxb : xb = iblk m c 3 t) (hg : g = iblk m c 4 t) :
    xb (ix2 a b) + g (ix3 0 0 b)
      * ((∑ k : Fin 2048, x0 (ix2 a k) * w (ix2 ⟨k.val, by omega⟩ b))
        + ∑ k : Fin 2048, x1 (ix2 a k) * w (ix2 ⟨2048 + k.val, by omega⟩ b))
    = REF (m ((c : Thread nD τ).loc main_arg0)) (m ((c : Thread nD τ).loc main_arg1)) (m ((c : Thread nD τ).loc main_arg2))
        (m ((c : Thread nD τ).loc main_arg3)) (m ((c : Thread nD τ).loc main_arg4)) (ix2 I J) := by
  rw [REF_at]
  subst hw hx0 hx1 hxb hg
  refine Ideal.add_congr (r3 m c t a b I J hI hJ) (Ideal.mul_congr (r4 m c t b I J a hI hJ) (Ideal.add_congr ?_ ?_))
  · exact Finset.sum_congr rfl fun k _ => Ideal.mul_congr (r0 m c t a k I hI) (r2 m c t _ b J hJ)
  · exact Finset.sum_congr rfl fun k _ => Ideal.mul_congr (r1 m c t a k I hI) (r2 m c t _ b J hJ)

theorem emb_eq (t : Fin cfg0.N) (a : Fin 1024) (b : Fin 512) (I : Fin 8192) (J : Fin 4096)
    (hI : I.val = t.val % 8 * 1024 + a.val) (hJ : J.val = t.val / 8 * 512 + b.val) :
    (((cfg0.win 5).blk t).view.emb (ix2 a b : S1024x512.Idx) : S8192x4096.Idx) = ix2 I J := by
  blk_ext [idx t]

theorem hz : (![0, 0] : Fin 2 → ℕ) = fun _ => 0 := funext fun a => by fin_cases a <;> rfl

/-- A part of the scratch read right after the scratch was stored whole. -/
theorem cov (X : Vec Ideal S4096x512 .bf16) (f) (h : ∀ a, (![0, 0] : Fin 2 → ℕ) a + S4096x512.size a ≤ S4096x512.size a) :
    VS0_0.read (Elt Ideal) (VS0_0.writes (Elt Ideal) f [⟨Rect.unit (s := S4096x512) ![0, 0] S4096x512.size h, X⟩]) = X := by
  rw [View.read_writes_eq_canon _ _ _ (View.cover_of_tiledL _ S4096x512.size (by sl_kernel_rfl)), View.canon_unit_zero hz]

theorem out_A (c : Dev nD) (t : Fin cfg0.N) (h0 : t.val % 8 = 0) (a : Fin 1024) (b : Fin 512) (I : Fin 8192) (J : Fin 4096)
    (hI : I.val = t.val % 8 * 1024 + a.val) (hJ : J.val = t.val / 8 * 512 + b.val) :
    (outsAt0 m c t.val t.isLt).1 (ix2 a b)
    = REF (m ((c : Thread nD τ).loc main_arg0)) (m ((c : Thread nD τ).loc main_arg1)) (m ((c : Thread nD τ).loc main_arg2))
        (m ((c : Thread nD τ).loc main_arg3)) (m ((c : Thread nD τ).loc main_arg4)) (ix2 I J) := by
  rw [outsAt0_A m c t h0]
  dsimp only
  refine Eq.trans ?_ (ref_blk m c t a b I J hI hJ _ rfl _ _ _ _ rfl rfl rfl rfl)
  frame_out
  refine pay_at _ _ _ _ _ _ _ (fun k b => ?_) (fun k b => ?_) a b
  · sl_unfold_words
    unfold View.readCov
    erw [View.readAt_eq_ld, cov]
    pointwise [k0_pay1]
  · sl_unfold_words
    unfold View.readCov
    erw [View.readAt_eq_ld, cov]
    pointwise [k0_pay1]

theorem out_B (c : Dev nD) (t : Fin cfg0.N) (h0 : ¬t.val % 8 = 0) (a : Fin 1024) (b : Fin 512) (I : Fin 8192) (J : Fin 4096)
    (hI : I.val = t.val % 8 * 1024 + a.val) (hJ : J.val = t.val / 8 * 512 + b.val) :
    (outsAt0 m c t.val t.isLt).1 (ix2 a b)
    = REF (m ((c : Thread nD τ).loc main_arg0)) (m ((c : Thread nD τ).loc main_arg1)) (m ((c : Thread nD τ).loc main_arg2))
        (m ((c : Thread nD τ).loc main_arg3)) (m ((c : Thread nD τ).loc main_arg4)) (ix2 I J) := by
  have hs := scr m c (t.val - 1) (Nat.lt_of_le_of_lt (Nat.sub_le _ _) t.isLt)
  rw [blk_same m c ⟨t.val - 1, _⟩ t (by dsimp only; omega)] at hs
  rw [outsAt0_B m c t h0, hs]
  dsimp only
  refine Eq.trans ?_ (ref_blk m c t a b I J hI hJ _ rfl _ _ _ _ rfl rfl rfl rfl)
  frame_out
  refine pay_at _ _ _ _ _ _ _ (fun k b => ?_) (fun k b => ?_) a b
  · pointwise [rd]
  · pointwise [rd]

theorem final (c : Dev nD) : (dats m 0 c).arrAt 5 cfg0.N
    = REF (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  have hN : t.val < 64 := lt_of_lt_of_eq t.isLt (show cfg0.N = 64 from N_0)
  obtain ⟨a, b, rfl⟩ : ∃ (a : Fin 1024) (b : Fin 512), y = (ix2 a b : S1024x512.Idx) := ⟨y 0, y 1, eq_ix2 (n0 := 1024) (n1 := 512) y⟩
  rw [emb_eq t a b ⟨t.val % 8 * 1024 + a.val, by omega⟩ ⟨t.val / 8 * 512 + b.val, by omega⟩ rfl rfl]
  blk_simp
  rw [after0_5]
  by_cases h0 : t.val % 8 = 0
  · exact out_A m c t h0 a b _ _ rfl rfl
  · exact out_B m c t h0 a b _ _ rfl rfl

end Cert.OutIdeal.MatValue

end
-- ==== Proof.MatPq.lean ====
/-
  The query projection `h2 @ peer_wq`: the kernel keeps one column block of the weight in its scratch for the eight
  row blocks that use it, and each point multiplies its row block by it.
-/
module

public import proofs.«01_k».proof.Proof.Gen.PqIdeal.Value
public import proofs.«01_k».proof.Proof.Gen.PqRefIdeal.Run
public import Idealize.ShloMosaic.Lib.Claim
public import Idealize.ShloMosaic.Lib.Pointwise
public import Idealize.ShloMosaic.Lib.Pipeline.ValueKit

@[expose] public section

set_option maxRecDepth 16384

noncomputable section

namespace Cert.PqIdeal.MatValue

open Idealize.ShloMosaic Idealize.ShloMosaic.TcCoe Idealize.SL.Sem
open Idealize.ShloMosaic.Pipeline (Dat)
open Cert.PqIdeal Cert.PqIdeal.Gen

variable (m : (ℓ : Loc nD τ sig) → Buf (Elt Ideal) ℓ)

/-- The reference's product. -/
def REF (X : FVec Ideal Cert.PqRefIdeal.S8192x4096 .bf16) (W : FVec Ideal Cert.PqRefIdeal.S1x4096x2048 .f32) :
    FVec Ideal Cert.PqRefIdeal.S8192x2048 .f32 :=
  Host.dotGeneral Cert.PqRefIdeal.dot_S8192x4096_S4096x2048_S8192x2048_1_0_0_1_n_n none
    (extf .f32 X Cert.PqRefIdeal.Gen.bitsLt_bf16_f32)
    (shapeCast _ W Cert.PqRefIdeal.Gen.shapeCasts_S1x4096x2048_S4096x2048)

theorem idx : ∀ t : Fin cfg0.N, win0_0.index t = ![t.val % 8, 0] ∧ win0_1.index t = ![0, t.val / 8]
    ∧ win0_2.index t = ![t.val % 8, t.val / 8] :=
  (by decide +kernel : ∀ t : Fin grid0.N, _)

/-- The weight block does not move inside a column. -/
theorem blk_same (c : Dev nD) (t t' : Fin cfg0.N) (h : t.val / 8 = t'.val / 8) : iblk m c 1 t = iblk m c 1 t' := by
  funext y
  blk_simp [iblk]
  congr 1
  have h1 := (idx t).2.1
  have h2 := (idx t').2.1
  rw [h] at h1
  blk_ext [h1, h2]

/-- What the scratch holds after a point: the weight block of the point's column. -/
theorem scr (c : Dev nD) : ∀ (n : ℕ) (h : n < cfg0.N), (outsAt0 m c n h).2 = fun y => iblk m c 1 ⟨n, h⟩ y := by
  intro n
  induction n with
  | zero =>
    intro h
    rw [outsAt0_A m c ⟨0, h⟩ rfl]
    funext y
    dsimp only
    frame_out
    pointwise [k0_pay1]
  | succ n ih =>
    intro h
    by_cases h0 : (n + 1) % 8 = 0
    · rw [outsAt0_A m c ⟨n + 1, h⟩ h0]
      funext y
      dsimp only
      frame_out
      pointwise [k0_pay1]
    · rw [outsAt0_B m c ⟨n + 1, h⟩ h0]
      dsimp only [sout0_B_0]
      show (outsAt0 m c n _).2 = _
      rw [ih, blk_same m c ⟨n, _⟩ ⟨n + 1, h⟩ (by dsimp only; omega)]

theorem rd (x : Vec Ideal S4096x512 .bf16) :
    (View.whole cc0_scratch0).read (Elt Ideal) ((Memref.isWhole_whole (κ := .tc) cc0_scratch0).unread x) = x :=
  (Memref.isWhole_whole (κ := .tc) cc0_scratch0).read_unread x

theorem final (c : Dev nD) : (dats m 0 c).arrAt 2 cfg0.N
    = REF (m ((c : Thread nD τ).loc main_arg0)) (m ((c : Thread nD τ).loc main_arg1)) := by
  refine (dats m 0 c).arrAt_eq_of_covers 2 _ (by decide +kernel) fun t hf y => ?_
  blk_simp
  rw [after0_2]
  by_cases h0 : t.val % 8 = 0
  · rw [outsAt0_A m c t h0]
    dsimp only
    frame_out
    pointwise [k0_pay1, k0_pay2, REF]
    blk_point [iblk, V, idx t]
  · have hs := scr m c (t.val - 1) (Nat.lt_of_le_of_lt (Nat.sub_le _ _) t.isLt)
    rw [blk_same m c ⟨t.val - 1, _⟩ t (by dsimp only; omega)] at hs
    rw [outsAt0_B m c t h0, hs]
    dsimp only
    frame_out
    pointwise [k0_pay1, k0_pay2, REF, rd]
    blk_point [iblk, V, idx t]

end Cert.PqIdeal.MatValue

end
-- ==== Proof.AttnIdealRun.lean ====
module

public import proofs.«01_k».proof.Proof.Gen.AttnIdeal.Regions
public import proofs.«01_k».proof.Proof.Gen.AttnIdeal.Points
public import proofs.«01_k».proof.Proof.Gen.AttnIdeal.Skeleton
public import Idealize.ShloMosaic.Lib.Claim
public import Idealize.ShloMosaic.Lib.Pipeline.RegionsLoop
public import Idealize.ShloMosaic.Lib.Pipeline.FrameBody
public import Idealize.ShloMosaic.Lib.Tactic
public import Idealize.ShloMosaic.Lib.Ring

@[expose] public section

set_option maxRecDepth 16384

/-!
  The two kernels of the sliding-window attention, run one after the other: the table of biases (`bias_table`, one
  point per head) and the attention over it (`swa_attn`, one point per batch and block of queries).
-/

noncomputable section

namespace Cert.AttnIdeal.Run

open Cert.AttnIdeal Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F] [Named F]

/-- The resources: the transfers' own, and counters. -/
abbrev UU : Type := UR sig nD τ × Counters

local notation "𝕄" => MT nD τ sig Unit (Elt F) ℕ UU ℕ

/-- The algebra of the transfers is the left component. -/
abbrev EP : Emb (UR sig nD τ) (MT nD τ sig Unit (Elt F) ℕ UU ℕ) := embL

/-! ## Kernel 0: the body -/

set_option maxHeartbeats 4000000 in
/-- What the body leaves in its result's staging buffer, as pieces, with the run that leaves them: from the inputs at
    `x·` and the result at anything, to the inputs as they were and the result with its pieces written. -/
noncomputable def kernelRun0 (c : Dev nD) (i : grid0.Coords) (arg1 : Memref sig .tc .smem S32x16 .f32) (harg1 : arg1.IsWhole) (arg2 : Memref sig .tc .smem S16 .f32) (harg2 : arg2.IsWhole) (arg3 : Memref sig .tc .vmem S128x256 .i32) (harg3 : arg3.IsWhole) (arg4 : Memref sig .tc .vmem S2x1x128x256 .f32) (harg4 : arg4.IsWhole)
    (x0 : Vec F S32x16 .f32) (x1 : Vec F S16 .f32) (x2 : Vec F S128x256 .i32) :
    { L : List (View.Piece (Elt F) S2x1x128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L)) -∗ K ⟨⟩))
          ⊢ wp frame (wpE (defs₀ (F := F)) Variants.none c none) E (cc0_bias_table i arg1 harg1 arg2 harg2 arg3 harg3 arg4 harg4) K } := by
  refine ⟨?_, fun E K => ?run⟩
  case run =>
    simp only [cc0_bias_table_eq_skeleton]; unfold cc0_bias_table_skel
    simp only [k0_part5_eq_skeleton, k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%d3, %f3, -, H3⟩, Hk⟩
    obtain rfl := harg1.eq_unread hf0; obtain rfl := harg2.eq_unread hf1; obtain rfl := harg3.eq_unread hf2
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    iexists _; iexact H3

/-- The result's staging buffer, as the view its contents are stated through. -/
abbrev VO0 : View sig .tc .vmem S2x1x128x256 .f32 := (Memref.whole cc0_stg3_0 : Memref sig .tc .vmem S2x1x128x256 .f32).view

/-- The pieces cover the result's block. -/
theorem cover0 (c : Dev nD) (i : grid0.Coords) (arg1 : Memref sig .tc .smem S32x16 .f32) (harg1 : arg1.IsWhole) (arg2 : Memref sig .tc .smem S16 .f32) (harg2 : arg2.IsWhole) (arg3 : Memref sig .tc .vmem S128x256 .i32) (harg3 : arg3.IsWhole) (arg4 : Memref sig .tc .vmem S2x1x128x256 .f32) (harg4 : arg4.IsWhole)
    (x0 : Vec F S32x16 .f32) (x1 : Vec F S16 .f32) (x2 : Vec F S128x256 .i32) (y : (S2x1x128x256 : Shape).Idx) :
    ∃ pc ∈ (kernelRun0 c i arg1 harg1 arg2 harg2 arg3 harg3 arg4 harg4 x0 x1 x2).1, y ∈ pc.1.set :=
  View.cover_of_tiledL (kernelRun0 c i arg1 harg1 arg2 harg2 arg3 harg3 arg4 harg4 x0 x1 x2).1 S1x1x128x256.size (by sl_kernel_rfl) y

/-- What the body leaves in the result's block. -/
def out0 (c : Dev nD) (i : grid0.Coords) (arg1 : Memref sig .tc .smem S32x16 .f32) (harg1 : arg1.IsWhole) (arg2 : Memref sig .tc .smem S16 .f32) (harg2 : arg2.IsWhole) (arg3 : Memref sig .tc .vmem S128x256 .i32) (harg3 : arg3.IsWhole) (arg4 : Memref sig .tc .vmem S2x1x128x256 .f32) (harg4 : arg4.IsWhole)
    (x0 : Vec F S32x16 .f32) (x1 : Vec F S16 .f32) (x2 : Vec F S128x256 .i32) : Vec F S2x1x128x256 .f32 :=
  VO0.read (Elt F) (VO0.writes (Elt F) VO0.junk (kernelRun0 c i arg1 harg1 arg2 harg2 arg3 harg3 arg4 harg4 x0 x1 x2).1)

abbrev ms0_0 (t : Fin cfg0.N) : Memref sig .tc .smem S32x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x128x256 .f32 := win0_3.stage (cfg0.slots t 3)
abbrev hs0_3 (t : Fin cfg0.N) : (ms0_3 t).IsWhole := hstage0_3 ((cfg0.slots t 3).cast nbuf0_3)

/-- Window `w`'s block at point `t`, read off its array as the kernel finds it. -/
def iblk0 (V : (c : Dev nD) → (b : Ref sig .tc) → Buf (Elt F) ((c : Thread nD τ).loc b)) (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the result's buffer holds after the body at `t`. -/
def oblk0 (V : (c : Dev nD) → (b : Ref sig .tc) → Buf (Elt F) ((c : Thread nD τ).loc b)) (c : Dev nD) (t : Fin cfg0.N) : Vec F S2x1x128x256 .f32 :=
  out0 c (grid0.coords t) (ms0_0 t) (hs0_0 t) (ms0_1 t) (hs0_1 t) (ms0_2 t) (hs0_2 t) (ms0_3 t) (hs0_3 t) (iblk0 V c 0 t) (iblk0 V c 1 t) (iblk0 V c 2 t)

/-- Between the kernel's ends: the scoped buffers no window stages. -/
abbrev ΦR0 (c : Dev nD) : sProp 𝕄 := Pipeline.scopedRest (Ix := Unit) (Name := ℕ) (U := UU) (Lvl := ℕ) (Val := Elt F) spec0 c

/-- The proof data of kernel 0 entered at `V`. -/
def dat0 (V : (c : Dev nD) → (b : Ref sig .tc) → Buf (Elt F) ((c : Thread nD τ).loc b)) (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => oblk0 V c t
  Φ _ := Pipeline.scopedRest (Ix := Unit) (Name := ℕ) (U := UU) (Lvl := ℕ) (Val := Elt F) spec0 c
  q w := fullShare
  owed _ := 0

section
variable (V : (c : Dev nD) → (b : Ref sig .tc) → Buf (Elt F) ((c : Thread nD τ).loc b))

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = oblk0 V c t := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)

/-- What the obligation hands the body at `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))
/-- and takes back. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl]
  simp only [after0_0, after0_1, after0_2, after0_3]
  iintro ⟨HΦ, Ho, ⟨%d0, H0⟩, ⟨%d1, H1⟩, ⟨%d2, H2⟩, ⟨%d3, H3⟩⟩
  iapply ((kernelRun0 c (grid0.coords t) _ _ _ _ _ _ _ _ (iblk0 V c 0 t) (iblk0 V c 1 t) (iblk0 V c 2 t)).2 Set.univ _)
  isplitl [H0]; · iexact H0
  isplitl [H1]; · iexact H1
  isplitl [H2]; · iexact H2
  isplitl [H3]; · iexists _; iexact H3
  iintro ⟨H0, H1, H2, ⟨%g, H3⟩⟩
  isplitl [HΦ]; · iexact HΦ
  isplitl [Ho]; · iexact Ho
  isplitl [H0]; · iexact H0
  isplitl [H1]; · iexact H1
  isplitl [H2]; · iexact H2
  unfold owns
  iexists _; isplitr; swap; · iexact H3
  unfold oblk0 out0
  ipureintro; exact View.read_writes_of_cover _ _ _ _ _ (cover0 c _ _ _ _ _ _ _ _ _ _ _ _ )

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 V c) (defs₀ (F := F)) Variants.none () Set.univ := fun t => by
  rw [bigSep_W0, bigSep_W0, defs₀_row0]
  exact triple_restated (sound_body0 V c t) rfl .rfl fun _ => .rfl

end

/-! ## Kernel 1: the body -/

set_option maxHeartbeats 4000000 in
/-- What the body leaves in its result's staging buffer, as pieces, with the run that leaves them: from the inputs at
    `x·` and the result at anything, to the inputs as they were and the result with its pieces written. -/
noncomputable def kernelRun1 (c : Dev nD) (i : grid1.Coords) (arg2 : Memref sig .tc .vmem S128x2048 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x2x1024x256 .f32) (harg7 : arg7.IsWhole) (arg8 : Memref sig .tc .vmem S128x2048 .bf16) (harg8 : arg8.IsWhole)
    (x0 : Vec F S128x2048 .bf16) (x1 : Vec F S128x256 .bf16) (x2 : Vec F S128x256 .bf16) (x3 : Vec F S128x256 .bf16) (x4 : Vec F S128x256 .bf16) (x5 : Vec F S1x2x1024x256 .f32) :
    { L : List (View.Piece (Elt F) S128x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L)) -∗ K ⟨⟩))
          ⊢ wp frame (wpE (defs₀ (F := F)) Variants.none c none) E (cc1_swa_attn i arg2 harg2 arg3 harg3 arg4 harg4 arg5 harg5 arg6 harg6 arg7 harg7 arg8 harg8) K } := by
  refine ⟨?_, fun E K => ?run⟩
  case run =>
    simp only [cc1_swa_attn_eq_skeleton]; unfold cc1_swa_attn_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

/-- The result's staging buffer, as the view its contents are stated through. -/
abbrev VO1 : View sig .tc .vmem S128x2048 .bf16 := (Memref.whole cc1_stg6_0 : Memref sig .tc .vmem S128x2048 .bf16).view

/-- The pieces cover the result's block. -/
theorem cover1 (c : Dev nD) (i : grid1.Coords) (arg2 : Memref sig .tc .vmem S128x2048 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x2x1024x256 .f32) (harg7 : arg7.IsWhole) (arg8 : Memref sig .tc .vmem S128x2048 .bf16) (harg8 : arg8.IsWhole)
    (x0 : Vec F S128x2048 .bf16) (x1 : Vec F S128x256 .bf16) (x2 : Vec F S128x256 .bf16) (x3 : Vec F S128x256 .bf16) (x4 : Vec F S128x256 .bf16) (x5 : Vec F S1x2x1024x256 .f32) (y : (S128x2048 : Shape).Idx) :
    ∃ pc ∈ (kernelRun1 c i arg2 harg2 arg3 harg3 arg4 harg4 arg5 harg5 arg6 harg6 arg7 harg7 arg8 harg8 x0 x1 x2 x3 x4 x5).1, y ∈ pc.1.set :=
  View.cover_of_tiledL (kernelRun1 c i arg2 harg2 arg3 harg3 arg4 harg4 arg5 harg5 arg6 harg6 arg7 harg7 arg8 harg8 x0 x1 x2 x3 x4 x5).1 S128x1024.size (by sl_kernel_rfl) y

/-- What the body leaves in the result's block. -/
def out1 (c : Dev nD) (i : grid1.Coords) (arg2 : Memref sig .tc .vmem S128x2048 .bf16) (harg2 : arg2.IsWhole) (arg3 : Memref sig .tc .vmem S128x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S128x256 .bf16) (harg6 : arg6.IsWhole) (arg7 : Memref sig .tc .vmem S1x2x1024x256 .f32) (harg7 : arg7.IsWhole) (arg8 : Memref sig .tc .vmem S128x2048 .bf16) (harg8 : arg8.IsWhole)
    (x0 : Vec F S128x2048 .bf16) (x1 : Vec F S128x256 .bf16) (x2 : Vec F S128x256 .bf16) (x3 : Vec F S128x256 .bf16) (x4 : Vec F S128x256 .bf16) (x5 : Vec F S1x2x1024x256 .f32) : Vec F S128x2048 .bf16 :=
  VO1.read (Elt F) (VO1.writes (Elt F) VO1.junk (kernelRun1 c i arg2 harg2 arg3 harg3 arg4 harg4 arg5 harg5 arg6 harg6 arg7 harg7 arg8 harg8 x0 x1 x2 x3 x4 x5).1)

abbrev ms1_0 (t : Fin cfg1.N) : Memref sig .tc .vmem S128x2048 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x256 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x256 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x2x1024x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S128x2048 .bf16 := win1_6.stage (cfg1.slots t 6)
abbrev hs1_6 (t : Fin cfg1.N) : (ms1_6 t).IsWhole := hstage1_6 ((cfg1.slots t 6).cast nbuf1_6)

/-- Window `w`'s block at point `t`, read off its array as the kernel finds it. -/
def iblk1 (V : (c : Dev nD) → (b : Ref sig .tc) → Buf (Elt F) ((c : Thread nD τ).loc b)) (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- A default for a part of window 0's buffer no transfer fills: there is none. -/
def dflt1_0 : (cfg1.win 0).block.Idx → Elt F (cfg1.win 0).elt := fun _ => Classical.choice inferInstance
/-- Window 0's buffer when the body runs at `t`: its block, never cut, filled over the default. -/
def X1_0 (V : (c : Dev nD) → (b : Ref sig .tc) → Buf (Elt F) ((c : Thread nD τ).loc b)) (c : Dev nD) (t : Fin cfg1.N) : (cfg1.win 0).block.Idx → Elt F (cfg1.win 0).elt :=
  (cfg1.win 0).fill (cfg1.grid.coords t) dflt1_0 (iblk1 V c 0 t)
/-- The cut's extent is the block's at every point. -/
theorem xsize1_0 : ∀ t : Fin cfg1.N, ∀ a, (cfg1.win 0).xsize (cfg1.grid.coords t) a = (cfg1.win 0).size a := by decide +kernel
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
/-- A fill covers the whole buffer, whatever it held. -/
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]

/-- What the result's buffer holds after the body at `t`. -/
def oblk1 (V : (c : Dev nD) → (b : Ref sig .tc) → Buf (Elt F) ((c : Thread nD τ).loc b)) (c : Dev nD) (t : Fin cfg1.N) : Vec F S128x2048 .bf16 :=
  out1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (X1_0 V c t) (iblk1 V c 1 t) (iblk1 V c 2 t) (iblk1 V c 3 t) (iblk1 V c 4 t) (iblk1 V c 5 t)

/-- Between the kernel's ends: the scoped buffers no window stages. -/
abbrev ΦR1 (c : Dev nD) : sProp 𝕄 := Pipeline.scopedRest (Ix := Unit) (Name := ℕ) (U := UU) (Lvl := ℕ) (Val := Elt F) spec1 c

/-- The proof data of kernel 1 entered at `V`. -/
def dat1 (V : (c : Dev nD) → (b : Ref sig .tc) → Buf (Elt F) ((c : Thread nD τ).loc b)) (c : Dev nD) : Dat τ (Elt F) Unit ℕ UU ℕ cfg1 c where
  A w := V c (Pipeline.arrRef spec1 w)
  after w t := match w with
    | ⟨0, _⟩ => X1_0 V c t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => oblk1 V c t
  Φ _ := Pipeline.scopedRest (Ix := Unit) (Name := ℕ) (U := UU) (Lvl := ℕ) (Val := Elt F) spec1 c
  q w := Pipeline.shareOf spec1 w
  owed _ := 0

section
variable (V : (c : Dev nD) → (b : Ref sig .tc) → Buf (Elt F) ((c : Thread nD τ).loc b))

theorem A_eq1 (c : Dev nD) (w : Fin cfg1.W) : (dat1 V c).A w = V c (Pipeline.arrRef spec1 w) := by dsimp only [dat1]
theorem after1_0 (c : Dev nD) (t : Fin cfg1.N) : (dat1 V c).after 0 t = X1_0 V c t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = oblk1 V c t := by dsimp only [dat1]
theorem before1_0 (c : Dev nD) (t : Fin cfg1.N) (d) : (dat1 V c).before 0 t d = X1_0 V c t :=
  ((dat1 V c).before_in_eq_fetched 0 rfl (fun _ => rfl)
      (fun t t' h => funext fun a => congrArg (fun n => Pipeline.Clip.of n ((cfg1.win 0).size a) (S8192x6656.size a)) (congrFun h a))
      (fun t => by rw [after1_0]; unfold X1_0; rw [Pipeline.Window.cut_fill]; unfold Dat.blockOf iblk1; rw [A_eq1]; try rfl) t d).trans
    (by unfold Dat.fetched X1_0; rw [fill1_0 t d dflt1_0]; unfold Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- What the obligation hands the body at `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))
/-- and takes back. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl]
  simp only [after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (X1_0 V c t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%g, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns
  iexists _; isplitr; swap; · iexact H6
  unfold oblk1 out1
  ipureintro; exact View.read_writes_of_cover _ _ _ _ _ (cover1 c _ _ _ _ _ _ _ _ _ _ _ _ _ _ _ _ _ _ _ _ _ )

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 V c) (defs₀ (F := F)) Variants.none () Set.univ := fun t => by
  rw [bigSep_W1, bigSep_W1, defs₀_row1]
  exact triple_restated (sound_body1 V c t) rfl .rfl fun _ => .rfl

end

/-- The arrays at the first kernel's end, read off any valuation that has the table's array as the kernel left it. -/
theorem hF0 (V V' : (c : Dev nD) → (b : Ref sig .tc) → Buf (Elt F) ((c : Thread nD τ).loc b)) (c : Dev nD)
    (hout : V' c main_v36 = (dat0 V c).arrAt 3 cfg0.N) (hne : ∀ b : Ref sig .tc, b ≠ main_v36 → V' c b = V c b) :
    ∀ w, (dat0 V c).arrAt w cfg0.N = V' c (Pipeline.arrRef spec0 w) := fun w => by
  fin_cases w
  · exact ((dat0 V c).arrAt_in 0 rfl _).trans (hne main_arg1 (by decide)).symm
  · exact ((dat0 V c).arrAt_in 1 rfl _).trans (hne main_arg2 (by decide)).symm
  · exact ((dat0 V c).arrAt_in 2 rfl _).trans (hne main_v35 (by decide)).symm
  · exact hout.symm

/-- The same of the second kernel. -/
theorem hF1 (V V' : (c : Dev nD) → (b : Ref sig .tc) → Buf (Elt F) ((c : Thread nD τ).loc b)) (c : Dev nD)
    (hout : V' c main_v38 = (dat1 V c).arrAt 6 cfg1.N) (hne : ∀ b : Ref sig .tc, b ≠ main_v38 → V' c b = V c b) :
    ∀ w, (dat1 V c).arrAt w cfg1.N = V' c (Pipeline.arrRef spec1 w) := fun w => by
  fin_cases w
  · exact ((dat1 V c).arrAt_in 0 rfl _).trans (hne main_arg0 (by decide)).symm
  · exact ((dat1 V c).arrAt_in 1 rfl _).trans (hne main_arg0 (by decide)).symm
  · exact ((dat1 V c).arrAt_in 2 rfl _).trans (hne main_arg0 (by decide)).symm
  · exact ((dat1 V c).arrAt_in 3 rfl _).trans (hne main_arg0 (by decide)).symm
  · exact ((dat1 V c).arrAt_in 4 rfl _).trans (hne main_arg0 (by decide)).symm
  · exact ((dat1 V c).arrAt_in 5 rfl _).trans (hne main_v37 (by decide)).symm
  · exact hout.symm

/-! ## The buffers through the run -/

variable (m : (ℓ : Loc nD τ sig) → Buf (Elt F) ℓ) (ρ : Dev nD → PrngReg)

/-- The table's array after the first kernel. -/
def tab (c : Dev nD) : Buf (Elt F) ((c : Thread nD τ).loc main_v36) := (dat0 (fun c b => V4 m c b) c).arrAt 3 cfg0.N

/-- What the first kernel leaves. -/
def outs0 : Outs (F := F) := fun _ r c =>
  Function.update (β := fun r : Ref sig .tc => Buf (Elt F) ((c : Thread nD τ).loc r)) (fun r => V4 m c r) main_v36 (tab m c) r

/-- The buffers the second kernel is entered from. -/
abbrev VE (c : Dev nD) (b : Ref sig .tc) : Buf (Elt F) ((c : Thread nD τ).loc b) := V6 m (outs0 m) c b

/-- The result after the second kernel. -/
def res (c : Dev nD) : Buf (Elt F) ((c : Thread nD τ).loc main_v38) := (dat1 (VE m) c).arrAt 6 cfg1.N

/-- What the two kernels leave. -/
def outs : Outs (F := F) := fun J r c => match J with
  | 5 => outs0 m 5 r c
  | _ => Function.update (β := fun r : Ref sig .tc => Buf (Elt F) ((c : Thread nD τ).loc r)) (fun r => VE m c r) main_v38 (res m c) r

theorem outs_v36 (c : Dev nD) : outs m 5 main_v36 c = tab m c := by
  show outs0 m 5 main_v36 c = _
  unfold outs0; exact Function.update_self _ _ _
theorem outs0_v36 (c : Dev nD) : outs0 m 5 main_v36 c = tab m c := by
  unfold outs0; exact Function.update_self _ _ _
theorem outs_v38 (c : Dev nD) : outs m 7 main_v38 c = res m c := by
  unfold outs; exact Function.update_self _ _ _
theorem V6_outs (c : Dev nD) : V6 m (outs m) c = V6 m (outs0 m) c := rfl

/-- Each kernel's proof data. -/
def pdats : (p : Fin 2) → (c : Dev nD) → Dat τ (Elt F) Unit ℕ UU ℕ (cfgs p) c
  | ⟨0, _⟩ => fun c => dat0 (fun c b => V4 m c b) c
  | ⟨1, _⟩ => fun c => dat1 (VE m) c

/-- No core owes another anything. -/
abbrev L : GSem nD τ sig → Finset Unit := fun _ => ∅
abbrev lv : GSem nD τ sig → Unit → ℕ := fun _ _ => 0
/-- What rides beside the buffers: what the core owes, nothing. -/
abbrev E (_ : Fin 3) (c : Dev nD) : sProp 𝕄 := iprop(∃ W, owes (c : Thread nD τ) (0 : CellTallies nD τ sig Unit) W)

/-! ## The two kernels over the thread's state -/

set_option backward.isDefEq.respectTransparency.types false in
set_option maxHeartbeats 1000000 in
/-- The first kernel: entered from the buffers at `V4`, left with the table's array at `tab`. -/
def reg0 : RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (fun c b => V4 m c b) c).loose
  hwaits := Pipeline.hwaits_of_owed_zero _ _ _ _ L lv 0 fun _ _ => rfl
  pre c := iprop(StableHlo.held (c : Thread nD τ) (Pipeline.ucRefs τ sig) (V4 m c) ∗ E 0 c)
  post c := iprop(StableHlo.held (c : Thread nD τ) (Pipeline.ucRefs τ sig) (V5 m (outs m) c) ∗ E 1 c)
  X _ := BI.emp
  Y _ := BI.emp
  Z c := Pipeline.unscopedRest (Ix := Unit) (Name := ℕ) (U := UU) (Lvl := ℕ) spec0 c (fun b => V4 m c b)
  hentry c := by
    rw [Pipeline.ownSems0_none, ← Pipeline.unscopedBufs_held (Ix := Unit) (Name := ℕ) (U := UU) (Lvl := ℕ) c (V4 m c)]
    have hsplit := Pipeline.arrays_of_unscopedBufs (p := 0) (pcfgs (F := F)) adm (pdats m) launch0.win launch0.arr_whole c
      ((pdats m 0 c).share_full fun _ => rfl) (fun b => V4 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = ΦR0 c from rfl]
    iintro ⟨-, -, Hr⟩; iexact Hr
  hout c := by
    rw [Pipeline.ownSems0_none, show (pdats m 0 c).Φ (Fin.last _) = ΦR0 c from rfl]
    iintro Hr
    isplitr; · iempintro
    isplitr; · iempintro
    iexact Hr
  hexit c := by
    rw [← Pipeline.unscopedBufs_held (Ix := Unit) (Name := ℕ) (U := UU) (Lvl := ℕ) c (V5 m (outs m) c)]
    have hjoin := Pipeline.unscopedBufs_of_arrays (p := 0) (pcfgs (F := F)) adm (Ix := Unit) (Name := ℕ) (U := UU) (Lvl := ℕ) launch0.win launch0.arr_whole c
      (pdats m) ((pdats m 0 c).share_full fun _ => rfl) (fun b => V4 m c b) (fun b => V5 m (outs m) c b) ((pdats m 0 c).arrAt · cfg0.N)
      (hF0 (fun c b => V4 m c b) (fun c b => V5 m (outs m) c b) c
        ((Function.update_self (Proc.devRef .tc main_v36 : DevRef τ sig) (outs m 5 main_v36 c) (V4 m c)).trans (outs_v36 m c))
        (fun b h => V5_of m (outs m) c b (by rwa [List.mem_singleton])))
      (fun b hb => V5_of m (outs m) c b fun h => hb (by
        rw [List.mem_singleton] at h; subst h; exact Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
set_option maxHeartbeats 1000000 in
/-- The second kernel: entered from the buffers at `V6`, left with the result's array at `res`. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (body_obligation1 (VE m) c).loose
  hwaits := Pipeline.hwaits_of_owed_zero _ _ _ _ L lv 1 fun _ _ => rfl
  pre c := iprop(StableHlo.held (c : Thread nD τ) (Pipeline.ucRefs τ sig) (V6 m (outs m) c) ∗ E 1 c)
  post c := iprop(StableHlo.held (c : Thread nD τ) (Pipeline.ucRefs τ sig) (V7 m (outs m) c) ∗ E 2 c)
  X _ := BI.emp
  Y _ := BI.emp
  Z c := Pipeline.unscopedRest (Ix := Unit) (Name := ℕ) (U := UU) (Lvl := ℕ) spec1 c (VE m c)
  hentry c := by
    rw [Pipeline.ownSems0_none, V6_outs, ← Pipeline.unscopedBufs_held (Ix := Unit) (Name := ℕ) (U := UU) (Lvl := ℕ) c (V6 m (outs0 m) c)]
    have hsplit := Pipeline.arrays_of_unscopedBufs_shared (p := 1) (pcfgs (F := F)) adm (pdats m) winFacts₀1 sharedIn1 arr_whole1 c
      (fun _ _ => rfl) (VE m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = ΦR1 c from rfl]
    iintro ⟨-, -, Hr⟩; iexact Hr
  hout c := by
    rw [Pipeline.ownSems0_none, show (pdats m 1 c).Φ (Fin.last _) = ΦR1 c from rfl]
    iintro Hr
    isplitr; · iempintro
    isplitr; · iempintro
    iexact Hr
  hexit c := by
    rw [← Pipeline.unscopedBufs_held (Ix := Unit) (Name := ℕ) (U := UU) (Lvl := ℕ) c (V7 m (outs m) c)]
    have hjoin := Pipeline.unscopedBufs_of_arrays_shared (p := 1) (pcfgs (F := F)) adm (Ix := Unit) (Name := ℕ) (U := UU) (Lvl := ℕ) winFacts₀1 sharedIn1 arr_whole1 c
      (pdats m) (fun _ _ => rfl) (VE m c) (fun b => V7 m (outs m) c b) ((pdats m 1 c).arrAt · cfg1.N)
      (hF1 (VE m) (fun c b => V7 m (outs m) c b) c
        ((Function.update_self (Proc.devRef .tc main_v38 : DevRef τ sig) (outs m 7 main_v38 c) (V6 m (outs m) c)).trans (outs_v38 m c))
        (fun b h => V7_of m (outs m) c b (by rwa [List.mem_singleton])))
      (fun b hb => V7_of m (outs m) c b fun h => hb (by
        rw [List.mem_singleton] at h; subst h; exact Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The launch element: the transfers'; no counter. -/
def u₀ : UU := (initOf (Pipeline.cells cfgs cellOf_inj) (Pipeline.launchToks cfgs cellOf_inj), 1)

/-! ## The run -/

set_option backward.isDefEq.respectTransparency.types false in
set_option maxHeartbeats 4000000 in
/-- Every run ends with the result at `res`, the arguments as launched and every counter at zero. -/
theorem run : θ_run defs (onTc (τ := τ) (main (F := F))) ⟨m, fun _ => 0, ρ⟩ (fun r => (∀ c : Dev nD,
      r.2.mem ((c.tc : Thread nD τ).loc main_v38) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine Pipeline.θ_run_regions_kit_dev_sems (pcfgs (F := F)) adm (pdats m) () cellOf_inj EP defs₀ Variants.none L lv m ρ main
    (segs m (outs m) Variants.none L lv E () (pdats m) (reg0 m) (reg1 m))
    (fun c Q => by
      rewrite [main_chain c, Seg.run_eq_chain,
        show (segs m (outs m) Variants.none L lv E () (pdats m) (reg0 m) (reg1 m) c).map Seg.prog = [
          StableHlo.seq hostOps0, StableHlo.seq hostOps0_1, StableHlo.seq hostOps0_2, StableHlo.seq hostOps0_3,
          Prog.lift (.customCall (Pipeline.entry 0) ()), StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V7 m (outs m) c))
    (hch := fun c => ⟨.rfl, .rfl, .rfl, .rfl, .rfl, .rfl, .rfl, .rfl⟩)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => s.mem ((c.tc : Thread nD τ).loc main_v38) = res m c
      ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2))
    (hfin := fun c s' => ?_) (hQ := fun _ h hz => ⟨h, funext fun g => hz g (.inr (regions_no_unscoped g.2))⟩)
  unfold StableHlo.held
  iintro ⟨Hh, HSI⟩
  ihave Hr := (pointsTo_read_all (Pipeline.ucRefs τ sig) (fun b => ((c : Thread nD τ).1, b)) (V7 m (outs m) c) s') $$ [Hh HSI]
  · isplitl [Hh] <;> iassumption
  icases Hr with ⟨%h, HSI⟩
  imodintro
  isplitr
  · ipureintro
    exact ⟨(h (Proc.devRef .tc main_v38) (Finset.mem_filter.mpr ⟨StableHlo.devRef_mem_tcRefs main_v38, by decide⟩)).trans
        ((Function.update_self (Proc.devRef .tc main_v38 : DevRef τ sig) (outs m 7 main_v38 c) (V6 m (outs m) c)).trans (outs_v38 m c)),
      (h (Proc.devRef .tc main_arg0) (Finset.mem_filter.mpr ⟨StableHlo.devRef_mem_tcRefs main_arg0, by decide⟩)).trans (V7_main_arg0 m (outs m) c),
      (h (Proc.devRef .tc main_arg1) (Finset.mem_filter.mpr ⟨StableHlo.devRef_mem_tcRefs main_arg1, by decide⟩)).trans (V7_main_arg1 m (outs m) c),
      (h (Proc.devRef .tc main_arg2) (Finset.mem_filter.mpr ⟨StableHlo.devRef_mem_tcRefs main_arg2, by decide⟩)).trans (V7_main_arg2 m (outs m) c)⟩
  · iexact HSI

/-- The arguments end as launched, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.AttnIdeal.Run

end
-- ==== Proof.AttnLadder.lean ====
/-
  The bias table's ladder of selects over a bucket word, and its tests on a column's number.
-/
module

public import Idealize.ShloMosaic.Lib.Claim
public import Idealize.ShloMosaic.Lib.Pointwise
public import Idealize.ShloMosaic.Lib.WordCmp

@[expose] public section

set_option maxRecDepth 16384

noncomputable section

namespace Cert.AttnScalar

open Idealize.ShloMosaic

/-- A ladder of `n` selects over the word `w`. -/
def ladder (w : BitVec 32) (f : ℕ → EReal) (z : EReal) : ℕ → EReal
  | 0 => z
  | n + 1 => Scalar.select (IntOp.cmpi .eq w (BitVec.ofNat 32 n)) (f n) (ladder w f z n)

theorem cmpi_eq_nat (w : BitVec 32) (n : ℕ) (h : n < 2 ^ 32) :
    IntOp.cmpi .eq w (BitVec.ofNat 32 n) = BitVec.ofBool (decide (w.toNat = n)) := by
  unfold IntOp.cmpi
  dsimp only
  congr 1
  rw [Bool.eq_iff_iff, beq_iff_eq, decide_eq_true_eq, ← BitVec.toNat_inj, WordCmp.toNat_ofNat_of_lt h]

theorem ladder_eq (w : BitVec 32) (f : ℕ → EReal) (z : EReal) (n : ℕ) (h : n ≤ 2 ^ 32) :
    ladder w f z n = if w.toNat < n then f w.toNat else z := by
  induction n with
  | zero => simp [ladder]
  | succ n ih =>
    unfold ladder
    rw [cmpi_eq_nat w n (by omega), ih (by omega)]
    unfold Scalar.select
    by_cases e : w.toNat = n
    · rw [decide_eq_true e, if_pos (by decide), if_pos (by omega), e]
    · rw [decide_eq_false e, if_neg (by decide)]
      by_cases l : w.toNat < n
      · rw [if_pos l, if_pos (by omega)]
      · rw [if_neg l, if_neg (by omega)]

/-- The kernel's ladder of 32 selects over the bucket word. -/
theorem ladder32 (w : BitVec 32) (G : Fin 32 → EReal) (z : EReal) :
    (Scalar.select (IntOp.cmpi .eq w 31#32) (G ⟨31, by decide⟩) (Scalar.select (IntOp.cmpi .eq w 30#32) (G ⟨30, by decide⟩) (Scalar.select (IntOp.cmpi .eq w 29#32) (G ⟨29, by decide⟩) (Scalar.select (IntOp.cmpi .eq w 28#32) (G ⟨28, by decide⟩) (Scalar.select (IntOp.cmpi .eq w 27#32) (G ⟨27, by decide⟩) (Scalar.select (IntOp.cmpi .eq w 26#32) (G ⟨26, by decide⟩) (Scalar.select (IntOp.cmpi .eq w 25#32) (G ⟨25, by decide⟩) (Scalar.select (IntOp.cmpi .eq w 24#32) (G ⟨24, by decide⟩) (Scalar.select (IntOp.cmpi .eq w 23#32) (G ⟨23, by decide⟩) (Scalar.select (IntOp.cmpi .eq w 22#32) (G ⟨22, by decide⟩) (Scalar.select (IntOp.cmpi .eq w 21#32) (G ⟨21, by decide⟩) (Scalar.select (IntOp.cmpi .eq w 20#32) (G ⟨20, by decide⟩) (Scalar.select (IntOp.cmpi .eq w 19#32) (G ⟨19, by decide⟩) (Scalar.select (IntOp.cmpi .eq w 18#32) (G ⟨18, by decide⟩) (Scalar.select (IntOp.cmpi .eq w 17#32) (G ⟨17, by decide⟩) (Scalar.select (IntOp.cmpi .eq w 16#32) (G ⟨16, by decide⟩) (Scalar.select (IntOp.cmpi .eq w 15#32) (G ⟨15, by decide⟩) (Scalar.select (IntOp.cmpi .eq w 14#32) (G ⟨14, by decide⟩) (Scalar.select (IntOp.cmpi .eq w 13#32) (G ⟨13, by decide⟩) (Scalar.select (IntOp.cmpi .eq w 12#32) (G ⟨12, by decide⟩) (Scalar.select (IntOp.cmpi .eq w 11#32) (G ⟨11, by decide⟩) (Scalar.select (IntOp.cmpi .eq w 10#32) (G ⟨10, by decide⟩) (Scalar.select (IntOp.cmpi .eq w 9#32) (G ⟨9, by decide⟩) (Scalar.select (IntOp.cmpi .eq w 8#32) (G ⟨8, by decide⟩) (Scalar.select (IntOp.cmpi .eq w 7#32) (G ⟨7, by decide⟩) (Scalar.select (IntOp.cmpi .eq w 6#32) (G ⟨6, by decide⟩) (Scalar.select (IntOp.cmpi .eq w 5#32) (G ⟨5, by decide⟩) (Scalar.select (IntOp.cmpi .eq w 4#32) (G ⟨4, by decide⟩) (Scalar.select (IntOp.cmpi .eq w 3#32) (G ⟨3, by decide⟩) (Scalar.select (IntOp.cmpi .eq w 2#32) (G ⟨2, by decide⟩) (Scalar.select (IntOp.cmpi .eq w 1#32) (G ⟨1, by decide⟩) (Scalar.select (IntOp.cmpi .eq w 0#32) (G ⟨0, by decide⟩) z))))))))))))))))))))))))))))))))
      = if h : w.toNat < 32 then G ⟨w.toNat, h⟩ else z := by
  have e := ladder_eq w (fun n => if h : n < 32 then G ⟨n, h⟩ else z) z 32 (by norm_num)
  by_cases h : w.toNat < 32
  · rw [if_pos h] at e
    rw [dif_pos h]
    rw [dif_pos h] at e
    refine Eq.trans ?_ e
    rfl
  · rw [if_neg h] at e
    rw [dif_neg h]
    refine Eq.trans ?_ e
    rfl

/-- Column 0's test. -/
theorem col0_eq (j : ℕ) (hj : j < 256) : IntOp.cmpi .eq (BitVec.ofNat 32 j) 0#32 = BitVec.ofBool (decide (j = 0)) := by
  rw [cmpi_eq_nat _ 0 (by norm_num), WordCmp.toNat_ofNat_of_lt (by omega)]

/-- The second table's test: columns 1 to 127. -/
theorem early_eq (j : ℕ) (hj : j < 256) :
    IntOp.andi (IntOp.cmpi .slt (BitVec.ofNat 32 j) 128#32) (IntOp.cmpi .sgt (BitVec.ofNat 32 j) 0#32)
      = BitVec.ofBool (decide (0 < j ∧ j < 128)) := by
  have e1 : (BitVec.ofNat 32 j).slt 128#32 = decide (j < 128) := by
    rw [Bool.eq_iff_iff, BitVec.slt_iff_toInt_lt, WordCmp.toInt_ofNat_of_lt (by omega), decide_eq_true_eq]
    rw [WordCmp.toInt_ofNat_of_lt (by omega)]; omega
  have e2 : (0#32).slt (BitVec.ofNat 32 j) = decide (0 < j) := by
    rw [Bool.eq_iff_iff, BitVec.slt_iff_toInt_lt, WordCmp.toInt_ofNat_of_lt (by omega), decide_eq_true_eq]
    rw [WordCmp.toInt_ofNat_of_lt (by omega)]; omega
  unfold IntOp.andi IntOp.cmpi
  dsimp only
  rw [e1, e2]
  by_cases a : 0 < j <;> by_cases b : j < 128 <;> simp [a, b]

end Cert.AttnScalar
-- ==== Proof.AttnPay.lean ====
/-
  The attention kernel's own arithmetic at a point, read at an index: a key/value head's eight query heads are stacked
  as 1024 rows, and the row sums come from a second product with ones.
-/
module

public import proofs.«01_k».proof.Proof.AttnIdealRun
public import proofs.«01_k».proof.Proof.AttnLadder
public import Idealize.ShloMosaic.Lib.Claim
public import Idealize.ShloMosaic.Lib.Pointwise
public import Idealize.ShloMosaic.Lib.Pipeline.ValueKit

@[expose] public section

set_option maxRecDepth 16384

noncomputable section

namespace Cert.AttnIdeal.Pay

open Idealize.ShloMosaic Idealize.ShloMosaic.TcCoe Idealize.SL.Sem
open Cert.AttnIdeal Cert.AttnIdeal.Gen Cert.AttnScalar

/-- Eight heads' columns, stacked as rows. -/
def qcat (v : FVec Ideal S128x1024 .bf16) : FVec Ideal S1024x128 .bf16 :=
  concatenate S1024x128 0 [⟨S128x128, extractStridedSlice S128x128 ![0, 0] v slices_S128x1024_o0_0_S128x128⟩, ⟨S128x128, extractStridedSlice S128x128 ![0, 128] v slices_S128x1024_o0_128_S128x128⟩, ⟨S128x128, extractStridedSlice S128x128 ![0, 256] v slices_S128x1024_o0_256_S128x128⟩, ⟨S128x128, extractStridedSlice S128x128 ![0, 384] v slices_S128x1024_o0_384_S128x128⟩, ⟨S128x128, extractStridedSlice S128x128 ![0, 512] v slices_S128x1024_o0_512_S128x128⟩, ⟨S128x128, extractStridedSlice S128x128 ![0, 640] v slices_S128x1024_o0_640_S128x128⟩, ⟨S128x128, extractStridedSlice S128x128 ![0, 768] v slices_S128x1024_o0_768_S128x128⟩, ⟨S128x128, extractStridedSlice S128x128 ![0, 896] v slices_S128x1024_o0_896_S128x128⟩] concatenates_S128x128_S128x128_S128x128_S128x128_S128x128_S128x128_S128x128_S128x128_S1024x128_d0

set_option maxHeartbeats 4000000 in
theorem qcat_at (v : FVec Ideal S128x1024 .bf16) (r : Fin 1024) (x : Fin 128) :
    qcat v (ix2 r x) = v (ix2 ⟨r.val % 128, by omega⟩ ⟨r.val / 128 * 128 + x.val, by omega⟩) := by
  pointwise [qcat]
  have e2 : ∀ a a' b b', a = a' → b = b' → v (ix2 a b) = v (ix2 a' b') := by
    rintro a _ b _ rfl rfl; rfl
  split_ifs <;> exact e2 _ _ _ _ (Fin.ext (by dsimp only; omega)) (Fin.ext (by dsimp only; omega))

/-- Eight row groups, laid side by side as columns. -/
def ocat (v : FVec Ideal S1024x128 .f32) : FVec Ideal S128x1024 .f32 :=
  concatenate S128x1024 1 [⟨S128x128, extractStridedSlice S128x128 ![0, 0] v slices_S1024x128_o0_0_S128x128⟩, ⟨S128x128, extractStridedSlice S128x128 ![128, 0] v slices_S1024x128_o128_0_S128x128⟩, ⟨S128x128, extractStridedSlice S128x128 ![256, 0] v slices_S1024x128_o256_0_S128x128⟩, ⟨S128x128, extractStridedSlice S128x128 ![384, 0] v slices_S1024x128_o384_0_S128x128⟩, ⟨S128x128, extractStridedSlice S128x128 ![512, 0] v slices_S1024x128_o512_0_S128x128⟩, ⟨S128x128, extractStridedSlice S128x128 ![640, 0] v slices_S1024x128_o640_0_S128x128⟩, ⟨S128x128, extractStridedSlice S128x128 ![768, 0] v slices_S1024x128_o768_0_S128x128⟩, ⟨S128x128, extractStridedSlice S128x128 ![896, 0] v slices_S1024x128_o896_0_S128x128⟩] concatenates_S128x128_S128x128_S128x128_S128x128_S128x128_S128x128_S128x128_S128x128_S128x1024_d1

theorem ocat_at (v : FVec Ideal S1024x128 .f32) (q : Fin 128) (C : Fin 1024) :
    ocat v (ix2 q C) = v (ix2 ⟨C.val / 128 * 128 + q.val, by omega⟩ ⟨C.val % 128, by omega⟩) := by
  pointwise [ocat]
  have e2 : ∀ a a' b b', a = a' → b = b' → v (ix2 a b) = v (ix2 a' b') := by
    rintro a _ b _ rfl rfl; rfl
  split_ifs <;> exact e2 _ _ _ _ (Fin.ext (by dsimp only; omega)) (Fin.ext (by dsimp only; omega))

/-- The earlier block's rows with row 0 zeroed, then the block's own. -/
theorem zcat_at (a b : Vec Ideal S128x128 .bf16) (j : Fin 256) (x : Fin 128) :
    k1_pay2 a b (ix2 j x) = if h : j.val < 128 then (if j.val = 0 then (0 : EReal) else a (ix2 ⟨j.val, h⟩ x)) else b (ix2 ⟨j.val - 128, by omega⟩ x) := by
  pointwise [k1_pay2]
  rw [col0_eq _ (by omega)]
  unfold Scalar.select
  by_cases h : j.val < 128
  · simp only [dif_pos h]
    by_cases h0 : j.val = 0
    · rw [decide_eq_true h0, if_pos (by decide), if_pos h0]
    · rw [decide_eq_false h0, if_neg (by decide), if_neg h0]
  · simp only [dif_neg h]

/-- The scores. -/
theorem score_at (q : FVec Ideal S1024x128 .bf16) (k : FVec Ideal S256x128 .bf16) (z : Vec Ideal S1x1x1024x256 .f32) (r : Fin 1024) (j : Fin 256) :
    addf (mulf (matmul dot_S1024x128_S256x128_S1024x256_1_1_0_0_n_n none q k (constant S1024x256 .f32 0x00000000#32)) (broadcast S1024x256 (Scalar.ofBits .f32 0x3DB504F3#32 : Ideal .f32))) (shapeCast S1024x256 z shapeCasts_S1x1x1024x256_S1024x256) (ix2 r j)
      = (∑ x : Fin 128, q (ix2 r x) * k (ix2 j x)) * Ideal.ofBits FTy.f32 0x3DB504F3#32 + z (ix4 0 0 r j) := by
  pointwise

theorem pay3_eq (v1 : Vec Ideal S128x1024 .bf16) (v13 v25 : Vec Ideal S128x128 .bf16) (v32 : Vec Ideal S1x1x1024x256 .f32) :
    k1_pay3 v1 v13 v25 v32 = addf (mulf (matmul dot_S1024x128_S256x128_S1024x256_1_1_0_0_n_n none (qcat v1) (k1_pay2 v13 v25) (constant S1024x256 .f32 0x00000000#32)) (broadcast S1024x256 (Scalar.ofBits .f32 0x3DB504F3#32 : Ideal .f32))) (shapeCast S1024x256 v32 shapeCasts_S1x1x1024x256_S1024x256) := by
  unfold k1_pay3 k1_pay2 qcat
  rfl

/-- A row's maximum. -/
def rmax (s : FVec Ideal S1024x256 .f32) : FVec Ideal S1024x1 .f32 :=
  shapeCast S1024x1 (multiReduction .maximumf [1] S1024 s 0xFF800000#32 reduces_S1024x256_S1024 (.inl rfl) rfl) shapeCasts_S1024_S1024x1

theorem rmax_at (s : FVec Ideal S1024x256 .f32) (r : Fin 1024) :
    rmax s (ix2 r 0) = Finset.univ.fold max ⊥ (fun j : Fin 256 => s (ix2 r j)) := by
  pointwise [rmax]
  have hb : Ideal.ofBits .f32 0xFF800000#32 = ⊥ := by simp [Ideal.ofBits, Ideal.ieee]
  rw [hb]

theorem pay4_eq (v1 : Vec Ideal S128x1024 .bf16) (v13 v25 : Vec Ideal S128x128 .bf16) (v32 : Vec Ideal S1x1x1024x256 .f32) :
    k1_pay4 v1 v13 v25 v32 = rmax (k1_pay3 v1 v13 v25 v32) := by
  unfold k1_pay4 rmax
  rfl

/-- The weighted values over the weights' sum, row by row. -/
def soft (v28 : FVec Ideal S256x128 .bf16) (v34 : FVec Ideal S1024x256 .f32) (v36 : FVec Ideal S1024x1 .f32) : FVec Ideal S1024x128 .f32 :=
  have v43 : FVec Ideal S1024x256 .f32 := matmul dot_S1024x256_S256x256_S1024x256_1_0_0_1_n_n none (truncf .bf16 (exp (subf v34 (broadcastTo S1024x256 v36 broadcasts_S1024x1_S1024x256))) bitsLt_bf16_f32)
    (concatenate S256x256 1 [⟨S256x128, v28⟩, ⟨S256x128, broadcast S256x128 (Scalar.ofBits .bf16 0x3F80#16 : Ideal .bf16)⟩] concatenates_S256x128_S256x128_S256x256_d1) (constant S1024x256 .f32 0x00000000#32)
  divf (extractStridedSlice S1024x128 ![0, 0] v43 slices_S1024x256_o0_0_S1024x128) (extractStridedSlice S1024x128 ![0, 128] v43 slices_S1024x256_o0_128_S1024x128)

theorem soft_at (v28 : FVec Ideal S256x128 .bf16) (v34 : FVec Ideal S1024x256 .f32) (v36 : FVec Ideal S1024x1 .f32) (r : Fin 1024) (d : Fin 128) :
    soft v28 v34 v36 (ix2 r d) = Ideal.div (∑ j : Fin 256, Ideal.exp (v34 (ix2 r j) - v36 (ix2 r 0)) * v28 (ix2 j d)) (∑ j : Fin 256, Ideal.exp (v34 (ix2 r j) - v36 (ix2 r 0))) := by
  pointwise [soft]

theorem pay5_eq (v28 : FVec Ideal S256x128 .bf16) (v34 : FVec Ideal S1024x256 .f32) (v36 : FVec Ideal S1024x1 .f32) :
    k1_pay5 v28 v34 v36 = truncf .bf16 (ocat (soft v28 v34 v36)) bitsLt_bf16_f32 := by
  unfold k1_pay5 ocat soft
  rfl

theorem pay1_eq (v58 : Vec Ideal S128x1024 .bf16) (v70 v77 v82 v84 : Vec Ideal S128x128 .bf16) (v89 : Vec Ideal S1x1x1024x256 .f32) :
    k1_pay1 (k1_pay6 v58) (k1_pay7 (iota .tc S128x128 32 [0] iota_S128x128_d0_w32) v70) (k1_pay8 (iota .tc S128x128 32 [0] iota_S128x128_d0_w32) v77) v82 v84 v89
      = k1_pay5 (k1_pay2 v77 v84) (k1_pay3 v58 v70 v82 v89) (k1_pay4 v58 v70 v82 v89) := by
  unfold k1_pay1 k1_pay6 k1_pay7 k1_pay8 k1_pay5 k1_pay2 k1_pay4 k1_pay3
  rfl

end Cert.AttnIdeal.Pay
-- ==== Proof.AttnScalar.lean ====
/-
  The attention's scalar facts: one row's softmax with a sink, taken as a column of the row or beside it, and the
  bucket words of the two programs.
-/
module

public import Idealize.ShloMosaic.Lib.Claim
public import Idealize.ShloMosaic.Lib.Pointwise
public import Idealize.ShloMosaic.Lib.WordCmp

@[expose] public section

set_option maxRecDepth 16384

noncomputable section

namespace Cert.AttnScalar

open Idealize.ShloMosaic

/-! ## One row -/

/-- A finite sum times a nonnegative real. -/
theorem sum_mul_real {ι : Type*} (F : Finset ι) (f : ι → EReal) (k : ℝ) (hk : 0 ≤ k) :
    (∑ j ∈ F, f j) * (k : EReal) = ∑ j ∈ F, f j * (k : EReal) := by
  classical
  induction F using Finset.induction_on with
  | empty => simp
  | insert a s ha ih =>
    rw [Finset.sum_insert ha, Finset.sum_insert ha, ← ih]
    exact EReal.right_distrib_of_nonneg_of_ne_top (by exact_mod_cast hk) (EReal.coe_ne_top k) _ _

/-- A finite sum of reals is real. -/
theorem coe_sum {ι : Type*} (F : Finset ι) (f : ι → ℝ) :
    ((∑ j ∈ F, f j : ℝ) : EReal) = ∑ j ∈ F, (f j : EReal) := by
  classical
  induction F using Finset.induction_on with
  | empty => simp
  | insert a s ha ih => rw [Finset.sum_insert ha, Finset.sum_insert ha, ← ih, EReal.coe_add]

/-- An exponential of something below `⊤`, less a real, is a nonnegative real. -/
theorem exp_real (x : EReal) (hx : x ≠ ⊤) (μ : ℝ) : ∃ r : ℝ, 0 ≤ r ∧ Ideal.exp (x - (μ : EReal)) = (r : EReal) := by
  induction x with
  | bot => exact ⟨0, le_rfl, by rw [EReal.bot_sub]; rfl⟩
  | top => exact absurd rfl hx
  | coe x => exact ⟨Real.exp (x - μ), (Real.exp_pos _).le, by rw [← EReal.coe_sub]; rfl⟩

/-- A row with its sink beside it equals the row with the sink in column 0, whose value is then 0. -/
theorem row (s t v w : Fin 256 → EReal) (σ : ℝ) (h0 : s 0 = ⊥) (hs : ∀ j, s j ≠ ⊤)
    (t0 : t 0 = (σ : EReal)) (tj : ∀ j, j ≠ 0 → t j = s j)
    (w0 : w 0 = 0) (hw : ∀ j, j ≠ 0 → s j = ⊥ ∨ w j = v j) :
    ∑ j, v j * Ideal.div (Ideal.exp (s j - max (Finset.univ.fold max ⊥ s) (σ : EReal)))
        ((∑ l, Ideal.exp (s l - max (Finset.univ.fold max ⊥ s) (σ : EReal)))
          + Ideal.exp ((σ : EReal) - max (Finset.univ.fold max ⊥ s) (σ : EReal)))
      = Ideal.div (∑ j, Ideal.exp (t j - Finset.univ.fold max ⊥ t) * w j)
          (∑ j, Ideal.exp (t j - Finset.univ.fold max ⊥ t)) := by
  have hMN : Finset.univ.fold max ⊥ t = max (Finset.univ.fold max ⊥ s) (σ : EReal) := by
    apply le_antisymm
    · rw [Finset.fold_max_le]
      refine ⟨bot_le, fun j _ => ?_⟩
      by_cases hj : j = 0
      · subst hj; rw [t0]; exact le_max_right _ _
      · rw [tj j hj]
        exact le_max_of_le_left ((Finset.le_fold_max _).2 (Or.inr ⟨j, Finset.mem_univ j, le_rfl⟩))
    · apply max_le
      · rw [Finset.fold_max_le]
        refine ⟨bot_le, fun j _ => ?_⟩
        by_cases hj : j = 0
        · subst hj; rw [h0]; exact bot_le
        · exact (Finset.le_fold_max _).2 (Or.inr ⟨j, Finset.mem_univ j, (tj j hj).ge⟩)
      · exact (Finset.le_fold_max _).2 (Or.inr ⟨0, Finset.mem_univ _, t0.ge⟩)
  rw [hMN]
  have hMt : max (Finset.univ.fold max ⊥ s) (σ : EReal) ≠ ⊤ := by
    apply ne_of_lt
    rw [max_lt_iff]
    refine ⟨?_, EReal.coe_lt_top σ⟩
    rw [Finset.fold_max_lt]
    exact ⟨bot_lt_top, fun j _ => lt_top_iff_ne_top.2 (hs j)⟩
  have hMb : max (Finset.univ.fold max ⊥ s) (σ : EReal) ≠ ⊥ :=
    ne_of_gt (lt_of_lt_of_le (EReal.bot_lt_coe σ) (le_max_right _ _))
  generalize max (Finset.univ.fold max ⊥ s) (σ : EReal) = M at hMt hMb
  lift M to ℝ using ⟨hMt, hMb⟩
  choose r hr0 hr using fun j => exp_real (s j) (hs j) M
  have hσ : Ideal.exp ((σ : EReal) - (M : EReal)) = (Real.exp (σ - M) : ℝ) := by rw [← EReal.coe_sub]; rfl
  have ht : ∀ j, Ideal.exp (t j - (M : EReal)) = if j = 0 then ((Real.exp (σ - M) : ℝ) : EReal) else (r j : EReal) := by
    intro j
    by_cases hj : j = 0
    · subst hj; rw [t0, if_pos rfl, hσ]
    · rw [tj j hj, if_neg hj, hr]
  have hr00 : (r 0 : EReal) = 0 := by rw [← hr 0, h0, EReal.bot_sub]; rfl
  have hden : ∑ j, Ideal.exp (t j - (M : EReal)) = ((∑ l, r l + Real.exp (σ - M) : ℝ) : EReal) := by
    rw [EReal.coe_add, coe_sum]
    simp only [ht]
    rw [Fin.sum_univ_succ (n := 255), Fin.sum_univ_succ (n := 255), if_pos rfl, hr00, zero_add, add_comm]
    congr 1
  have hden' : (∑ l, Ideal.exp (s l - (M : EReal))) + Ideal.exp ((σ : EReal) - (M : EReal))
      = ((∑ l, r l + Real.exp (σ - M) : ℝ) : EReal) := by
    rw [EReal.coe_add, coe_sum, hσ]
    simp only [hr]
  rw [hden, hden']
  have hpos : 0 < ∑ l, r l + Real.exp (σ - M) :=
    add_pos_of_nonneg_of_pos (Finset.sum_nonneg fun j _ => hr0 j) (Real.exp_pos _)
  generalize ∑ l, r l + Real.exp (σ - M) = D at hpos
  rw [Ideal.div_coe hpos.ne', sum_mul_real _ _ _ (by positivity)]
  refine Finset.sum_congr rfl fun j _ => ?_
  rw [Ideal.div_coe hpos.ne', hr, ht]
  by_cases hj : j = 0
  · subst hj; rw [hr00, w0]; simp
  · rw [if_neg hj]
    rcases hw j hj with h | h
    · have hz : (r j : EReal) = 0 := by rw [← hr j, h, EReal.bot_sub]; rfl
      rw [hz]; simp
    · rw [h, ← mul_assoc, mul_comm (v j)]

/-! ## Words -/

/-- The distance word from row `q` to column `j`. -/
def dw (q j : ℕ) : BitVec 32 := IntOp.subi (IntOp.addi (BitVec.ofNat 32 q) 128#32) (BitVec.ofNat 32 j)

theorem dw_toInt (q j : ℕ) (hq : q < 128) (hj : j < 256) : (dw q j).toInt = (q : ℤ) + 128 - j := by
  unfold dw IntOp.subi IntOp.addi
  rw [BitVec.toInt_sub, BitVec.toInt_add, WordCmp.toInt_ofNat_of_lt (a := q) (by norm_num; omega),
    WordCmp.toInt_ofNat_of_lt (a := 128) (by norm_num), WordCmp.toInt_ofNat_of_lt (a := j) (by norm_num; omega)]
  simp only [Int.bmod]
  omega

/-- Whether column `j` is in row `q`'s window. -/
def inw (q j : ℕ) : BitVec 1 := IntOp.andi (IntOp.cmpi .sge (dw q j) 0#32) (IntOp.cmpi .slt (dw q j) 128#32)

theorem inw_eq (q j : ℕ) (hq : q < 128) (hj : j < 256) : inw q j = BitVec.ofBool (decide (q < j ∧ j ≤ q + 128)) := by
  have h := dw_toInt q j hq hj
  have e1 : (0#32).sle (dw q j) = decide (j ≤ q + 128) := by
    rw [Bool.eq_iff_iff, BitVec.sle_iff_toInt_le, h, decide_eq_true_eq]
    rw [WordCmp.toInt_ofNat_of_lt (by norm_num)]; omega
  have e2 : (dw q j).slt 128#32 = decide (q < j) := by
    rw [Bool.eq_iff_iff, BitVec.slt_iff_toInt_lt, h, decide_eq_true_eq]
    rw [WordCmp.toInt_ofNat_of_lt (by norm_num)]; omega
  unfold inw IntOp.andi IntOp.cmpi
  dsimp only
  rw [e1, e2]
  by_cases a : q < j <;> by_cases b : j ≤ q + 128 <;> simp [a, b]

/-- Whether column `j` of block `n` lies at or after the sequence's start. -/
def kpos (n j : ℕ) : BitVec 1 :=
  IntOp.cmpi .sge (IntOp.addi (IntOp.subi (IntOp.muli (BitVec.ofNat 32 n) 128#32) 128#32) (BitVec.ofNat 32 j)) 0#32

theorem kpos_eq (n j : ℕ) (hn : n < 16) (hj : j < 256) : kpos n j = BitVec.ofBool (decide (1 ≤ n ∨ 128 ≤ j)) := by
  have h : (IntOp.addi (IntOp.subi (IntOp.muli (BitVec.ofNat 32 n) 128#32) 128#32) (BitVec.ofNat 32 j)).toInt
      = (n : ℤ) * 128 - 128 + j := by
    unfold IntOp.subi IntOp.addi IntOp.muli
    rw [BitVec.toInt_add, BitVec.toInt_sub, BitVec.toInt_mul, WordCmp.toInt_ofNat_of_lt (a := n) (by norm_num; omega),
      WordCmp.toInt_ofNat_of_lt (a := 128) (by norm_num), WordCmp.toInt_ofNat_of_lt (a := j) (by norm_num; omega)]
    simp only [Int.bmod]
    push_cast
    omega
  have e : (0#32).sle (IntOp.addi (IntOp.subi (IntOp.muli (BitVec.ofNat 32 n) 128#32) 128#32) (BitVec.ofNat 32 j))
      = decide (1 ≤ n ∨ 128 ≤ j) := by
    rw [Bool.eq_iff_iff, BitVec.sle_iff_toInt_le, h, decide_eq_true_eq]
    rw [WordCmp.toInt_ofNat_of_lt (by norm_num)]; omega
  unfold kpos IntOp.cmpi
  dsimp only
  rw [e]

/-- The reference's large-distance bucket before the clamp, of the word `d`. -/
def lrat (d : BitVec 32) : EReal :=
  Ideal.div (Ideal.log (Ideal.div (FloatOps.sitofp (F := Ideal) FTy.f32 (IntOp.maxsi d 1#32)) (Ideal.ofBits FTy.f32 0x41800000#32)))
    (Ideal.ofBits FTy.f32 0x40051592#32) * Ideal.ofBits FTy.f32 0x41800000#32

/-- The reference's bucket of the distance word `d`. -/
def rbk (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32 (lrat (IntOp.maxsi d 0#32)))) 31#32)

/-- The kernel's bucket of the distance word `d`. -/
def kbk (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32 (Ideal.liftRound Int.floor (lrat (IntOp.maxsi d 0#32))))) 31#32)

theorem ofBits_16 : Ideal.ofBits .f32 0x41800000#32 = ((16 : ℝ) : EReal) := by
  simp [Ideal.ofBits, Ideal.ieee, -EReal.coe_mul]; norm_num

theorem ofBits_log8 : Ideal.ofBits .f32 0x40051592#32 = ((8721810 / 4194304 : ℝ) : EReal) := by
  simp [Ideal.ofBits, Ideal.ieee, -EReal.coe_mul]; norm_num

/-- The logarithm's ratio of a distance of at least 16 is a nonnegative real, at most 64. -/
theorem lrat_real (n : ℕ) (h16 : 16 ≤ n) (h : n < 128) :
    ∃ x : ℝ, 0 ≤ x ∧ x ≤ 64 ∧ lrat (BitVec.ofNat 32 n) = (x : EReal) := by
  have hm : IntOp.maxsi (BitVec.ofNat 32 n) 1#32 = BitVec.ofNat 32 n := by
    unfold IntOp.maxsi
    rw [if_pos]
    rw [BitVec.slt_iff_toInt_lt, WordCmp.toInt_ofNat_of_lt (by norm_num), WordCmp.toInt_ofNat_of_lt (by norm_num; omega)]
    omega
  have hn : (16 : ℝ) ≤ n := by exact_mod_cast h16
  have hn' : (n : ℝ) < 128 := by exact_mod_cast h
  refine ⟨Real.log (n * (1 / 16)) * (1 / (8721810 / 4194304)) * 16, ?_, ?_, ?_⟩
  · have : 0 ≤ Real.log (n * (1 / 16)) := Real.log_nonneg (by linarith)
    positivity
  · have : Real.log (n * (1 / 16)) ≤ n * (1 / 16) - 1 := Real.log_le_sub_one_of_pos (by linarith)
    have h2 : Real.log (n * (1 / 16)) ≤ 7 := by linarith
    calc Real.log (n * (1 / 16)) * (1 / (8721810 / 4194304)) * 16 ≤ 7 * (1 / (8721810 / 4194304)) * 16 := by
          gcongr
      _ ≤ 64 := by norm_num
  · unfold lrat
    rw [hm, ofBits_16, ofBits_log8, Ideal.div_coe (by norm_num), Ideal.div_coe (by norm_num)]
    have hs : FloatOps.sitofp (F := Ideal) FTy.f32 (BitVec.ofNat 32 n) = ((n : ℝ) : EReal) := by
      show (((BitVec.ofNat 32 n).toInt : ℝ) : EReal) = _
      rw [WordCmp.toInt_ofNat_of_lt (by norm_num; omega)]
      norm_num
    rw [hs, ← EReal.coe_mul]
    have hl : Ideal.log ((n * (1 / 16) : ℝ) : EReal) = ((Real.log (n * (1 / 16)) : ℝ) : EReal) := by
      show (if (n * (1 / 16) : ℝ) ≤ 0 then ⊥ else _) = _
      rw [if_neg (by linarith)]
    rw [hl, ← EReal.coe_mul, ← EReal.coe_mul]

/-- A small nonnegative real, to a word. -/
theorem fptosi_real (x : ℝ) (h0 : 0 ≤ x) (h1 : ⌊x⌋ ≤ 64) :
    FloatOps.fptosi (F := Ideal) (φ := .f32) 32 (x : EReal) = BitVec.ofInt 32 ⌊x⌋ := by
  have hfl : (0 : ℤ) ≤ ⌊x⌋ := Int.floor_nonneg.2 h0
  show Ideal.fptosi 32 (x : EReal) = _
  rw [Ideal.fptosi, Ideal.toIntClamped_coe, if_pos h0]
  congr 1
  norm_num
  omega

theorem liftRound_real (x : ℝ) : Ideal.liftRound Int.floor (x : EReal) = (((⌊x⌋ : ℤ) : ℝ) : EReal) := rfl

theorem bucket_lt : ∀ k : Fin 65, (IntOp.minsi (IntOp.addi 16#32 (BitVec.ofInt 32 (k.val : ℤ))) 31#32).toNat < 32 := by
  decide +kernel

/-- The two buckets of a distance in the window are one word below 32. -/
theorem bk_eq (n : ℕ) (h : n < 128) : kbk (BitVec.ofNat 32 n) = rbk (BitVec.ofNat 32 n) ∧ (rbk (BitVec.ofNat 32 n)).toNat < 32 := by
  have hm : IntOp.maxsi (BitVec.ofNat 32 n) 0#32 = BitVec.ofNat 32 n := by
    unfold IntOp.maxsi
    by_cases h0 : n = 0
    · subst h0; rfl
    · rw [if_pos]
      rw [BitVec.slt_iff_toInt_lt, WordCmp.toInt_ofNat_of_lt (by norm_num), WordCmp.toInt_ofNat_of_lt (by norm_num; omega)]
      omega
  have hc : IntOp.cmpi .slt (BitVec.ofNat 32 n) 16#32 = BitVec.ofBool (decide (n < 16)) := by
    unfold IntOp.cmpi
    dsimp only
    congr 1
    rw [Bool.eq_iff_iff, BitVec.slt_iff_toInt_lt, WordCmp.toInt_ofNat_of_lt (by norm_num; omega),
      WordCmp.toInt_ofNat_of_lt (by norm_num), decide_eq_true_eq]
    omega
  unfold kbk rbk
  rw [hm, hc]
  unfold Scalar.select
  by_cases h16 : n < 16
  · rw [decide_eq_true h16]
    rw [if_pos (by decide), if_pos (by decide)]
    refine ⟨rfl, ?_⟩
    rw [WordCmp.toNat_ofNat_of_lt (by norm_num; omega)]
    omega
  · rw [decide_eq_false h16, if_neg (by decide), if_neg (by decide)]
    obtain ⟨x, hx0, hx64, hx⟩ := lrat_real n (by omega) h
    rw [hx]
    have hfl : (0 : ℤ) ≤ ⌊x⌋ := Int.floor_nonneg.2 hx0
    have hfu : ⌊x⌋ ≤ 64 := by
      have : (⌊x⌋ : ℝ) ≤ 64 := (Int.floor_le x).trans hx64
      exact_mod_cast this
    have e1 : FloatOps.fptosi (F := Ideal) (φ := .f32) 32 (x : EReal) = BitVec.ofInt 32 ⌊x⌋ := fptosi_real x hx0 hfu
    have e2 : FloatOps.fptosi (F := Ideal) (φ := .f32) 32 (Ideal.liftRound Int.floor (x : EReal)) = BitVec.ofInt 32 ⌊x⌋ := by
      rw [liftRound_real, fptosi_real _ (by exact_mod_cast hfl) (by rw [Int.floor_intCast]; exact hfu), Int.floor_intCast]
    rw [e1, e2]
    refine ⟨rfl, ?_⟩
    obtain ⟨k, hk⟩ := Int.eq_ofNat_of_zero_le hfl
    rw [hk] at hfu ⊢
    have hk64 : k < 65 := by omega
    exact bucket_lt ⟨k, hk64⟩

end Cert.AttnScalar
-- ==== Proof.AttnTab.lean ====
/-
  The bias table the first kernel leaves: for each head a block of columns holding the head's bias by bucket, the sink
  in column 0, and minus infinity outside the window.
-/
module

public import proofs.«01_k».proof.Proof.AttnIdealRun
public import proofs.«01_k».proof.Proof.AttnLadder
public import proofs.«01_k».proof.Proof.AttnScalar
public import Idealize.ShloMosaic.Lib.Claim
public import Idealize.ShloMosaic.Lib.Pointwise
public import Idealize.ShloMosaic.Lib.Pipeline.ValueKit

@[expose] public section

set_option maxRecDepth 16384

noncomputable section

namespace Cert.AttnIdeal.Tab

open Idealize.ShloMosaic Idealize.ShloMosaic.TcCoe Idealize.SL.Sem
open Idealize.ShloMosaic.Pipeline (Dat)
open Cert.AttnIdeal Cert.AttnIdeal.Gen Cert.AttnIdeal.Run Cert.AttnScalar

theorem idx0 : ∀ t : Fin cfg0.N, win0_0.index t = ![0, 0] ∧ win0_1.index t = ![0] ∧ win0_2.index t = ![0, 0]
    ∧ win0_3.index t = ![0, t.val, 0, 0] :=
  (by decide +kernel : ∀ t : Fin grid0.N, _)

theorem off1 : ∀ t : Fin cfg0.N, k0_off1 (grid0.coords t) = ![0, t.val] :=
  (by decide +kernel : ∀ t : Fin grid0.N, _)

theorem off2 : ∀ t : Fin cfg0.N, k0_off2 (grid0.coords t) = ![1, t.val] :=
  (by decide +kernel : ∀ t : Fin grid0.N, _)

theorem off3 : ∀ t : Fin cfg0.N, k0_off3 (grid0.coords t) = ![2, t.val] :=
  (by decide +kernel : ∀ t : Fin grid0.N, _)

theorem off4 : ∀ t : Fin cfg0.N, k0_off4 (grid0.coords t) = ![3, t.val] :=
  (by decide +kernel : ∀ t : Fin grid0.N, _)

theorem off5 : ∀ t : Fin cfg0.N, k0_off5 (grid0.coords t) = ![4, t.val] :=
  (by decide +kernel : ∀ t : Fin grid0.N, _)

theorem off6 : ∀ t : Fin cfg0.N, k0_off6 (grid0.coords t) = ![5, t.val] :=
  (by decide +kernel : ∀ t : Fin grid0.N, _)

theorem off7 : ∀ t : Fin cfg0.N, k0_off7 (grid0.coords t) = ![6, t.val] :=
  (by decide +kernel : ∀ t : Fin grid0.N, _)

theorem off8 : ∀ t : Fin cfg0.N, k0_off8 (grid0.coords t) = ![7, t.val] :=
  (by decide +kernel : ∀ t : Fin grid0.N, _)

theorem off9 : ∀ t : Fin cfg0.N, k0_off9 (grid0.coords t) = ![8, t.val] :=
  (by decide +kernel : ∀ t : Fin grid0.N, _)

theorem off10 : ∀ t : Fin cfg0.N, k0_off10 (grid0.coords t) = ![9, t.val] :=
  (by decide +kernel : ∀ t : Fin grid0.N, _)

theorem off11 : ∀ t : Fin cfg0.N, k0_off11 (grid0.coords t) = ![10, t.val] :=
  (by decide +kernel : ∀ t : Fin grid0.N, _)

theorem off12 : ∀ t : Fin cfg0.N, k0_off12 (grid0.coords t) = ![11, t.val] :=
  (by decide +kernel : ∀ t : Fin grid0.N, _)

theorem off13 : ∀ t : Fin cfg0.N, k0_off13 (grid0.coords t) = ![12, t.val] :=
  (by decide +kernel : ∀ t : Fin grid0.N, _)

theorem off14 : ∀ t : Fin cfg0.N, k0_off14 (grid0.coords t) = ![13, t.val] :=
  (by decide +kernel : ∀ t : Fin grid0.N, _)

theorem off15 : ∀ t : Fin cfg0.N, k0_off15 (grid0.coords t) = ![14, t.val] :=
  (by decide +kernel : ∀ t : Fin grid0.N, _)

theorem off16 : ∀ t : Fin cfg0.N, k0_off16 (grid0.coords t) = ![15, t.val] :=
  (by decide +kernel : ∀ t : Fin grid0.N, _)

theorem off17 : ∀ t : Fin cfg0.N, k0_off17 (grid0.coords t) = ![16, t.val] :=
  (by decide +kernel : ∀ t : Fin grid0.N, _)

theorem off18 : ∀ t : Fin cfg0.N, k0_off18 (grid0.coords t) = ![17, t.val] :=
  (by decide +kernel : ∀ t : Fin grid0.N, _)

theorem off19 : ∀ t : Fin cfg0.N, k0_off19 (grid0.coords t) = ![18, t.val] :=
  (by decide +kernel : ∀ t : Fin grid0.N, _)

theorem off20 : ∀ t : Fin cfg0.N, k0_off20 (grid0.coords t) = ![19, t.val] :=
  (by decide +kernel : ∀ t : Fin grid0.N, _)

theorem off21 : ∀ t : Fin cfg0.N, k0_off21 (grid0.coords t) = ![20, t.val] :=
  (by decide +kernel : ∀ t : Fin grid0.N, _)

theorem off22 : ∀ t : Fin cfg0.N, k0_off22 (grid0.coords t) = ![21, t.val] :=
  (by decide +kernel : ∀ t : Fin grid0.N, _)

theorem off23 : ∀ t : Fin cfg0.N, k0_off23 (grid0.coords t) = ![22, t.val] :=
  (by decide +kernel : ∀ t : Fin grid0.N, _)

theorem off24 : ∀ t : Fin cfg0.N, k0_off24 (grid0.coords t) = ![23, t.val] :=
  (by decide +kernel : ∀ t : Fin grid0.N, _)

theorem off25 : ∀ t : Fin cfg0.N, k0_off25 (grid0.coords t) = ![24, t.val] :=
  (by decide +kernel : ∀ t : Fin grid0.N, _)

theorem off26 : ∀ t : Fin cfg0.N, k0_off26 (grid0.coords t) = ![25, t.val] :=
  (by decide +kernel : ∀ t : Fin grid0.N, _)

theorem off27 : ∀ t : Fin cfg0.N, k0_off27 (grid0.coords t) = ![26, t.val] :=
  (by decide +kernel : ∀ t : Fin grid0.N, _)

theorem off28 : ∀ t : Fin cfg0.N, k0_off28 (grid0.coords t) = ![27, t.val] :=
  (by decide +kernel : ∀ t : Fin grid0.N, _)

theorem off29 : ∀ t : Fin cfg0.N, k0_off29 (grid0.coords t) = ![28, t.val] :=
  (by decide +kernel : ∀ t : Fin grid0.N, _)

theorem off30 : ∀ t : Fin cfg0.N, k0_off30 (grid0.coords t) = ![29, t.val] :=
  (by decide +kernel : ∀ t : Fin grid0.N, _)

theorem off31 : ∀ t : Fin cfg0.N, k0_off31 (grid0.coords t) = ![30, t.val] :=
  (by decide +kernel : ∀ t : Fin grid0.N, _)

theorem off32 : ∀ t : Fin cfg0.N, k0_off32 (grid0.coords t) = ![31, t.val] :=
  (by decide +kernel : ∀ t : Fin grid0.N, _)

theorem off33 : ∀ t : Fin cfg0.N, k0_off33 (grid0.coords t) = ![t.val] :=
  (by decide +kernel : ∀ t : Fin grid0.N, _)

theorem lt16 (t : Fin cfg0.N) : t.val < 16 := t.isLt

theorem mask_bot : (Named.named (F := Ideal) (φ := .f32) κ "mask" 0xF149F2CA#32 : EReal) = ⊥ := rfl

/-- The table's entry at a column, from the blocks the kernel reads. -/
def entry (V : (c : Dev nD) → (b : Ref sig .tc) → Buf (Elt Ideal) ((c : Thread nD τ).loc b)) (c : Dev nD) (t : Fin cfg0.N) (q : Fin 128) (j : Fin 256) : EReal :=
  Scalar.select (IntOp.cmpi .eq (BitVec.ofNat 32 j.val) 0#32) (iblk0 V c 1 t (ix1 ⟨t.val, lt16 t⟩))
    (if h : (iblk0 V c 2 t (ix2 q j) : BitVec 32).toNat < 32 then iblk0 V c 0 t (ix2 ⟨(iblk0 V c 2 t (ix2 q j) : BitVec 32).toNat, h⟩ ⟨t.val, lt16 t⟩) else ⊥)

theorem piece_lad (V : (c : Dev nD) → (b : Ref sig .tc) → Buf (Elt Ideal) ((c : Thread nD τ).loc b)) (c : Dev nD) (t : Fin cfg0.N) (y : S2x1x128x256.Idx) :
    oblk0 V c t y = if (y 0).val = 1 ∧ 0 < (y 3).val ∧ (y 3).val < 128 then ⊥ else entry V c t ⟨(y 2).val, (y 2).isLt⟩ ⟨(y 3).val, (y 3).isLt⟩ := by
  unfold oblk0 out0
  frame_out
  canon_tiles x h
  case piece0 =>
    have i2 : (⟨(y 2).val, (y 2).isLt⟩ : Fin 128) = x 2 := Fin.ext (by omega)
    have i3 : (⟨(y 3).val, (y 3).isLt⟩ : Fin 256) = x 3 := Fin.ext (by omega)
    rw [i2, i3]
    pointwise [k0_pay10, k0_pay8, k0_pay7, k0_pay6, k0_pay5, k0_pay4, k0_pay3, k0_pay2, k0_pay1]
    simp only [off1 t, off2 t, off3 t, off4 t, off5 t, off6 t, off7 t, off8 t, off9 t, off10 t, off11 t, off12 t, off13 t, off14 t, off15 t, off16 t, off17 t, off18 t, off19 t, off20 t, off21 t, off22 t, off23 t, off24 t, off25 t, off26 t, off27 t, off28 t, off29 t, off30 t, off31 t, off32 t, off33 t, Matrix.cons_val_zero, Matrix.cons_val_one]
    rw [mask_bot]
    have L := ladder32 (iblk0 V c 2 t (ix2 (x 2) (x 3))) (fun B => iblk0 V c 0 t (ix2 B ⟨t.val, lt16 t⟩)) ⊥
    rw [L]
    clear L
    rw [early_eq _ (by omega)]
    unfold Scalar.select entry
    by_cases hm : 0 < (x 3).val ∧ (x 3).val < 128
    · rw [decide_eq_true hm, if_pos (by decide), if_pos ⟨by omega, by omega, by omega⟩]
    · have hn : ¬ ((y 0).val = 1 ∧ 0 < (y 3).val ∧ (y 3).val < 128) := fun e => hm ⟨by omega, by omega⟩
      rw [decide_eq_false hm, if_neg (by decide), if_neg hn]
      rfl
  case piece1 =>
    have i2 : (⟨(y 2).val, (y 2).isLt⟩ : Fin 128) = x 2 := Fin.ext (by omega)
    have i3 : (⟨(y 3).val, (y 3).isLt⟩ : Fin 256) = x 3 := Fin.ext (by omega)
    rw [i2, i3]
    pointwise [k0_pay9, k0_pay8, k0_pay7, k0_pay6, k0_pay5, k0_pay4, k0_pay3, k0_pay2, k0_pay1]
    simp only [off1 t, off2 t, off3 t, off4 t, off5 t, off6 t, off7 t, off8 t, off9 t, off10 t, off11 t, off12 t, off13 t, off14 t, off15 t, off16 t, off17 t, off18 t, off19 t, off20 t, off21 t, off22 t, off23 t, off24 t, off25 t, off26 t, off27 t, off28 t, off29 t, off30 t, off31 t, off32 t, off33 t, Matrix.cons_val_zero, Matrix.cons_val_one]
    rw [mask_bot]
    have L := ladder32 (iblk0 V c 2 t (ix2 (x 2) (x 3))) (fun B => iblk0 V c 0 t (ix2 B ⟨t.val, lt16 t⟩)) ⊥
    rw [L]
    clear L
    have hn : ¬ ((y 0).val = 1 ∧ 0 < (y 3).val ∧ (y 3).val < 128) := fun e => by omega
    rw [if_neg hn]
    rfl

variable (m : (ℓ : Loc nD τ sig) → Buf (Elt Ideal) ℓ)

theorem bk_at (c : Dev nD) (q : Fin 128) (j : Fin 256) :
    (V4 m c main_v35 : IVec S128x256 32) (ix2 q j) = Scalar.select (inw q.val j.val) (kbk (dw q.val j.val)) 0xFFFFFFFF#32 := by
  show (StableHlo.after hostOps0_3 (V3 m c) (Proc.devRef .tc main_v35) : IVec S128x256 32) (ix2 q j) = _
  entry_read
  simp only [StableHlo.TRef.toBuf, StableHlo.TRef.ofBuf, cast_eq]
  pointwise
  rfl

/-- The table, from the bias by bucket and the sinks. -/
def T (B : FVec Ideal S32x16 .f32) (S : FVec Ideal S16 .f32) (i : Fin 2) (h : Fin 16) (q : Fin 128) (j : Fin 256) : EReal :=
  if i.val = 1 ∧ 0 < j.val ∧ j.val < 128 then ⊥
  else if j.val = 0 then S (ix1 h)
  else if q.val < j.val ∧ j.val ≤ q.val + 128 then
    B (ix2 ⟨(kbk (dw q.val j.val)).toNat % 32, Nat.mod_lt _ (by norm_num)⟩ h)
  else ⊥

theorem kbk_lt (q j : ℕ) (hj : j < 256) (hq : q < 128) (h : q < j ∧ j ≤ q + 128) : (kbk (dw q j)).toNat < 32 := by
  have e : dw q j = BitVec.ofNat 32 (q + 128 - j) := by
    apply BitVec.eq_of_toInt_eq
    rw [dw_toInt q j hq hj, WordCmp.toInt_ofNat_of_lt (by omega)]
    omega
  rw [e, (bk_eq _ (by omega)).1]
  exact (bk_eq _ (by omega)).2

theorem pick (G : Fin 32 → EReal) (w : BitVec 32) (p : Prop) [Decidable p] (hp : p → w.toNat < 32) :
    (if h : (Scalar.select (BitVec.ofBool (decide p)) w 0xFFFFFFFF#32 : BitVec 32).toNat < 32 then
        G ⟨(Scalar.select (BitVec.ofBool (decide p)) w 0xFFFFFFFF#32 : BitVec 32).toNat, h⟩ else ⊥)
      = if p then G ⟨w.toNat % 32, Nat.mod_lt _ (by norm_num)⟩ else ⊥ := by
  by_cases h : p
  · have e : (Scalar.select (BitVec.ofBool (decide p)) w 0xFFFFFFFF#32 : BitVec 32) = w := by
      unfold Scalar.select
      rw [decide_eq_true h, if_pos (by decide)]
    simp only [e]
    rw [dif_pos (hp h), if_pos h]
    exact congrArg G (Fin.ext (Nat.mod_eq_of_lt (hp h)).symm)
  · have e : (Scalar.select (BitVec.ofBool (decide p)) w 0xFFFFFFFF#32 : BitVec 32) = 0xFFFFFFFF#32 := by
      unfold Scalar.select
      rw [decide_eq_false h, if_neg (by decide)]
    simp only [e]
    rw [dif_neg (by decide), if_neg h]

theorem entry_T (c : Dev nD) (t : Fin cfg0.N) (i : Fin 2) (q : Fin 128) (j : Fin 256) :
    (if i.val = 1 ∧ 0 < j.val ∧ j.val < 128 then ⊥ else entry (fun c b => V4 m c b) c t q j)
      = T (m ((c : Thread nD τ).loc main_arg1)) (m ((c : Thread nD τ).loc main_arg2)) i ⟨t.val, lt16 t⟩ q j := by
  unfold T
  by_cases hm : i.val = 1 ∧ 0 < j.val ∧ j.val < 128
  · rw [if_pos hm, if_pos hm]
  rw [if_neg hm, if_neg hm]
  have r0 : ∀ (a : Fin 32) (b : Fin 16), iblk0 (fun c b => V4 m c b) c 0 t (ix2 a b) = (m ((c : Thread nD τ).loc main_arg1) : FVec Ideal S32x16 .f32) (ix2 a b) := by
    intro a b
    have : (V4 m c main_arg1 : FVec Ideal S32x16 .f32) = m ((c : Thread nD τ).loc main_arg1) := by
      show (StableHlo.after hostOps0_3 (V3 m c) (Proc.devRef .tc main_arg1) : FVec Ideal S32x16 .f32) = _
      entry_read
      rfl
    rw [← this]
    blk_point [iblk0, idx0 t]
  have r1 : ∀ (b : Fin 16), iblk0 (fun c b => V4 m c b) c 1 t (ix1 b) = (m ((c : Thread nD τ).loc main_arg2) : FVec Ideal S16 .f32) (ix1 b) := by
    intro b
    have : (V4 m c main_arg2 : FVec Ideal S16 .f32) = m ((c : Thread nD τ).loc main_arg2) := by
      show (StableHlo.after hostOps0_3 (V3 m c) (Proc.devRef .tc main_arg2) : FVec Ideal S16 .f32) = _
      entry_read
      rfl
    rw [← this]
    blk_point [iblk0, idx0 t]
  have r2 : iblk0 (fun c b => V4 m c b) c 2 t (ix2 q j) = Scalar.select (BitVec.ofBool (decide (q.val < j.val ∧ j.val ≤ q.val + 128))) (kbk (dw q.val j.val)) 0xFFFFFFFF#32 := by
    rw [← inw_eq _ _ (by omega) (by omega), ← bk_at m c q j]
    blk_point [iblk0, idx0 t]
  unfold entry
  simp only [r0, r1, r2]
  rw [col0_eq _ (by omega)]
  unfold Scalar.select
  by_cases h0 : j.val = 0
  · rw [decide_eq_true h0, if_pos (by decide), if_pos h0]
  rw [decide_eq_false h0, if_neg (by decide), if_neg h0]
  exact pick (fun a => (m ((c : Thread nD τ).loc main_arg1) : FVec Ideal S32x16 .f32) (ix2 a ⟨t.val, lt16 t⟩)) (kbk (dw q.val j.val)) _
    (kbk_lt q.val j.val (by omega) (by omega))

theorem tab_at (c : Dev nD) (i : Fin 2) (h : Fin 16) (q : Fin 128) (j : Fin 256) :
    (tab m c : FVec Ideal S2x16x128x256 .f32) (ix4 i h q j)
      = T (m ((c : Thread nD τ).loc main_arg1)) (m ((c : Thread nD τ).loc main_arg2)) i h q j := by
  have key : (tab m c : FVec Ideal S2x16x128x256 .f32) = fun y : S2x16x128x256.Idx =>
      T (m ((c : Thread nD τ).loc main_arg1)) (m ((c : Thread nD τ).loc main_arg2)) ⟨(y 0).val, (y 0).isLt⟩ ⟨(y 1).val, (y 1).isLt⟩ ⟨(y 2).val, (y 2).isLt⟩ ⟨(y 3).val, (y 3).isLt⟩ := by
    unfold tab
    refine (dat0 (fun c b => V4 m c b) c).arrAt_eq_of_covers 3 _ (by decide +kernel) fun t hf y => ?_
    blk_simp
    rw [after0_3]
    obtain ⟨e0, e1, e2, e3⟩ := idx0 t
    rw [piece_lad]
    refine (entry_T m c t ⟨(y 0).val, (y 0).isLt⟩ ⟨(y 2).val, (y 2).isLt⟩ ⟨(y 3).val, (y 3).isLt⟩).trans ?_
    congr 1
    · refine Fin.ext ?_
      show (y 0).val = win0_3.index t 0 * 2 + (y 0).val
      rw [e3]; simp
    · refine Fin.ext ?_
      show t.val = win0_3.index t 1
      rw [e3]; simp
    · refine Fin.ext ?_
      show (y 2).val = win0_3.index t 2 * 128 + (y 2).val
      rw [e3]; simp
    · refine Fin.ext ?_
      show (y 3).val = win0_3.index t 3 * 256 + (y 3).val
      rw [e3]; simp
  rw [key]
  rfl

end Cert.AttnIdeal.Tab
-- ==== Proof.AttnBlk.lean ====
/-
  The attention kernel's block at a point, and its result array, read at an index.
-/
module

public import proofs.«01_k».proof.Proof.AttnPay
public import proofs.«01_k».proof.Proof.AttnTab

@[expose] public section

set_option maxRecDepth 16384

noncomputable section

namespace Cert.AttnIdeal.Blk

open Idealize.ShloMosaic Idealize.ShloMosaic.TcCoe Idealize.SL.Sem
open Idealize.ShloMosaic.Pipeline (Dat)
open Cert.AttnIdeal Cert.AttnIdeal.Gen Cert.AttnIdeal.Run Cert.AttnIdeal.Pay Cert.AttnIdeal.Tab Cert.AttnScalar

/-- A row of scores `t` over the values `w`, the row's maximum taken off. -/
def krow (t w : Fin 256 → EReal) : EReal :=
  Ideal.div (∑ j, Ideal.exp (t j - Finset.univ.fold max ⊥ t) * w j) (∑ j, Ideal.exp (t j - Finset.univ.fold max ⊥ t))

/-- An earlier block's rows with row 0 zeroed, then the block's own. -/
def zc (a b : Fin 128 → EReal) (j : Fin 256) : EReal :=
  if h : j.val < 128 then (if j.val = 0 then 0 else a ⟨j.val, h⟩) else b ⟨j.val - 128, by omega⟩

theorem krow_congr (Q Q' : Fin 128 → EReal) (a a' b b' : Fin 128 → Fin 128 → EReal) (z z' : Fin 256 → EReal) (u u' v v' : Fin 128 → EReal)
    (hQ : ∀ x, Q x = Q' x) (ha : ∀ i x, a i x = a' i x) (hb : ∀ i x, b i x = b' i x) (hz : ∀ j, z j = z' j) (hu : ∀ i, u i = u' i) (hv : ∀ i, v i = v' i) :
    krow (fun j => (∑ x : Fin 128, Q x * zc (fun i => a i x) (fun i => b i x) j) * Ideal.ofBits FTy.f32 0x3DB504F3#32 + z j) (zc u v)
      = krow (fun j => (∑ x : Fin 128, Q' x * zc (fun i => a' i x) (fun i => b' i x) j) * Ideal.ofBits FTy.f32 0x3DB504F3#32 + z' j) (zc u' v') := by
  obtain rfl := funext hQ
  obtain rfl : a = a' := funext fun i => funext (ha i)
  obtain rfl : b = b' := funext fun i => funext (hb i)
  obtain rfl := funext hz
  obtain rfl := funext hu
  obtain rfl := funext hv
  rfl

theorem pay_at (v1 : Vec Ideal S128x1024 .bf16) (a b a' b' : Vec Ideal S128x128 .bf16) (z : Vec Ideal S1x1x1024x256 .f32) (q : Fin 128) (C : Fin 1024) :
    k1_pay5 (k1_pay2 a' b') (k1_pay3 v1 a b z) (k1_pay4 v1 a b z) (ix2 q C)
      = krow (fun j => (∑ x : Fin 128, v1 (ix2 q ⟨C.val / 128 * 128 + x.val, by omega⟩) * zc (fun i => a (ix2 i x)) (fun i => b (ix2 i x)) j)
            * Ideal.ofBits FTy.f32 0x3DB504F3#32 + z (ix4 0 0 ⟨C.val / 128 * 128 + q.val, by omega⟩ j))
          (zc (fun i => a' (ix2 i ⟨C.val % 128, by omega⟩)) (fun i => b' (ix2 i ⟨C.val % 128, by omega⟩))) := by
  rw [pay5_eq]
  show ocat _ (ix2 q C) = _
  rw [ocat_at, soft_at, pay4_eq, rmax_at]
  have hs : ∀ j : Fin 256, k1_pay3 v1 a b z (ix2 ⟨C.val / 128 * 128 + q.val, by omega⟩ j)
      = (∑ x : Fin 128, v1 (ix2 q ⟨C.val / 128 * 128 + x.val, by omega⟩) * zc (fun i => a (ix2 i x)) (fun i => b (ix2 i x)) j)
            * Ideal.ofBits FTy.f32 0x3DB504F3#32 + z (ix4 0 0 ⟨C.val / 128 * 128 + q.val, by omega⟩ j) := by
    intro j
    rw [pay3_eq, score_at]
    congr 2
    refine Finset.sum_congr rfl fun x _ => ?_
    rw [qcat_at, zcat_at]
    have e1 : (⟨(C.val / 128 * 128 + q.val) % 128, by omega⟩ : Fin 128) = q := Fin.ext (by dsimp only; omega)
    have e2 : (⟨(C.val / 128 * 128 + q.val) / 128 * 128 + x.val, by omega⟩ : Fin 1024) = ⟨C.val / 128 * 128 + x.val, by omega⟩ :=
      Fin.ext (by dsimp only; omega)
    rw [e1, e2]
    rfl
  simp only [hs]
  unfold krow
  congr 1
  refine Finset.sum_congr rfl fun j _ => ?_
  rw [zcat_at]
  rfl

theorem ld_q0 (X : Vec Ideal S128x2048 .bf16) (q : Fin 128) (C : Fin 1024) :
    View.ld X (Rect.unit ![0, 0] ![128, 1024] inb_S128x2048_S128x1024_0_0) (ix2 q C) = X (ix2 q ⟨C.val, by omega⟩) := by
  pointwise
theorem ld_q1 (X : Vec Ideal S128x2048 .bf16) (q : Fin 128) (C : Fin 1024) :
    View.ld X (Rect.unit ![0, 1024] ![128, 1024] inb_S128x2048_S128x1024_0_1024) (ix2 q C) = X (ix2 q ⟨1024 + C.val, by omega⟩) := by
  pointwise
theorem ld_k0 (X : Vec Ideal S128x256 .bf16) (j : Fin 128) (x : Fin 128) :
    View.ld X (Rect.unit ![0, 0] ![128, 128] inb_S128x256_S128x128_0_0) (ix2 j x) = X (ix2 j ⟨x.val, by omega⟩) := by
  pointwise
theorem ld_k1 (X : Vec Ideal S128x256 .bf16) (j : Fin 128) (x : Fin 128) :
    View.ld X (Rect.unit ![0, 128] ![128, 128] inb_S128x256_S128x128_0_128) (ix2 j x) = X (ix2 j ⟨128 + x.val, by omega⟩) := by
  pointwise
theorem ld_z0 (X : Vec Ideal S1x2x1024x256 .f32) (r : Fin 1024) (j : Fin 256) :
    View.ld X (Rect.unit ![0, 0, 0, 0] ![1, 1, 1024, 256] inb_S1x2x1024x256_S1x1x1024x256_0_0_0_0) (ix4 0 0 r j) = X (ix4 0 0 r j) := by
  pointwise
theorem ld_z1 (X : Vec Ideal S1x2x1024x256 .f32) (r : Fin 1024) (j : Fin 256) :
    View.ld X (Rect.unit ![0, 1, 0, 0] ![1, 1, 1024, 256] inb_S1x2x1024x256_S1x1x1024x256_0_1_0_0) (ix4 0 0 r j) = X (ix4 0 1 r j) := by
  pointwise

/-- The block at a row and column, from the blocks the kernel reads. -/
def blkv (X : Vec Ideal S128x2048 .bf16) (k1 k2 v1 v2 : Vec Ideal S128x256 .bf16) (z : Vec Ideal S1x2x1024x256 .f32) (q : Fin 128) (C : Fin 2048) : EReal :=
  krow (fun j => (∑ x : Fin 128, X (ix2 q ⟨C.val / 128 * 128 + x.val, by omega⟩)
            * zc (fun i => k1 (ix2 i ⟨C.val / 1024 * 128 + x.val, by omega⟩)) (fun i => k2 (ix2 i ⟨C.val / 1024 * 128 + x.val, by omega⟩)) j)
            * Ideal.ofBits FTy.f32 0x3DB504F3#32 + z (ix4 0 ⟨C.val / 1024, by omega⟩ ⟨C.val % 1024 / 128 * 128 + q.val, by omega⟩ j))
          (zc (fun i => v1 (ix2 i ⟨C.val / 1024 * 128 + C.val % 128, by omega⟩)) (fun i => v2 (ix2 i ⟨C.val / 1024 * 128 + C.val % 128, by omega⟩)))

theorem blkv_lo (X : Vec Ideal S128x2048 .bf16) (k1 k2 v1 v2 : Vec Ideal S128x256 .bf16) (z : Vec Ideal S1x2x1024x256 .f32) (q : Fin 128) (C : Fin 1024)
    (C' : Fin 2048) (hC : C'.val = C.val) :
    blkv X k1 k2 v1 v2 z q C' = krow (fun j => (∑ x : Fin 128, X (ix2 q ⟨C.val / 128 * 128 + x.val, by omega⟩)
            * zc (fun i => k1 (ix2 i ⟨x.val, by omega⟩)) (fun i => k2 (ix2 i ⟨x.val, by omega⟩)) j)
            * Ideal.ofBits FTy.f32 0x3DB504F3#32 + z (ix4 0 0 ⟨C.val / 128 * 128 + q.val, by omega⟩ j))
          (zc (fun i => v1 (ix2 i ⟨C.val % 128, by omega⟩)) (fun i => v2 (ix2 i ⟨C.val % 128, by omega⟩))) := by
  unfold blkv
  have f0 : (⟨C'.val / 1024, by omega⟩ : Fin 2) = 0 := Fin.ext (by show C'.val / 1024 = 0; omega)
  have f1 : (⟨C'.val % 1024 / 128 * 128 + q.val, by omega⟩ : Fin 1024) = ⟨C.val / 128 * 128 + q.val, by omega⟩ := Fin.ext (by dsimp only; omega)
  have f2 : ∀ x : Fin 128, (⟨C'.val / 1024 * 128 + x.val, by omega⟩ : Fin 256) = ⟨x.val, by omega⟩ := fun x => Fin.ext (by dsimp only; omega)
  have f3 : (⟨C'.val / 1024 * 128 + C'.val % 128, by omega⟩ : Fin 256) = ⟨C.val % 128, by omega⟩ := Fin.ext (by dsimp only; omega)
  have f4 : ∀ x : Fin 128, (⟨C'.val / 128 * 128 + x.val, by omega⟩ : Fin 2048) = ⟨C.val / 128 * 128 + x.val, by omega⟩ := fun x => Fin.ext (by dsimp only; omega)
  simp only [f0, f1, f2, f3, f4]

theorem blkv_hi (X : Vec Ideal S128x2048 .bf16) (k1 k2 v1 v2 : Vec Ideal S128x256 .bf16) (z : Vec Ideal S1x2x1024x256 .f32) (q : Fin 128) (C : Fin 1024)
    (C' : Fin 2048) (hC : C'.val = 1024 + C.val) :
    blkv X k1 k2 v1 v2 z q C' = krow (fun j => (∑ x : Fin 128, X (ix2 q ⟨1024 + (C.val / 128 * 128 + x.val), by omega⟩)
            * zc (fun i => k1 (ix2 i ⟨128 + x.val, by omega⟩)) (fun i => k2 (ix2 i ⟨128 + x.val, by omega⟩)) j)
            * Ideal.ofBits FTy.f32 0x3DB504F3#32 + z (ix4 0 1 ⟨C.val / 128 * 128 + q.val, by omega⟩ j))
          (zc (fun i => v1 (ix2 i ⟨128 + C.val % 128, by omega⟩)) (fun i => v2 (ix2 i ⟨128 + C.val % 128, by omega⟩))) := by
  unfold blkv
  have f0 : (⟨C'.val / 1024, by omega⟩ : Fin 2) = 1 := Fin.ext (by show C'.val / 1024 = 1; omega)
  have f1 : (⟨C'.val % 1024 / 128 * 128 + q.val, by omega⟩ : Fin 1024) = ⟨C.val / 128 * 128 + q.val, by omega⟩ := Fin.ext (by dsimp only; omega)
  have f2 : ∀ x : Fin 128, (⟨C'.val / 1024 * 128 + x.val, by omega⟩ : Fin 256) = ⟨128 + x.val, by omega⟩ := fun x => Fin.ext (by dsimp only; omega)
  have f3 : (⟨C'.val / 1024 * 128 + C'.val % 128, by omega⟩ : Fin 256) = ⟨128 + C.val % 128, by omega⟩ := Fin.ext (by dsimp only; omega)
  have f4 : ∀ x : Fin 128, (⟨C'.val / 128 * 128 + x.val, by omega⟩ : Fin 2048) = ⟨1024 + (C.val / 128 * 128 + x.val), by omega⟩ := fun x => Fin.ext (by dsimp only; omega)
  simp only [f0, f1, f2, f3, f4]

theorem pay_hi (X : Vec Ideal S128x2048 .bf16) (k1 k2 v1 v2 : Vec Ideal S128x256 .bf16) (z : Vec Ideal S1x2x1024x256 .f32) (q : Fin 128) (C : Fin 1024)
    (C' : Fin 2048) (hC : C'.val = 1024 + C.val) :
    k1_pay5 (k1_pay2 (View.ld v1 (Rect.unit ![0, 128] ![128, 128] inb_S128x256_S128x128_0_128)) (View.ld v2 (Rect.unit ![0, 128] ![128, 128] inb_S128x256_S128x128_0_128)))
      (k1_pay3 (View.ld X (Rect.unit ![0, 1024] ![128, 1024] inb_S128x2048_S128x1024_0_1024)) (View.ld k1 (Rect.unit ![0, 128] ![128, 128] inb_S128x256_S128x128_0_128)) (View.ld k2 (Rect.unit ![0, 128] ![128, 128] inb_S128x256_S128x128_0_128)) (View.ld z (Rect.unit ![0, 1, 0, 0] ![1, 1, 1024, 256] inb_S1x2x1024x256_S1x1x1024x256_0_1_0_0)))
      (k1_pay4 (View.ld X (Rect.unit ![0, 1024] ![128, 1024] inb_S128x2048_S128x1024_0_1024)) (View.ld k1 (Rect.unit ![0, 128] ![128, 128] inb_S128x256_S128x128_0_128)) (View.ld k2 (Rect.unit ![0, 128] ![128, 128] inb_S128x256_S128x128_0_128)) (View.ld z (Rect.unit ![0, 1, 0, 0] ![1, 1, 1024, 256] inb_S1x2x1024x256_S1x1x1024x256_0_1_0_0))) (ix2 q C)
      = blkv X k1 k2 v1 v2 z q C' := by
  rw [blkv_hi X k1 k2 v1 v2 z q C C' hC]
  refine (pay_at _ _ _ _ _ _ _ _).trans ?_
  exact krow_congr _ _ _ _ _ _ _ _ _ _ _ _ (fun x => ld_q1 _ _ _) (fun i x => ld_k1 _ _ _) (fun i x => ld_k1 _ _ _)
    (fun j => ld_z1 _ _ _) (fun i => ld_k1 _ _ _) (fun i => ld_k1 _ _ _)

theorem pay_lo (X : Vec Ideal S128x2048 .bf16) (k1 k2 v1 v2 : Vec Ideal S128x256 .bf16) (z : Vec Ideal S1x2x1024x256 .f32) (q : Fin 128) (C : Fin 1024)
    (C' : Fin 2048) (hC : C'.val = C.val) :
    k1_pay5 (k1_pay2 (View.ld v1 (Rect.unit ![0, 0] ![128, 128] inb_S128x256_S128x128_0_0)) (View.ld v2 (Rect.unit ![0, 0] ![128, 128] inb_S128x256_S128x128_0_0)))
      (k1_pay3 (View.ld X (Rect.unit ![0, 0] ![128, 1024] inb_S128x2048_S128x1024_0_0)) (View.ld k1 (Rect.unit ![0, 0] ![128, 128] inb_S128x256_S128x128_0_0)) (View.ld k2 (Rect.unit ![0, 0] ![128, 128] inb_S128x256_S128x128_0_0)) (View.ld z (Rect.unit ![0, 0, 0, 0] ![1, 1, 1024, 256] inb_S1x2x1024x256_S1x1x1024x256_0_0_0_0)))
      (k1_pay4 (View.ld X (Rect.unit ![0, 0] ![128, 1024] inb_S128x2048_S128x1024_0_0)) (View.ld k1 (Rect.unit ![0, 0] ![128, 128] inb_S128x256_S128x128_0_0)) (View.ld k2 (Rect.unit ![0, 0] ![128, 128] inb_S128x256_S128x128_0_0)) (View.ld z (Rect.unit ![0, 0, 0, 0] ![1, 1, 1024, 256] inb_S1x2x1024x256_S1x1x1024x256_0_0_0_0))) (ix2 q C)
      = blkv X k1 k2 v1 v2 z q C' := by
  rw [blkv_lo X k1 k2 v1 v2 z q C C' hC]
  refine (pay_at _ _ _ _ _ _ _ _).trans ?_
  exact krow_congr _ _ _ _ _ _ _ _ _ _ _ _ (fun x => ld_q0 _ _ _) (fun i x => ld_k0 _ _ _) (fun i x => ld_k0 _ _ _)
    (fun j => ld_z0 _ _ _) (fun i => ld_k0 _ _ _) (fun i => ld_k0 _ _ _)

theorem oblk1_at (V : (c : Dev nD) → (b : Ref sig .tc) → Buf (Elt Ideal) ((c : Thread nD τ).loc b)) (c : Dev nD) (t : Fin cfg1.N) (y : S128x2048.Idx) :
    oblk1 V c t y = blkv (X1_0 V c t) (iblk1 V c 1 t) (iblk1 V c 2 t) (iblk1 V c 3 t) (iblk1 V c 4 t) (iblk1 V c 5 t) ⟨(y 0).val, (y 0).isLt⟩ ⟨(y 1).val, (y 1).isLt⟩ := by
  unfold oblk1 out1
  frame_out
  canon_tiles x h
  case piece0 =>
    have hx : x = ix2 (⟨(x 0).val, x0_lt⟩ : Fin 128) (⟨(x 1).val, x1_lt⟩ : Fin 1024) := by
      funext a
      match a with
      | ⟨0, _⟩ => rfl
      | ⟨1, _⟩ => rfl
    have hy : (⟨(y 0).val, (y 0).isLt⟩ : Fin 128) = ⟨(x 0).val, x0_lt⟩ := Fin.ext h0
    rw [hy]
    rw [pay1_eq]
    refine (congrArg _ hx).trans ?_
    exact pay_hi _ _ _ _ _ _ _ _ _ h1
  case piece1 =>
    have hx : x = ix2 (⟨(x 0).val, x0_lt⟩ : Fin 128) (⟨(x 1).val, x1_lt⟩ : Fin 1024) := by
      funext a
      match a with
      | ⟨0, _⟩ => rfl
      | ⟨1, _⟩ => rfl
    have hy : (⟨(y 0).val, (y 0).isLt⟩ : Fin 128) = ⟨(x 0).val, x0_lt⟩ := Fin.ext h0
    rw [hy]
    refine (congrArg _ hx).trans ?_
    exact pay_lo _ _ _ _ _ _ _ _ _ h1

theorem idx1 : ∀ t : Fin cfg1.N, win1_0.index t = ![t.val, 0] ∧ win1_1.index t = ![if t.val % 16 = 0 then t.val else t.val - 1, 8]
    ∧ win1_2.index t = ![t.val, 8] ∧ win1_3.index t = ![if t.val % 16 = 0 then t.val else t.val - 1, 9] ∧ win1_4.index t = ![t.val, 9]
    ∧ win1_5.index t = ![if t.val % 16 = 0 then 1 else 0, 0, 0, 0] ∧ win1_6.index t = ![t.val, 0] :=
  (by decide +kernel : ∀ t : Fin grid1.N, _)

variable (m : (ℓ : Loc nD τ sig) → Buf (Elt Ideal) ℓ)

theorem lt64 (t : Fin cfg1.N) : t.val < 64 := t.isLt

theorem VE_arg0 (c : Dev nD) : (VE m c main_arg0 : FVec Ideal S8192x6656 .bf16) = m ((c : Thread nD τ).loc main_arg0) := by
  show (StableHlo.after hostOps1 (V5 m (outs0 m) c) (Proc.devRef .tc main_arg0) : FVec Ideal S8192x6656 .bf16) = _
  entry_read
  rfl

theorem resh (X : FVec Ideal S2x16x128x256 .f32) (i k : Fin 2) (r : Fin 1024) (j : Fin 256) :
    (shapeCast S2x2x1024x256 X shapeCasts_S2x16x128x256_S2x2x1024x256 : FVec Ideal S2x2x1024x256 .f32) (ix4 i k r j)
      = X (ix4 i ⟨k.val * 8 + r.val / 128, by omega⟩ ⟨r.val % 128, by omega⟩ j) := by
  pointwise

theorem VE_v37 (c : Dev nD) (i k : Fin 2) (r : Fin 1024) (j : Fin 256) : (VE m c main_v37 : FVec Ideal S2x2x1024x256 .f32) (ix4 i k r j)
    = T (m ((c : Thread nD τ).loc main_arg1)) (m ((c : Thread nD τ).loc main_arg2)) i ⟨k.val * 8 + r.val / 128, by omega⟩ ⟨r.val % 128, by omega⟩ j := by
  rw [← tab_at m c]
  show (StableHlo.after hostOps1 (V5 m (outs0 m) c) (Proc.devRef .tc main_v37) : FVec Ideal S2x2x1024x256 .f32) (ix4 i k r j) = _
  entry_read
  have hv : (V5 m (outs0 m) c (Proc.devRef .tc main_v36) : FVec Ideal S2x16x128x256 .f32) = tab m c :=
    (Function.update_self _ _ _).trans (outs0_v36 m c)
  refine Eq.trans ?_ (resh (tab m c) i k r j)
  rw [← hv]
  rfl

theorem X_at (c : Dev nD) (t : Fin cfg1.N) (q : Fin 128) (e : Fin 2048) :
    X1_0 (VE m) c t (ix2 q e) = (m ((c : Thread nD τ).loc main_arg0) : FVec Ideal S8192x6656 .bf16) (ix2 ⟨t.val * 128 + q.val, by have := lt64 t; omega⟩ ⟨e.val, by omega⟩) := by
  rw [← VE_arg0 m c]
  unfold X1_0 Pipeline.Window.fill
  rw [dif_pos (moved1_0 t _)]
  blk_point [iblk1, idx1 t]

theorem k1_at (c : Dev nD) (t : Fin cfg1.N) (j : Fin 128) (e : Fin 256) :
    iblk1 (VE m) c 1 t (ix2 j e) = (m ((c : Thread nD τ).loc main_arg0) : FVec Ideal S8192x6656 .bf16) (ix2 ⟨(if t.val % 16 = 0 then t.val else t.val - 1) * 128 + j.val, by have := lt64 t; split_ifs <;> omega⟩ ⟨2048 + e.val, by omega⟩) := by
  rw [← VE_arg0 m c]
  blk_point [iblk1, idx1 t]

theorem k2_at (c : Dev nD) (t : Fin cfg1.N) (j : Fin 128) (e : Fin 256) :
    iblk1 (VE m) c 2 t (ix2 j e) = (m ((c : Thread nD τ).loc main_arg0) : FVec Ideal S8192x6656 .bf16) (ix2 ⟨t.val * 128 + j.val, by have := lt64 t; omega⟩ ⟨2048 + e.val, by omega⟩) := by
  rw [← VE_arg0 m c]
  blk_point [iblk1, idx1 t]

theorem v1_at (c : Dev nD) (t : Fin cfg1.N) (j : Fin 128) (e : Fin 256) :
    iblk1 (VE m) c 3 t (ix2 j e) = (m ((c : Thread nD τ).loc main_arg0) : FVec Ideal S8192x6656 .bf16) (ix2 ⟨(if t.val % 16 = 0 then t.val else t.val - 1) * 128 + j.val, by have := lt64 t; split_ifs <;> omega⟩ ⟨2304 + e.val, by omega⟩) := by
  rw [← VE_arg0 m c]
  blk_point [iblk1, idx1 t]

theorem v2_at (c : Dev nD) (t : Fin cfg1.N) (j : Fin 128) (e : Fin 256) :
    iblk1 (VE m) c 4 t (ix2 j e) = (m ((c : Thread nD τ).loc main_arg0) : FVec Ideal S8192x6656 .bf16) (ix2 ⟨t.val * 128 + j.val, by have := lt64 t; omega⟩ ⟨2304 + e.val, by omega⟩) := by
  rw [← VE_arg0 m c]
  blk_point [iblk1, idx1 t]

theorem z_at (c : Dev nD) (t : Fin cfg1.N) (k : Fin 2) (r : Fin 1024) (j : Fin 256) :
    iblk1 (VE m) c 5 t (ix4 0 k r j) = T (m ((c : Thread nD τ).loc main_arg1)) (m ((c : Thread nD τ).loc main_arg2))
      ⟨if t.val % 16 = 0 then 1 else 0, by split_ifs <;> omega⟩ ⟨k.val * 8 + r.val / 128, by omega⟩ ⟨r.val % 128, by omega⟩ j := by
  rw [← VE_v37 m c]
  blk_point [iblk1, idx1 t]

/-- The block at point `t`, at a row and column. -/
def kv (c : Dev nD) (t : Fin cfg1.N) (q : Fin 128) (C : Fin 2048) : EReal :=
  blkv (X1_0 (VE m) c t) (iblk1 (VE m) c 1 t) (iblk1 (VE m) c 2 t) (iblk1 (VE m) c 3 t) (iblk1 (VE m) c 4 t) (iblk1 (VE m) c 5 t) q C

theorem kv_congr (c : Dev nD) (t t' : Fin cfg1.N) (q q' : Fin 128) (C C' : Fin 2048) (ht : t.val = t'.val) (hq : q.val = q'.val) (hC : C.val = C'.val) :
    kv m c t q C = kv m c t' q' C' := by
  obtain rfl := Fin.ext ht
  obtain rfl := Fin.ext hq
  obtain rfl := Fin.ext hC
  rfl

theorem res_at (c : Dev nD) (R : Fin 8192) (C : Fin 2048) (t : Fin cfg1.N) (ht : t.val = R.val / 128) :
    (res m c : FVec Ideal S8192x2048 .bf16) (ix2 R C) = kv m c t ⟨R.val % 128, by omega⟩ C := by
  have key : (res m c : FVec Ideal S8192x2048 .bf16) = fun y : S8192x2048.Idx =>
      kv m c ⟨(y 0).val / 128, Nat.div_lt_of_lt_mul (y 0).isLt⟩ ⟨(y 0).val % 128, Nat.mod_lt _ (by norm_num)⟩ ⟨(y 1).val, (y 1).isLt⟩ := by
    unfold res
    refine (dat1 (VE m) c).arrAt_eq_of_covers 6 _ (by decide +kernel) fun t hf y => ?_
    blk_simp
    rw [after1_6]
    refine (oblk1_at (VE m) c t y).trans ?_
    have hy0 : (y 0).val < 128 := (y 0).isLt
    refine kv_congr m c t _ _ _ _ _ ?_ ?_ ?_
    · show t.val = (win1_6.index t 0 * 128 + (y 0).val) / 128
      rw [(idx1 t).2.2.2.2.2.2]
      show t.val = (t.val * 128 + (y 0).val) / 128
      omega
    · show (y 0).val = (win1_6.index t 0 * 128 + (y 0).val) % 128
      rw [(idx1 t).2.2.2.2.2.2]
      show (y 0).val = (t.val * 128 + (y 0).val) % 128
      omega
    · show (y 1).val = win1_6.index t 1 * 2048 + (y 1).val
      rw [(idx1 t).2.2.2.2.2.2]
      show (y 1).val = 0 * 2048 + (y 1).val
      omega
  rw [key]
  exact kv_congr m c _ _ _ _ _ _ ht.symm rfl rfl

end Cert.AttnIdeal.Blk
-- ==== Proof.AttnRef.lean ====
module
public import Idealize.ShloMosaic.Lib.Claim
public import Idealize.ShloMosaic.Lib.Pointwise
public import proofs.«01_k».proof.Proof.Gen.AttnRefIdeal.Run
@[expose] public section
set_option maxRecDepth 16384
noncomputable section
open Idealize.ShloMosaic Idealize.ShloMosaic.TcCoe Idealize.SL.Sem
namespace Cert.AttnRefIdeal.Pieces
open Cert.AttnRefIdeal Cert.AttnRefIdeal.Gen

/-! The attention reference's result, piece by piece. -/

/-- The distance from a query row to a key column of its window. -/
def dist  : IVec S128x256 32 :=
  subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))

/-- The distance, at least 0. -/
def dpos  : IVec S128x256 32 :=
  maxsi dist (broadcastInDim S128x256 ![] bcast_S_S128x256 (constantI S_ 32 0#32))

/-- The bucket of a distance. -/
def bkt  : IVec S128x256 32 :=
  select (cmpi .slt dpos (broadcastInDim S128x256 ![] bcast_S_S128x256 (constantI S_ 32 16#32))) dpos (minsi (addi (broadcastInDim S128x256 ![] bcast_S_S128x256 (constantI S_ 32 16#32)) (fptosi 32 (mulf (Host.divf (Host.log (Host.divf (sitofp .f32 (maxsi dpos (broadcastInDim S128x256 ![] bcast_S_S128x256 (constantI S_ 32 1#32)))) (broadcastInDim S128x256 ![] bcast_S_S128x256 (constant S_ .f32 0x41800000#32)))) (broadcastInDim S128x256 ![] bcast_S_S128x256 (constant S_ .f32 0x40051592#32))) (broadcastInDim S128x256 ![] bcast_S_S128x256 (constant S_ .f32 0x41800000#32)) : FVec Ideal S128x256 .f32))) (broadcastInDim S128x256 ![] bcast_S_S128x256 (constantI S_ 32 31#32)))

/-- The bias of a head at a row and column. -/
def bias (B : FVec Ideal S32x16 .f32) : FVec Ideal S2x8x128x256 .f32 :=
  shapeCast _ (transpose S16x128x256 [2, 0, 1] (Host.gather gather_S32x16_S128x256x1_S128x256x16_2_0_n_n_0_2_116 B (broadcastInDim S128x256x1 ![0, 1] bcast_S128x256_S128x256x1_0_1 (select (cmpi .slt bkt (broadcastInDim S128x256 ![] bcast_S_S128x256 (constantI S_ 32 0#32))) (addi bkt (broadcastInDim S128x256 ![] bcast_S_S128x256 (constantI S_ 32 32#32))) bkt))) transposes_S128x256x16_S16x128x256_2_0_1) shapeCasts_S16x128x256_S2x8x128x256

/-- Which columns a row of a block attends to. -/
def msk  : IVec S16x128x256 1 :=
  andi (broadcastInDim S16x128x256 ![0, 1, 2] bcast_S1x128x256_S16x128x256_0_1_2 (broadcastInDim S1x128x256 ![1, 2] bcast_S128x256_S1x128x256_1_2 (andi (cmpi .sge dist (broadcastInDim S128x256 ![] bcast_S_S128x256 (constantI S_ 32 0#32))) (cmpi .slt dist (broadcastInDim S128x256 ![] bcast_S_S128x256 (constantI S_ 32 128#32)))))) (broadcastInDim S16x128x256 ![0, 1, 2] bcast_S16x1x256_S16x128x256_0_1_2 (broadcastInDim S16x1x256 ![0, 2] bcast_S16x256_S16x1x256_0_2 (cmpi .sge (addi (broadcastInDim S16x256 ![0, 1] bcast_S16x1_S16x256_0_1 (subi (muli (broadcastInDim S16x1 ![0] bcast_S16_S16x1_0 (iotaInDim S16 32 0)) (broadcastInDim S16x1 ![] bcast_S_S16x1 (constantI S_ 32 128#32))) (broadcastInDim S16x1 ![] bcast_S_S16x1 (constantI S_ 32 128#32)))) (broadcastInDim S16x256 ![0, 1] bcast_S1x256_S16x256_0_1 (broadcastInDim S1x256 ![1] bcast_S256_S1x256_1 (iotaInDim S256 32 0)))) (broadcastInDim S16x256 ![] bcast_S_S16x256 (constantI S_ 32 0#32)))))

/-- The queries, by block and head. -/
def qs (P : FVec Ideal S8192x6656 .bf16) : FVec Ideal S4x16x128x2x8x128 .f32 :=
  shapeCast _ (shapeCast _ (extractStridedSlice S8192x2048 ![0, 0] (extf .f32 P bitsLt_bf16_f32) slices_S8192x6656_S8192x2048_0_0) shapeCasts_S8192x2048_S4x2048x16x128) shapeCasts_S4x2048x16x128_S4x16x128x2x8x128

/-- The keys of a block and the block before it. -/
def kc (P : FVec Ideal S8192x6656 .bf16) : FVec Ideal S4x16x256x2x128 .f32 :=
  concatenate S4x16x256x2x128 2 [⟨S4x16x128x2x128, (extractStridedSlice S4x16x128x2x128 ![0, 0, 0, 0, 0] (pad S4x17x128x2x128 ![0, 1, 0, 0, 0] ![0, 0, 0, 0, 0] ![0, 0, 0, 0, 0] (shapeCast _ (shapeCast _ (extractStridedSlice S8192x256 ![0, 2048] (extf .f32 P bitsLt_bf16_f32) slices_S8192x6656_S8192x256_0_2048) shapeCasts_S8192x256_S4x2048x2x128) shapeCasts_S4x2048x2x128_S4x16x128x2x128) (sitofp .f32 (constantI S_ 32 0#32)) pads_S4x16x128x2x128_S4x17x128x2x128_000_100_000_000_000 h_S_) slices_S4x17x128x2x128_S4x16x128x2x128_0_0_0_0_0)⟩, ⟨S4x16x128x2x128, (shapeCast _ (shapeCast _ (extractStridedSlice S8192x256 ![0, 2048] (extf .f32 P bitsLt_bf16_f32) slices_S8192x6656_S8192x256_0_2048) shapeCasts_S8192x256_S4x2048x2x128) shapeCasts_S4x2048x2x128_S4x16x128x2x128)⟩] concatenates_S4x16x128x2x128_S4x16x128x2x128_S4x16x256x2x128_d2

/-- The values of a block and the block before it. -/
def vc (P : FVec Ideal S8192x6656 .bf16) : FVec Ideal S4x16x256x2x128 .f32 :=
  concatenate S4x16x256x2x128 2 [⟨S4x16x128x2x128, (extractStridedSlice S4x16x128x2x128 ![0, 0, 0, 0, 0] (pad S4x17x128x2x128 ![0, 1, 0, 0, 0] ![0, 0, 0, 0, 0] ![0, 0, 0, 0, 0] (shapeCast _ (shapeCast _ (extractStridedSlice S8192x256 ![0, 2304] (extf .f32 P bitsLt_bf16_f32) slices_S8192x6656_S8192x256_0_2304) shapeCasts_S8192x256_S4x2048x2x128) shapeCasts_S4x2048x2x128_S4x16x128x2x128) (sitofp .f32 (constantI S_ 32 0#32)) pads_S4x16x128x2x128_S4x17x128x2x128_000_100_000_000_000 h_S_) slices_S4x17x128x2x128_S4x16x128x2x128_0_0_0_0_0)⟩, ⟨S4x16x128x2x128, (shapeCast _ (shapeCast _ (extractStridedSlice S8192x256 ![0, 2304] (extf .f32 P bitsLt_bf16_f32) slices_S8192x6656_S8192x256_0_2304) shapeCasts_S8192x256_S4x2048x2x128) shapeCasts_S4x2048x2x128_S4x16x128x2x128)⟩] concatenates_S4x16x128x2x128_S4x16x128x2x128_S4x16x256x2x128_d2

/-- The scaled scores. -/
def sc (P : FVec Ideal S8192x6656 .bf16) : FVec Ideal S4x16x2x8x128x256 .f32 :=
  mulf (transpose S4x16x2x8x128x256 [0, 1, 2, 5, 4, 3] (Host.dotGeneral dot_S4x16x256x2x128_S4x16x128x2x8x128_S4x16x2x256x128x8_4_5_2_24_013_013 none (kc P) (qs P)) transposes_S4x16x2x256x128x8_S4x16x2x8x128x256_0_1_2_5_4_3) (broadcastInDim S4x16x2x8x128x256 ![] bcast_S_S4x16x2x8x128x256 (constant S_ .f32 0x3DB504F3#32))

/-- The scores with the bias, the masked ones negative infinity. -/
def ms (P : FVec Ideal S8192x6656 .bf16) (B : FVec Ideal S32x16 .f32) : FVec Ideal S4x16x2x8x128x256 .f32 :=
  select (broadcastInDim S4x16x2x8x128x256 ![0, 1, 2, 3, 4, 5] bcast_S1x16x1x1x128x256_S4x16x2x8x128x256_0_1_2_3_4_5 (broadcastInDim S1x16x1x1x128x256 ![1, 4, 5] bcast_S16x128x256_S1x16x1x1x128x256_1_4_5 msk)) (addf (sc P) (broadcastInDim S4x16x2x8x128x256 ![0, 1, 2, 3, 4, 5] bcast_S1x1x2x8x128x256_S4x16x2x8x128x256_0_1_2_3_4_5 (broadcastInDim S1x1x2x8x128x256 ![2, 3, 4, 5] bcast_S2x8x128x256_S1x1x2x8x128x256_2_3_4_5 (bias B)))) (broadcastInDim S4x16x2x8x128x256 ![] bcast_S_S4x16x2x8x128x256 (id (constant S_ .f32 0xFF800000#32)))

/-- The largest score of a row, the sink included. -/
def mx (P : FVec Ideal S8192x6656 .bf16) (B : FVec Ideal S32x16 .f32) (S : FVec Ideal S16 .f32) : FVec Ideal S4x16x2x8x128x1 .f32 :=
  maximumf (broadcastInDim S4x16x2x8x128x1 ![0, 1, 2, 3, 4] bcast_S4x16x2x8x128_S4x16x2x8x128x1_0_1_2_3_4 (Host.reduce FloatOps.maximumf (ms P B) (constant S_ .f32 0xFF800000#32) reducesTo_S4x16x2x8x128x256_S4x16x2x8x128_d5 h_S_)) (broadcastInDim S4x16x2x8x128x1 ![0, 1, 2, 3, 4, 5] bcast_S1x1x2x8x1x1_S4x16x2x8x128x1_0_1_2_3_4_5 (broadcastInDim S1x1x2x8x1x1 ![2, 3] bcast_S2x8_S1x1x2x8x1x1_2_3 (shapeCast _ S shapeCasts_S16_S2x8)))

/-- The exponentials. -/
def ex (P : FVec Ideal S8192x6656 .bf16) (B : FVec Ideal S32x16 .f32) (S : FVec Ideal S16 .f32) : FVec Ideal S4x16x2x8x128x256 .f32 :=
  Host.exp (subf (ms P B) (broadcastInDim S4x16x2x8x128x256 ![0, 1, 2, 3, 4, 5] bcast_S4x16x2x8x128x1_S4x16x2x8x128x256_0_1_2_3_4_5 (mx P B S)))

/-- A row's sum of exponentials, the sink included. -/
def den (P : FVec Ideal S8192x6656 .bf16) (B : FVec Ideal S32x16 .f32) (S : FVec Ideal S16 .f32) : FVec Ideal S4x16x2x8x128x1 .f32 :=
  addf (broadcastInDim S4x16x2x8x128x1 ![0, 1, 2, 3, 4] bcast_S4x16x2x8x128_S4x16x2x8x128x1_0_1_2_3_4 (Host.reduceAdd (ex P B S) (constant S_ .f32 0x00000000#32) reducesTo_S4x16x2x8x128x256_S4x16x2x8x128_d5 h_S_)) (Host.exp (subf (broadcastInDim S4x16x2x8x128x1 ![0, 1, 2, 3, 4, 5] bcast_S1x1x2x8x1x1_S4x16x2x8x128x1_0_1_2_3_4_5 (broadcastInDim S1x1x2x8x1x1 ![2, 3] bcast_S2x8_S1x1x2x8x1x1_2_3 (shapeCast _ S shapeCasts_S16_S2x8))) (mx P B S)))

/-- The probabilities. -/
def pr (P : FVec Ideal S8192x6656 .bf16) (B : FVec Ideal S32x16 .f32) (S : FVec Ideal S16 .f32) : FVec Ideal S4x16x2x8x128x256 .f32 :=
  Host.divf (ex P B S) (broadcastInDim S4x16x2x8x128x256 ![0, 1, 2, 3, 4, 5] bcast_S4x16x2x8x128x1_S4x16x2x8x128x256_0_1_2_3_4_5 (den P B S))

/-- The reference's result. -/
def out (P : FVec Ideal S8192x6656 .bf16) (B : FVec Ideal S32x16 .f32) (S : FVec Ideal S16 .f32) : FVec Ideal S8192x2048 .bf16 :=
  truncf .bf16 (shapeCast _ (transpose S4x16x128x2x8x128 [0, 1, 5, 2, 4, 3] (Host.dotGeneral dot_S4x16x256x2x128_S4x16x2x8x128x256_S4x16x2x128x8x128_2_5_4_34_013_012 none (vc P) (pr P B S)) transposes_S4x16x2x128x8x128_S4x16x128x2x8x128_0_1_5_2_4_3) shapeCasts_S4x16x128x2x8x128_S8192x2048) bitsLt_bf16_f32

/-- The printed result is the pieces' composite. -/
theorem res_eq (m : (ℓ : Loc nD τ sig) → Buf (Elt Ideal) ℓ) (c : Dev nD) :
    Value.res_main_v106 (F := Ideal) m c = out (m ((c.tc : Thread nD τ).loc main_arg0)) (m ((c.tc : Thread nD τ).loc main_arg1)) (m ((c.tc : Thread nD τ).loc main_arg2)) := by
  unfold Value.res_main_v106
  rfl

end Cert.AttnRefIdeal.Pieces
-- ==== Proof.AttnRefAt.lean ====
/-
  The attention reference's pieces read at an index.
-/
module

public import proofs.«01_k».proof.Proof.AttnRef
public import proofs.«01_k».proof.Proof.AttnScalar

@[expose] public section

set_option maxRecDepth 16384

noncomputable section

namespace Cert.AttnRefIdeal.Pieces

open Idealize.ShloMosaic Idealize.ShloMosaic.TcCoe Idealize.SL.Sem
open Cert.AttnRefIdeal Cert.AttnRefIdeal.Gen Cert.AttnScalar

variable (P : FVec Ideal S8192x6656 .bf16) (B : FVec Ideal S32x16 .f32) (S : FVec Ideal S16 .f32)

theorem qs_at (b : Fin 4) (n : Fin 16) (q : Fin 128) (k : Fin 2) (g : Fin 8) (d : Fin 128) :
    qs P (ix6 b n q k g d) = P (ix2 ⟨b.val * 2048 + n.val * 128 + q.val, by omega⟩ ⟨k.val * 1024 + g.val * 128 + d.val, by omega⟩) := by
  pointwise [qs]

theorem kc_at (b : Fin 4) (n : Fin 16) (j : Fin 256) (k : Fin 2) (d : Fin 128) :
    kc P (ix5 b n j k d) = if h : j.val < 128 then
        (if h1 : 1 ≤ n.val then P (ix2 ⟨b.val * 2048 + (n.val - 1) * 128 + j.val, by omega⟩ ⟨2048 + (k.val * 128 + d.val), by omega⟩) else 0)
      else P (ix2 ⟨b.val * 2048 + n.val * 128 + (j.val - 128), by omega⟩ ⟨2048 + (k.val * 128 + d.val), by omega⟩) := by
  pointwise [kc]
  have h2 : n.val - 1 < 16 := by omega
  have hz : FloatOps.sitofp (F := Ideal) FTy.f32 0#32 = 0 := by
    show (((0#32 : BitVec 32).toInt : ℝ) : EReal) = 0
    simp
  split_ifs with a b e f g <;> first | rfl | exact hz | (exfalso; omega)

theorem vc_at (b : Fin 4) (n : Fin 16) (j : Fin 256) (k : Fin 2) (d : Fin 128) :
    vc P (ix5 b n j k d) = if h : j.val < 128 then
        (if h1 : 1 ≤ n.val then P (ix2 ⟨b.val * 2048 + (n.val - 1) * 128 + j.val, by omega⟩ ⟨2304 + (k.val * 128 + d.val), by omega⟩) else 0)
      else P (ix2 ⟨b.val * 2048 + n.val * 128 + (j.val - 128), by omega⟩ ⟨2304 + (k.val * 128 + d.val), by omega⟩) := by
  pointwise [vc]
  have h2 : n.val - 1 < 16 := by omega
  have hz : FloatOps.sitofp (F := Ideal) FTy.f32 0#32 = 0 := by
    show (((0#32 : BitVec 32).toInt : ℝ) : EReal) = 0
    simp
  split_ifs with a b e f g <;> first | rfl | exact hz | (exfalso; omega)

theorem sc_at (b : Fin 4) (n : Fin 16) (q : Fin 128) (k : Fin 2) (g : Fin 8) (j : Fin 256) :
    sc P (ix6 b n k g q j) = (∑ x : Fin 128, kc P (ix5 b n j k x) * qs P (ix6 b n q k g x)) * Ideal.ofBits FTy.f32 0x3DB504F3#32 := by
  pointwise [sc]

theorem msk_at (n : Fin 16) (q : Fin 128) (j : Fin 256) :
    msk (ix3 n q j) = IntOp.andi (inw q.val j.val) (kpos n.val j.val) := by
  pointwise [msk, dist]
  rfl

theorem bkt_at (q : Fin 128) (j : Fin 256) : bkt (ix2 q j) = rbk (dw q.val j.val) := by
  pointwise [bkt, dpos, dist]
  rfl

theorem ms_at (b : Fin 4) (n : Fin 16) (q : Fin 128) (k : Fin 2) (g : Fin 8) (j : Fin 256) :
    ms P B (ix6 b n k g q j)
      = if (q.val < j.val ∧ j.val ≤ q.val + 128) ∧ (1 ≤ n.val ∨ 128 ≤ j.val) then sc P (ix6 b n k g q j) + bias B (ix4 k g q j) else ⊥ := by
  pointwise [ms]
  rw [msk_at, inw_eq _ _ (by omega) (by omega), kpos_eq _ _ (by omega) (by omega)]
  have hb : (id (constant (F := Ideal) S_ FTy.f32 0xFF800000#32) ix0 : EReal) = ⊥ := by
    show Ideal.ofBits .f32 0xFF800000#32 = ⊥
    simp [Ideal.ofBits, Ideal.ieee]
  unfold Scalar.select IntOp.andi
  by_cases h1 : (q.val < j.val ∧ j.val ≤ q.val + 128)
  · by_cases h2 : (1 ≤ n.val ∨ 128 ≤ j.val)
    · rw [decide_eq_true h1, decide_eq_true h2, if_pos (by decide), if_pos ⟨h1, h2⟩]
    · rw [decide_eq_true h1, decide_eq_false h2, if_neg (by decide), if_neg (fun h => h2 h.2)]
      exact hb
  · rw [decide_eq_false h1, if_neg (by simp), if_neg (fun h => h1 h.1)]
    exact hb

end Cert.AttnRefIdeal.Pieces
-- ==== Proof.AttnRefRow.lean ====
/-
  The attention reference's bias and row reductions read at an index.
-/
module

public import proofs.«01_k».proof.Proof.AttnRef
public import proofs.«01_k».proof.Proof.AttnScalar

@[expose] public section

set_option maxRecDepth 16384

noncomputable section

namespace Cert.AttnRefIdeal.Pieces

open Idealize.ShloMosaic Idealize.ShloMosaic.TcCoe Idealize.SL.Sem
open Cert.AttnRefIdeal Cert.AttnRefIdeal.Gen Cert.AttnScalar

variable (P : FVec Ideal S8192x6656 .bf16) (B : FVec Ideal S32x16 .f32) (S : FVec Ideal S16 .f32)

/-- The rows of a table at given words. -/
theorem gather_at (I : IVec S128x256x1 32) (q : Fin 128) (j : Fin 256) (h : Fin 16) (b : Fin 32)
    (hb : I (ix3 q j 0) = BitVec.ofNat 32 b.val) :
    Host.gather gather_S32x16_S128x256x1_S128x256x16_2_0_n_n_0_2_116 B I (ix3 q j h) = B (ix2 b h) := by
  unfold Host.gather
  refine congrArg B (funext fun a => Fin.ext ?_)
  match a with
  | ⟨0, _⟩ =>
    show gather_S32x16_S128x256x1_S128x256x16_2_0_n_n_0_2_116.start (ix3 q j h) I 0
      + gather_S32x16_S128x256x1_S128x256x16_2_0_n_n_0_2_116.batchCoord (ix3 q j h) 0
      + gather_S32x16_S128x256x1_S128x256x16_2_0_n_n_0_2_116.offCoord (ix3 q j h) 0 = b.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x16_S128x256x1_S128x256x16_2_0_n_n_0_2_116.startIndexMap from List.mem_singleton.mpr rfl)]
    have hsi : gather_S32x16_S128x256x1_S128x256x16_2_0_n_n_0_2_116.siIdx (ix3 q j h)
        ⟨List.idxOf (0 : Fin 2) gather_S32x16_S128x256x1_S128x256x16_2_0_n_n_0_2_116.startIndexMap,
          List.idxOf_lt_length_iff.2 (List.mem_singleton.mpr rfl)⟩ = ix3 q j 0 := by
      funext b; refine Fin.ext ?_
      match b with
      | ⟨0, _⟩ => rfl
      | ⟨1, _⟩ => rfl
      | ⟨2, _⟩ => rfl
    rw [hsi, hb, WordCmp.toInt_ofNat_of_lt (by have := b.isLt; norm_num; omega)]
    show min ((b.val : Int)).toNat (32 - 1) = b.val
    have := b.isLt
    omega
  | ⟨1, _⟩ =>
    show gather_S32x16_S128x256x1_S128x256x16_2_0_n_n_0_2_116.start (ix3 q j h) I 1
      + gather_S32x16_S128x256x1_S128x256x16_2_0_n_n_0_2_116.batchCoord (ix3 q j h) 1
      + gather_S32x16_S128x256x1_S128x256x16_2_0_n_n_0_2_116.offCoord (ix3 q j h) 1 = h.val
    rw [GatherDims.batchCoord_eq_zero _ _ _ List.not_mem_nil, Nat.add_zero]
    unfold GatherDims.start GatherDims.offCoord
    rw [dif_neg (by decide), dif_pos (by decide), Nat.zero_add]
    rfl

theorem bias_at (k : Fin 2) (g : Fin 8) (q : Fin 128) (j : Fin 256) (b : Fin 32) (hb : bkt (ix2 q j) = BitVec.ofNat 32 b.val) :
    bias B (ix4 k g q j) = B (ix2 b ⟨k.val * 8 + g.val, by omega⟩) := by
  pointwise [bias]
  refine gather_at B _ q j _ b ?_
  pointwise
  rw [hb]
  have hc : IntOp.cmpi .slt (BitVec.ofNat 32 b.val) 0#32 = 0#1 := by
    have := (by decide : ∀ b : Fin 32, IntOp.cmpi .slt (BitVec.ofNat 32 b.val) 0#32 = 0#1)
    exact this b
  rw [hc]
  rfl

theorem max_reduce (X : FVec Ideal S4x16x2x8x128x256 .f32) (b : Fin 4) (n : Fin 16) (k : Fin 2) (g : Fin 8) (q : Fin 128) :
    Host.reduce FloatOps.maximumf X (constant (F := Ideal) S_ .f32 0xFF800000#32) reducesTo_S4x16x2x8x128x256_S4x16x2x8x128_d5 h_S_ (ix5 b n k g q)
      = Finset.univ.fold max ⊥ (fun j : Fin 256 => X (ix6 b n k g q j)) := by
  have h : Shape.Reduces S4x16x2x8x128x256 [5] S4x16x2x8x128 := by decide
  rw [Host.reduce_eq_fold_single FloatOps.maximumf X _ _ h]
  have hb : (constant (F := Ideal) S_ FTy.f32 0xFF800000#32 (Shape.Idx.first h_S_) : EReal) = ⊥ := by
    show Ideal.ofBits .f32 0xFF800000#32 = ⊥
    simp [Ideal.ofBits, Ideal.ieee]
  rw [hb]
  have he : X ∘ h.lift (ix5 b n k g q) = fun j : Fin 256 => X (ix6 b n k g q j) := by
    funext j
    refine congrArg X (funext fun a => Fin.ext ?_)
    match a with
    | ⟨0, _⟩ => rfl
    | ⟨1, _⟩ => rfl
    | ⟨2, _⟩ => rfl
    | ⟨3, _⟩ => rfl
    | ⟨4, _⟩ => rfl
    | ⟨5, _⟩ => rfl
  rw [he]
  rfl

theorem sum_reduce (X : FVec Ideal S4x16x2x8x128x256 .f32) (b : Fin 4) (n : Fin 16) (k : Fin 2) (g : Fin 8) (q : Fin 128) :
    Host.reduceAdd X (constant (F := Ideal) S_ .f32 0x00000000#32) reducesTo_S4x16x2x8x128x256_S4x16x2x8x128_d5 h_S_ (ix5 b n k g q)
      = ∑ j : Fin 256, X (ix6 b n k g q j) := by
  have h : Shape.Reduces S4x16x2x8x128x256 [5] S4x16x2x8x128 := by decide
  show Ideal.hostReduceAdd reducesTo_S4x16x2x8x128x256_S4x16x2x8x128_d5 X (Ideal.ofBits .f32 0x00000000#32) (ix5 b n k g q) = _
  rw [Ideal.hostReduceAdd_single _ h, Ideal.ofBits_zero_f32, zero_add]
  refine Finset.sum_congr rfl fun j _ => congrArg X (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => rfl

theorem mx_shape (R : FVec Ideal S4x16x2x8x128 .f32) (b : Fin 4) (n : Fin 16) (k : Fin 2) (g : Fin 8) (q : Fin 128) :
    maximumf (broadcastInDim S4x16x2x8x128x1 ![0, 1, 2, 3, 4] bcast_S4x16x2x8x128_S4x16x2x8x128x1_0_1_2_3_4 R) (broadcastInDim S4x16x2x8x128x1 ![0, 1, 2, 3, 4, 5] bcast_S1x1x2x8x1x1_S4x16x2x8x128x1_0_1_2_3_4_5 (broadcastInDim S1x1x2x8x1x1 ![2, 3] bcast_S2x8_S1x1x2x8x1x1_2_3 (shapeCast _ S shapeCasts_S16_S2x8))) (ix6 b n k g q 0)
      = max (R (ix5 b n k g q)) (S (ix1 ⟨k.val * 8 + g.val, by omega⟩)) := by
  pointwise

theorem mx_at (b : Fin 4) (n : Fin 16) (k : Fin 2) (g : Fin 8) (q : Fin 128) :
    mx P B S (ix6 b n k g q 0)
      = max (Finset.univ.fold max ⊥ (fun j : Fin 256 => ms P B (ix6 b n k g q j))) (S (ix1 ⟨k.val * 8 + g.val, by omega⟩)) := by
  unfold mx
  rw [mx_shape, max_reduce]

theorem ex_shape (X : FVec Ideal S4x16x2x8x128x256 .f32) (M : FVec Ideal S4x16x2x8x128x1 .f32) (b : Fin 4) (n : Fin 16) (k : Fin 2) (g : Fin 8) (q : Fin 128) (j : Fin 256) :
    Host.exp (subf X (broadcastInDim S4x16x2x8x128x256 ![0, 1, 2, 3, 4, 5] bcast_S4x16x2x8x128x1_S4x16x2x8x128x256_0_1_2_3_4_5 M)) (ix6 b n k g q j)
      = Ideal.exp (X (ix6 b n k g q j) - M (ix6 b n k g q 0)) := by
  pointwise

theorem ex_at (b : Fin 4) (n : Fin 16) (k : Fin 2) (g : Fin 8) (q : Fin 128) (j : Fin 256) :
    ex P B S (ix6 b n k g q j) = Ideal.exp (ms P B (ix6 b n k g q j) - mx P B S (ix6 b n k g q 0)) := by
  unfold ex
  rw [ex_shape]

theorem den_shape (R : FVec Ideal S4x16x2x8x128 .f32) (M : FVec Ideal S4x16x2x8x128x1 .f32) (b : Fin 4) (n : Fin 16) (k : Fin 2) (g : Fin 8) (q : Fin 128) :
    addf (broadcastInDim S4x16x2x8x128x1 ![0, 1, 2, 3, 4] bcast_S4x16x2x8x128_S4x16x2x8x128x1_0_1_2_3_4 R) (Host.exp (subf (broadcastInDim S4x16x2x8x128x1 ![0, 1, 2, 3, 4, 5] bcast_S1x1x2x8x1x1_S4x16x2x8x128x1_0_1_2_3_4_5 (broadcastInDim S1x1x2x8x1x1 ![2, 3] bcast_S2x8_S1x1x2x8x1x1_2_3 (shapeCast _ S shapeCasts_S16_S2x8))) M)) (ix6 b n k g q 0)
      = R (ix5 b n k g q) + Ideal.exp (S (ix1 ⟨k.val * 8 + g.val, by omega⟩) - M (ix6 b n k g q 0)) := by
  pointwise

theorem den_at (b : Fin 4) (n : Fin 16) (k : Fin 2) (g : Fin 8) (q : Fin 128) :
    den P B S (ix6 b n k g q 0)
      = (∑ j : Fin 256, Ideal.exp (ms P B (ix6 b n k g q j) - mx P B S (ix6 b n k g q 0)))
        + Ideal.exp (S (ix1 ⟨k.val * 8 + g.val, by omega⟩) - mx P B S (ix6 b n k g q 0)) := by
  unfold den
  rw [den_shape, sum_reduce]
  simp only [ex_at]

theorem pr_shape (X : FVec Ideal S4x16x2x8x128x256 .f32) (M : FVec Ideal S4x16x2x8x128x1 .f32) (b : Fin 4) (n : Fin 16) (k : Fin 2) (g : Fin 8) (q : Fin 128) (j : Fin 256) :
    Host.divf X (broadcastInDim S4x16x2x8x128x256 ![0, 1, 2, 3, 4, 5] bcast_S4x16x2x8x128x1_S4x16x2x8x128x256_0_1_2_3_4_5 M) (ix6 b n k g q j)
      = Ideal.div (X (ix6 b n k g q j)) (M (ix6 b n k g q 0)) := by
  pointwise

theorem pr_at (b : Fin 4) (n : Fin 16) (k : Fin 2) (g : Fin 8) (q : Fin 128) (j : Fin 256) :
    pr P B S (ix6 b n k g q j)
      = Ideal.div (Ideal.exp (ms P B (ix6 b n k g q j) - mx P B S (ix6 b n k g q 0))) (den P B S (ix6 b n k g q 0)) := by
  unfold pr
  rw [pr_shape, ex_at]

theorem out_shape (Vv : FVec Ideal S4x16x256x2x128 .f32) (X : FVec Ideal S4x16x2x8x128x256 .f32) (R : Fin 8192) (C : Fin 2048) :
    (truncf .bf16 (shapeCast S8192x2048 (transpose S4x16x128x2x8x128 [0, 1, 5, 2, 4, 3] (Host.dotGeneral dot_S4x16x256x2x128_S4x16x2x8x128x256_S4x16x2x128x8x128_2_5_4_34_013_012 none Vv X) transposes_S4x16x2x128x8x128_S4x16x128x2x8x128_0_1_5_2_4_3) shapeCasts_S4x16x128x2x8x128_S8192x2048) bitsLt_bf16_f32 : FVec Ideal S8192x2048 .bf16) (ix2 R C)
      = ∑ x : Fin 256, Vv (ix5 ⟨R.val / 2048, by omega⟩ ⟨R.val / 128 % 16, by omega⟩ x ⟨C.val / 1024, by omega⟩ ⟨C.val % 128, by omega⟩)
          * X (ix6 ⟨R.val / 2048, by omega⟩ ⟨R.val / 128 % 16, by omega⟩ ⟨C.val / 1024, by omega⟩ ⟨C.val / 128 % 8, by omega⟩ ⟨R.val % 128, by omega⟩ x) := by
  pointwise

theorem out_at (R : Fin 8192) (C : Fin 2048) :
    out P B S (ix2 R C)
      = ∑ x : Fin 256, vc P (ix5 ⟨R.val / 2048, by omega⟩ ⟨R.val / 128 % 16, by omega⟩ x ⟨C.val / 1024, by omega⟩ ⟨C.val % 128, by omega⟩)
          * pr P B S (ix6 ⟨R.val / 2048, by omega⟩ ⟨R.val / 128 % 16, by omega⟩ ⟨C.val / 1024, by omega⟩ ⟨C.val / 128 % 8, by omega⟩ ⟨R.val % 128, by omega⟩ x) :=
  out_shape _ _ R C

end Cert.AttnRefIdeal.Pieces
-- ==== Proof.AttnMatch.lean ====
/-
  One entry of the attention's result, the kernel's and the reference's: on finite inputs the kernel's row, with the
  sink as its column 0, is the reference's, with the sink beside it.
-/
module

public import proofs.«01_k».proof.Proof.AttnBlk
public import proofs.«01_k».proof.Proof.AttnRefAt
public import proofs.«01_k».proof.Proof.AttnRefRow

@[expose] public section

set_option maxRecDepth 16384

noncomputable section

namespace Cert.AttnMatch

open Idealize.ShloMosaic Idealize.ShloMosaic.TcCoe
open Cert.AttnScalar Cert.AttnIdeal.Blk Cert.AttnIdeal.Tab
open Cert.AttnRefIdeal Cert.AttnRefIdeal.Gen Cert.AttnRefIdeal.Pieces

theorem cst_real : ∃ r : ℝ, Ideal.ofBits FTy.f32 0x3DB504F3#32 = (r : EReal) := by
  refine ⟨(11863283 / 134217728 : ℝ), ?_⟩
  simp [Ideal.ofBits, Ideal.ieee, -EReal.coe_mul]; norm_num

theorem real_of (x : EReal) (h : x ≠ ⊤ ∧ x ≠ ⊥) : ∃ r : ℝ, x = (r : EReal) :=
  ⟨x.toReal, (EReal.coe_toReal h.1 h.2).symm⟩

section
variable (P : FVec Ideal S8192x6656 .bf16) (B : FVec Ideal S32x16 .f32) (S : FVec Ideal S16 .f32)
variable (hP : ∀ i, P i ≠ ⊤ ∧ P i ≠ ⊥) (hB : ∀ i, B i ≠ ⊤ ∧ B i ≠ ⊥) (hS : ∀ i, S i ≠ ⊤ ∧ S i ≠ ⊥)

include hP in
theorem sc_real (b : Fin 4) (n : Fin 16) (q : Fin 128) (k : Fin 2) (g : Fin 8) (j : Fin 256) :
    ∃ r : ℝ, sc P (ix6 b n k g q j) = (r : EReal) := by
  have hk : ∀ x : Fin 128, ∃ r : ℝ, kc P (ix5 b n j k x) = (r : EReal) := by
    intro x
    rw [kc_at]
    split_ifs
    · exact real_of _ (hP _)
    · exact ⟨0, rfl⟩
    · exact real_of _ (hP _)
  have hq : ∀ x : Fin 128, ∃ r : ℝ, qs P (ix6 b n q k g x) = (r : EReal) := by
    intro x
    rw [qs_at]
    exact real_of _ (hP _)
  choose κ hκ using hk
  choose θ hθ using hq
  obtain ⟨r, hr⟩ := cst_real
  refine ⟨(∑ x, κ x * θ x) * r, ?_⟩
  rw [sc_at, hr, EReal.coe_mul, coe_sum]
  simp only [hκ, hθ, EReal.coe_mul]

/-- The bias of a column in the window is the table's. -/
theorem bias_T (k : Fin 2) (g : Fin 8) (q : Fin 128) (j : Fin 256) (hw : q.val < j.val ∧ j.val ≤ q.val + 128) :
    bias B (ix4 k g q j) = B (ix2 ⟨(kbk (dw q.val j.val)).toNat % 32, Nat.mod_lt _ (by norm_num)⟩ ⟨k.val * 8 + g.val, by omega⟩) := by
  have hlt := kbk_lt q.val j.val (by omega) (by omega) hw
  have e : dw q.val j.val = BitVec.ofNat 32 (q.val + 128 - j.val) := by
    apply BitVec.eq_of_toInt_eq
    rw [dw_toInt _ _ (by omega) (by omega), WordCmp.toInt_ofNat_of_lt (by omega)]
    omega
  have hk : kbk (dw q.val j.val) = rbk (dw q.val j.val) := by rw [e]; exact (bk_eq _ (by omega)).1
  refine bias_at B k g q j _ ?_
  rw [bkt_at, ← hk]
  dsimp only
  rw [Nat.mod_eq_of_lt hlt]
  apply BitVec.eq_of_toNat_eq
  rw [WordCmp.toNat_ofNat_of_lt (by omega)]

/-- Whether a column counts. -/
abbrev live (n : Fin 16) (q : Fin 128) (j : Fin 256) : Prop :=
  (q.val < j.val ∧ j.val ≤ q.val + 128) ∧ (1 ≤ n.val ∨ 128 ≤ j.val)

/-- The kernel's row is the reference's. -/
theorem row_eq (b : Fin 4) (n : Fin 16) (q : Fin 128) (k : Fin 2) (g : Fin 8) (d : Fin 128)
    (hP : ∀ i, P i ≠ ⊤ ∧ P i ≠ ⊥) (hB : ∀ i, B i ≠ ⊤ ∧ B i ≠ ⊥) (hS : ∀ i, S i ≠ ⊤ ∧ S i ≠ ⊥)
    (Q : Fin 128 → EReal) (k1 k2 : Fin 128 → Fin 128 → EReal) (v1 v2 : Fin 128 → EReal) (z : Fin 256 → EReal)
    (hQ : ∀ x, Q x = qs P (ix6 b n q k g x))
    (hk1 : 1 ≤ n.val → ∀ (j : Fin 128) (x : Fin 128), k1 j x = kc P (ix5 b n ⟨j.val, by omega⟩ k x))
    (hk2 : ∀ (j : Fin 128) (x : Fin 128), k2 j x = kc P (ix5 b n ⟨128 + j.val, by omega⟩ k x))
    (hv1 : 1 ≤ n.val → ∀ (j : Fin 128), v1 j = vc P (ix5 b n ⟨j.val, by omega⟩ k d))
    (hv2 : ∀ (j : Fin 128), v2 j = vc P (ix5 b n ⟨128 + j.val, by omega⟩ k d))
    (hz : ∀ j, z j = Cert.AttnIdeal.Tab.T B S ⟨if n.val = 0 then 1 else 0, by split_ifs <;> omega⟩ ⟨k.val * 8 + g.val, by omega⟩ q j) :
    krow (fun j => (∑ x : Fin 128, Q x * zc (fun i => k1 i x) (fun i => k2 i x) j) * Ideal.ofBits FTy.f32 0x3DB504F3#32 + z j) (zc v1 v2)
      = ∑ j : Fin 256, vc P (ix5 b n j k d) * pr P B S (ix6 b n k g q j) := by
  obtain ⟨σ, hσ⟩ := real_of _ (hS (ix1 ⟨k.val * 8 + g.val, by omega⟩))
  have hzlive : ∀ j : Fin 256, j ≠ 0 → live n q j → z j = bias B (ix4 k g q j) := by
    intro j hj hl
    rw [hz, bias_T B k g q j hl.1]
    unfold Cert.AttnIdeal.Tab.T
    rw [if_neg, if_neg, if_pos hl.1]
    · intro e; exact hj (Fin.ext e)
    · rintro ⟨e1, e2, e3⟩
      dsimp only at e1
      split_ifs at e1
      rcases hl.2 with h | h <;> omega
  have hzdead : ∀ j : Fin 256, j ≠ 0 → ¬ live n q j → z j = ⊥ := by
    intro j hj hl
    have hj0 : j.val ≠ 0 := fun e => hj (Fin.ext e)
    rw [hz]
    unfold Cert.AttnIdeal.Tab.T
    by_cases hw : q.val < j.val ∧ j.val ≤ q.val + 128
    · have hn : n.val = 0 ∧ j.val < 128 := by
        by_contra hc
        exact hl ⟨hw, by omega⟩
      rw [if_pos ⟨by dsimp only; rw [if_pos hn.1], by omega, hn.2⟩]
    · rw [if_neg hj0, if_neg hw, ite_self]
  have hzc : ∀ (j : Fin 256) (a c : Fin 128 → EReal) (f : Fin 256 → EReal), j ≠ 0 → live n q j →
      (1 ≤ n.val → ∀ i : Fin 128, a i = f ⟨i.val, by omega⟩) → (∀ i : Fin 128, c i = f ⟨128 + i.val, by omega⟩) → zc a c j = f j := by
    intro j a c f hj hl ha hc
    have hj0 : j.val ≠ 0 := fun e => hj (Fin.ext e)
    unfold zc
    by_cases h : j.val < 128
    · rw [dif_pos h, if_neg hj0, ha (by rcases hl.2 with h' | h' <;> omega)]
    · rw [dif_neg h, hc]
      exact congrArg f (Fin.ext (by dsimp only; omega))
  have hzc0 : ∀ a c : Fin 128 → EReal, zc a c 0 = 0 := by
    intro a c
    unfold zc
    rw [dif_pos (by decide), if_pos (by decide)]
  have h0 : ms P B (ix6 b n k g q 0) = ⊥ := by
    rw [ms_at, if_neg]
    rintro ⟨⟨e, -⟩, -⟩
    exact absurd e (by show ¬ (q.val < 0); omega)
  have hs : ∀ j, ms P B (ix6 b n k g q j) ≠ ⊤ := by
    intro j
    rw [ms_at]
    split_ifs with hl
    · obtain ⟨r, hr⟩ := sc_real P hP b n q k g j
      rw [hr, bias_T B k g q j hl.1]
      obtain ⟨r', hr'⟩ := real_of _ (hB (ix2 ⟨(kbk (dw q.val j.val)).toNat % 32, Nat.mod_lt _ (by norm_num)⟩ ⟨k.val * 8 + g.val, by omega⟩))
      rw [hr', ← EReal.coe_add]
      exact EReal.coe_ne_top _
    · exact bot_ne_top
  have t0 : (∑ x : Fin 128, Q x * zc (fun i => k1 i x) (fun i => k2 i x) 0) * Ideal.ofBits FTy.f32 0x3DB504F3#32 + z 0 = (σ : EReal) := by
    simp only [hzc0, mul_zero, Finset.sum_const_zero, zero_mul, zero_add]
    rw [hz, ← hσ]
    unfold Cert.AttnIdeal.Tab.T
    rw [if_neg, if_pos (by decide)]
    rintro ⟨-, e, -⟩
    exact absurd e (by decide)
  have tj : ∀ j : Fin 256, j ≠ 0 → (∑ x : Fin 128, Q x * zc (fun i => k1 i x) (fun i => k2 i x) j) * Ideal.ofBits FTy.f32 0x3DB504F3#32 + z j
      = ms P B (ix6 b n k g q j) := by
    intro j hj
    rw [ms_at]
    by_cases hl : live n q j
    · rw [if_pos hl, hzlive j hj hl, sc_at]
      congr 2
      refine Finset.sum_congr rfl fun x _ => ?_
      rw [hQ, hzc j _ _ (fun j => kc P (ix5 b n j k x)) hj hl (fun h i => hk1 h i x) (fun i => hk2 i x), mul_comm]
    · rw [if_neg hl, hzdead j hj hl, EReal.add_bot]
  have hw : ∀ j : Fin 256, j ≠ 0 → ms P B (ix6 b n k g q j) = ⊥ ∨ zc v1 v2 j = vc P (ix5 b n j k d) := by
    intro j hj
    by_cases hl : live n q j
    · right
      exact hzc j _ _ (fun j => vc P (ix5 b n j k d)) hj hl (fun h i => hv1 h i) (fun i => hv2 i)
    · left
      rw [ms_at, if_neg hl]
  have R := row (fun j => ms P B (ix6 b n k g q j))
    (fun j => (∑ x : Fin 128, Q x * zc (fun i => k1 i x) (fun i => k2 i x) j) * Ideal.ofBits FTy.f32 0x3DB504F3#32 + z j)
    (fun j => vc P (ix5 b n j k d)) (zc v1 v2) σ h0 hs t0 tj (hzc0 _ _) hw
  unfold krow
  rw [← R]
  refine Finset.sum_congr rfl fun j _ => ?_
  rw [pr_at, den_at, mx_at, hσ]

end

end Cert.AttnMatch
-- ==== Proof.AttnValue.lean ====
/-
  The attention's value: on finite arguments the kernel's result array is the reference's.
-/
module

public import proofs.«01_k».proof.Defs
public import proofs.«01_k».proof.Proof.AttnMatch
public import proofs.«01_k».proof.Proof.Gen.Pre_finite_inputs

@[expose] public section

set_option maxRecDepth 16384

noncomputable section

namespace Cert.AttnValue

open Idealize.ShloMosaic Idealize.ShloMosaic.TcCoe
open Cert.AttnScalar Cert.AttnMatch Cert.AttnIdeal.Run Cert.AttnIdeal.Blk Cert.AttnRefIdeal.Pieces
open Cert.AttnIdeal

/-- A value below `+∞` in absolute value is neither infinity. -/
theorem finite_of_cmp (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  have hlt : max x (-x) < ⊤ := by
    by_contra hc
    simp [Ideal.cmp, hc] at h
  rw [max_lt_iff] at hlt
  refine ⟨hlt.1.ne, ?_⟩
  rintro rfl
  simp at hlt

variable (m : (ℓ : Loc nD τ sig) → Buf (Elt Ideal) ℓ)

/-- Every entry of an array is a real. -/
abbrev AllReal {s : Shape} {φ : FTy} (x : FVec Ideal s φ) : Prop := ∀ i, (x i : EReal) ≠ ⊤ ∧ (x i : EReal) ≠ ⊥

theorem finite (hpre : Cert.Pre_AttnIdeal_finite_inputs m) (c : Dev nD) :
    AllReal (s := S8192x6656) (φ := .bf16) (m ((c : Thread nD τ).loc main_arg0))
    ∧ AllReal (s := S32x16) (φ := .f32) (m ((c : Thread nD τ).loc main_arg1))
    ∧ AllReal (s := S16) (φ := .f32) (m ((c : Thread nD τ).loc main_arg2)) := by
  obtain ⟨h0, h1, h2⟩ := hpre c
  exact ⟨fun i => finite_of_cmp _ (congrFun h0 i), fun i => finite_of_cmp _ (congrFun h1 i), fun i => finite_of_cmp _ (congrFun h2 i)⟩

/-- One entry of the result. -/
theorem entry (hpre : Cert.Pre_AttnIdeal_finite_inputs m) (c : Dev nD) (R : Fin 8192) (C : Fin 2048) :
    (res m c : FVec Ideal S8192x2048 .bf16) (ix2 R C)
      = out (m ((c : Thread nD τ).loc main_arg0)) (m ((c : Thread nD τ).loc main_arg1)) (m ((c : Thread nD τ).loc main_arg2)) (ix2 R C) := by
  obtain ⟨fP, fB, fS⟩ := finite m hpre c
  have hN : R.val / 128 < cfg1.N := by
    have : cfg1.N = 64 := by decide +kernel
    omega
  rw [res_at m c R C ⟨R.val / 128, hN⟩ rfl, out_at]
  unfold kv blkv
  refine row_eq _ _ _ _ _ _ _ _ _ fP fB fS _ (fun i x => _) (fun i x => _) _ _ _ ?_ ?_ ?_ ?_ ?_ ?_
  · intro x
    rw [X_at, qs_at]
    refine congrArg _ (congrArg₂ ix2 (Fin.ext ?_) (Fin.ext ?_)) <;> dsimp only <;> omega
  · intro hn j x
    dsimp only at hn
    rw [k1_at m c ⟨R.val / 128, hN⟩ j ⟨C.val / 1024 * 128 + x.val, by omega⟩, kc_at, dif_pos j.isLt, dif_pos hn]
    refine congrArg _ (congrArg₂ ix2 (Fin.ext ?_) (Fin.ext ?_))
    · dsimp only
      rw [if_neg (by omega)]
      omega
    · dsimp only
  · intro j x
    rw [k2_at m c ⟨R.val / 128, hN⟩ j ⟨C.val / 1024 * 128 + x.val, by omega⟩, kc_at, dif_neg (by dsimp only; omega)]
    refine congrArg _ (congrArg₂ ix2 (Fin.ext ?_) (Fin.ext ?_))
    · dsimp only
      omega
    · dsimp only
  · intro hn j
    dsimp only at hn
    rw [v1_at m c ⟨R.val / 128, hN⟩ j ⟨C.val / 1024 * 128 + C.val % 128, by omega⟩, vc_at, dif_pos j.isLt, dif_pos hn]
    refine congrArg _ (congrArg₂ ix2 (Fin.ext ?_) (Fin.ext ?_))
    · dsimp only
      rw [if_neg (by omega)]
      omega
    · dsimp only
  · intro j
    rw [v2_at m c ⟨R.val / 128, hN⟩ j ⟨C.val / 1024 * 128 + C.val % 128, by omega⟩, vc_at, dif_neg (by dsimp only; omega)]
    refine congrArg _ (congrArg₂ ix2 (Fin.ext ?_) (Fin.ext ?_))
    · dsimp only
      omega
    · dsimp only
  · intro j
    rw [z_at]
    congr 1 <;> apply Fin.ext <;> dsimp only <;> omega

/-- The kernel's result array is the reference's. -/
theorem final (hpre : Cert.Pre_AttnIdeal_finite_inputs m) (c : Dev nD) :
    (res m c : FVec Ideal S8192x2048 .bf16)
      = out (m ((c : Thread nD τ).loc main_arg0)) (m ((c : Thread nD τ).loc main_arg1)) (m ((c : Thread nD τ).loc main_arg2)) := by
  funext y
  obtain ⟨R, C, rfl⟩ : ∃ (R : Fin 8192) (C : Fin 2048), y = ix2 R C := ⟨y 0, y 1, (ix2_eta y).symm⟩
  exact entry m hpre c R C

end Cert.AttnValue

end
-- ==== Proof.RowModu.lean ====
/-
  The modulation: each point computes 1024 columns.
-/
module

public import proofs.«01_k».proof.Proof.Gen.ModuIdeal.Value
public import proofs.«01_k».proof.Proof.Gen.ModuRefIdeal.Run
public import Idealize.ShloMosaic.Lib.Claim
public import Idealize.ShloMosaic.Lib.Pointwise
public import Idealize.ShloMosaic.Lib.Pipeline.ValueKit
public import Idealize.ShloMosaic.Lib.KernelVsHost
public import Idealize.ShloMosaic.Lib.IdealHost

@[expose] public section

set_option maxRecDepth 16384

noncomputable section

namespace Cert.ModuIdeal.RowValue

open Idealize.ShloMosaic Idealize.ShloMosaic.TcCoe Idealize.SL.Sem
open Idealize.ShloMosaic.Pipeline (Dat)
open Cert.ModuIdeal Cert.ModuIdeal.Gen

variable (m : (ℓ : Loc nD τ sig) → Buf (Elt Ideal) ℓ)

/-- The reference's modulation. -/
def REF (C : FVec Ideal Cert.ModuRefIdeal.S8x4096 .f32) (W : FVec Ideal Cert.ModuRefIdeal.S1x4096x24576 .f32)
    (B : FVec Ideal Cert.ModuRefIdeal.S1x24576 .f32) : FVec Ideal Cert.ModuRefIdeal.S8x24576 .f32 :=
  addf (Host.dotGeneral Cert.ModuRefIdeal.dot_S8x4096_S4096x24576_S8x24576_1_0_0_1_n_n none (mulf C (Host.divf (broadcastInDim Cert.ModuRefIdeal.S8x4096 ![] Cert.ModuRefIdeal.Gen.bcast_S_S8x4096 (constant Cert.ModuRefIdeal.S_ .f32 0x3F800000#32)) (addf (broadcastInDim Cert.ModuRefIdeal.S8x4096 ![] Cert.ModuRefIdeal.Gen.bcast_S_S8x4096 (constant Cert.ModuRefIdeal.S_ .f32 0x3F800000#32)) (Host.exp (Host.negf C))))) (shapeCast _ W Cert.ModuRefIdeal.Gen.shapeCasts_S1x4096x24576_S4096x24576)) (broadcastInDim Cert.ModuRefIdeal.S8x24576 ![0, 1] Cert.ModuRefIdeal.Gen.bcast_S1x24576_S8x24576_0_1 (broadcastInDim Cert.ModuRefIdeal.S1x24576 ![1] Cert.ModuRefIdeal.Gen.bcast_S24576_S1x24576_1 (shapeCast _ B Cert.ModuRefIdeal.Gen.shapeCasts_S1x24576_S24576)))

theorem idx : ∀ t : Fin cfg0.N, win0_0.index t = ![0, 0] ∧ win0_1.index t = ![0, t.val]
    ∧ win0_2.index t = ![0, t.val] ∧ win0_3.index t = ![0, t.val] :=
  (by decide +kernel : ∀ t : Fin grid0.N, _)

/-- The unit's quotient form. -/
def sil (x : EReal) : EReal := Ideal.div x (Ideal.ofBits FTy.f32 0x3F800000#32 + Ideal.exp (-x))

theorem exp_nonneg' (x : EReal) : 0 ≤ Ideal.exp x := by
  induction x with
  | bot => exact le_rfl
  | coe r => exact EReal.coe_nonneg.2 (Real.exp_pos r).le
  | top => exact le_top

theorem den_ne (x : EReal) : Ideal.ofBits FTy.f32 0x3F800000#32 + Ideal.exp (-x) ≠ 0 := by
  rw [Ideal.ofBits_one_f32]
  have h := exp_nonneg' (-x)
  exact (lt_of_lt_of_le one_pos (le_add_of_nonneg_right h)).ne'

/-- The unit's product form is its quotient form. -/
theorem sil_eq (x : EReal) :
    x * Ideal.div (Ideal.ofBits FTy.f32 0x3F800000#32) (Ideal.ofBits FTy.f32 0x3F800000#32 + Ideal.exp (-x)) = sil x := by
  have h := Ideal.mul_one_div (x := x) (den_ne x)
  rw [sil, ← h, Ideal.ofBits_one_f32]

/-- The reference at an index. -/
theorem REF_at (C : FVec Ideal Cert.ModuRefIdeal.S8x4096 .f32) (W : FVec Ideal Cert.ModuRefIdeal.S1x4096x24576 .f32)
    (B : FVec Ideal Cert.ModuRefIdeal.S1x24576 .f32) (i : Fin 8) (j : Fin 24576) :
    REF C W B (ix2 i j) = (∑ k : Fin 4096, sil (C (ix2 i k)) * W (ix3 0 k j)) + B (ix2 0 j) := by
  simp only [← sil_eq]
  pointwise [REF]

/-- The kernel's arithmetic at an index. -/
theorem pay_at (x : Vec Ideal S8x4096 .f32) (w : Vec Ideal S4096x1024 .f32) (g : Vec Ideal S1x1024 .f32) (a : Fin 8) (j : Fin 1024) :
    k0_pay1 (F := Ideal) x w g (ix2 a j) = (∑ k : Fin 4096, sil (x (ix2 a k)) * w (ix2 k j)) + g (ix2 0 j) := by
  pointwise [k0_pay1, sil, zero_sub]

theorem V0 (c : Dev nD) (i : Fin 4096) (j : Fin 24576) : V m c main_v0 (ix2 i j) = (m ((c : Thread nD τ).loc main_arg1)) (ix3 0 i j) := by
  entry_read
  pointwise

theorem V2 (c : Dev nD) (j : Fin 24576) : V m c main_v2 (ix2 0 j) = (m ((c : Thread nD τ).loc main_arg2)) (ix2 0 j) := by
  entry_read
  pointwise

theorem lt24 (t : Fin cfg0.N) : t.val < 24 := lt_of_lt_of_eq t.isLt (show cfg0.N = 24 from N_0)

theorem r0 (c : Dev nD) (t : Fin cfg0.N) (a : Fin 8) (k : Fin 4096) :
    (iblk m c 0 t : Vec Ideal S8x4096 .f32) (ix2 a k) = (m ((c : Thread nD τ).loc main_arg0)) (ix2 a k) := by
  blk_ext [iblk, V, idx t]

theorem r1 (c : Dev nD) (t : Fin cfg0.N) (k : Fin 4096) (b : Fin 1024) (J : Fin 24576) (hJ : J.val = t.val * 1024 + b.val) :
    (iblk m c 1 t : Vec Ideal S4096x1024 .f32) (ix2 k b) = (m ((c : Thread nD τ).loc main_arg1)) (ix3 0 k J) := by
  rw [← V0 m c k J]
  blk_ext [iblk, idx t]

theorem r2 (c : Dev nD) (t : Fin cfg0.N) (b : Fin 1024) (J : Fin 24576) (hJ : J.val = t.val * 1024 + b.val) :
    (iblk m c 2 t : Vec Ideal S1x1024 .f32) (ix2 0 b) = (m ((c : Thread nD τ).loc main_arg2)) (ix2 0 J) := by
  rw [← V2 m c J]
  blk_ext [iblk, idx t]

theorem emb_eq (t : Fin cfg0.N) (a : Fin 8) (b : Fin 1024) (J : Fin 24576) (hJ : J.val = t.val * 1024 + b.val) :
    (((cfg0.win 3).blk t).view.emb (ix2 a b : S8x1024.Idx) : S8x24576.Idx) = ix2 a J := by
  blk_ext [idx t]

theorem blk_eq (c : Dev nD) (t : Fin cfg0.N) (a : Fin 8) (b : Fin 1024) (J : Fin 24576) (hJ : J.val = t.val * 1024 + b.val) :
    k0_pay1 (F := Ideal) (iblk m c 0 t : Vec Ideal S8x4096 .f32) (iblk m c 1 t : Vec Ideal S4096x1024 .f32)
      (iblk m c 2 t : Vec Ideal S1x1024 .f32) (ix2 a b)
    = REF (m ((c : Thread nD τ).loc main_arg0)) (m ((c : Thread nD τ).loc main_arg1)) (m ((c : Thread nD τ).loc main_arg2)) (ix2 a J) := by
  rw [pay_at, REF_at, r2 m c t b J hJ]
  refine congrArg₂ (· + ·) (Finset.sum_congr rfl fun k _ => ?_) rfl
  rw [r0 m c t a k, r1 m c t k b J hJ]

theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := lt24 t
  obtain ⟨a, b, rfl⟩ : ∃ (a : Fin 8) (b : Fin 1024), y = (ix2 a b : S8x1024.Idx) := ⟨y 0, y 1, eq_ix2 (n0 := 8) (n1 := 1024) y⟩
  rw [emb_eq t a b ⟨t.val * 1024 + b.val, by omega⟩ rfl]
  blk_simp
  rw [after0_3, ← blk_eq m c t a b _ rfl]
  frame_out

end Cert.ModuIdeal.RowValue

end
-- ==== Proof.RowNorma.lean ====
/-
  The first modulated normalisation: each point normalises 512 rows.
-/
module

public import proofs.«01_k».proof.Proof.Gen.NormaIdeal.Value
public import proofs.«01_k».proof.Proof.Gen.NormaRefIdeal.Run
public import Idealize.ShloMosaic.Lib.Claim
public import Idealize.ShloMosaic.Lib.Pointwise
public import Idealize.ShloMosaic.Lib.Pipeline.ValueKit
public import Idealize.ShloMosaic.Lib.KernelVsHost
public import Idealize.ShloMosaic.Lib.IdealHost

@[expose] public section

set_option maxRecDepth 16384

noncomputable section

namespace Cert.NormaIdeal.RowValue

open Idealize.ShloMosaic Idealize.ShloMosaic.TcCoe Idealize.SL.Sem
open Idealize.ShloMosaic.Pipeline (Dat)
open Cert.NormaIdeal Cert.NormaIdeal.Gen

variable (m : (ℓ : Loc nD τ sig) → Buf (Elt Ideal) ℓ)

/-- The reference's modulated normalisation. -/
def REF (X : FVec Ideal Cert.NormaRefIdeal.S4x2048x4096 .f32) (G : FVec Ideal Cert.NormaRefIdeal.S1x4096 .f32)
    (M : FVec Ideal Cert.NormaRefIdeal.S4x24576 .f32) : FVec Ideal Cert.NormaRefIdeal.S8192x4096 .bf16 :=
  truncf .bf16 (shapeCast _ (addf (mulf (mulf (mulf X (broadcastInDim Cert.NormaRefIdeal.S4x2048x4096 ![0, 1, 2] Cert.NormaRefIdeal.Gen.bcast_S4x2048x1_S4x2048x4096_0_1_2 (Host.rsqrt (addf (Host.divf (broadcastInDim Cert.NormaRefIdeal.S4x2048x1 ![0, 1] Cert.NormaRefIdeal.Gen.bcast_S4x2048_S4x2048x1_0_1 (Host.reduceAdd (mulf X X) (constant Cert.NormaRefIdeal.S_ .f32 0x00000000#32) Cert.NormaRefIdeal.Gen.reducesTo_S4x2048x4096_S4x2048_d2 Cert.NormaRefIdeal.Gen.h_S_)) (broadcastInDim Cert.NormaRefIdeal.S4x2048x1 ![] Cert.NormaRefIdeal.Gen.bcast_S_S4x2048x1 (constant Cert.NormaRefIdeal.S_ .f32 0x45800000#32))) (broadcastInDim Cert.NormaRefIdeal.S4x2048x1 ![] Cert.NormaRefIdeal.Gen.bcast_S_S4x2048x1 (constant Cert.NormaRefIdeal.S_ .f32 0x358637BD#32)))))) (broadcastInDim Cert.NormaRefIdeal.S4x2048x4096 ![0, 1, 2] Cert.NormaRefIdeal.Gen.bcast_S1x1x4096_S4x2048x4096_0_1_2 (broadcastInDim Cert.NormaRefIdeal.S1x1x4096 ![2] Cert.NormaRefIdeal.Gen.bcast_S4096_S1x1x4096_2 (shapeCast _ G Cert.NormaRefIdeal.Gen.shapeCasts_S1x4096_S4096)))) (broadcastInDim Cert.NormaRefIdeal.S4x2048x4096 ![0, 1, 2] Cert.NormaRefIdeal.Gen.bcast_S4x1x4096_S4x2048x4096_0_1_2 (addf (broadcastInDim Cert.NormaRefIdeal.S4x1x4096 ![] Cert.NormaRefIdeal.Gen.bcast_S_S4x1x4096 (constant Cert.NormaRefIdeal.S_ .f32 0x3F800000#32)) (extractStridedSlice Cert.NormaRefIdeal.S4x1x4096 ![0, 0, 4096] (broadcastInDim Cert.NormaRefIdeal.S4x1x24576 ![0, 2] Cert.NormaRefIdeal.Gen.bcast_S4x24576_S4x1x24576_0_2 M) Cert.NormaRefIdeal.Gen.slices_S4x1x24576_S4x1x4096_0_0_4096)))) (broadcastInDim Cert.NormaRefIdeal.S4x2048x4096 ![0, 1, 2] Cert.NormaRefIdeal.Gen.bcast_S4x1x4096_S4x2048x4096_0_1_2 (extractStridedSlice Cert.NormaRefIdeal.S4x1x4096 ![0, 0, 0] (broadcastInDim Cert.NormaRefIdeal.S4x1x24576 ![0, 2] Cert.NormaRefIdeal.Gen.bcast_S4x24576_S4x1x24576_0_2 M) Cert.NormaRefIdeal.Gen.slices_S4x1x24576_S4x1x4096_0_0_0))) Cert.NormaRefIdeal.Gen.shapeCasts_S4x2048x4096_S8192x4096) Cert.NormaRefIdeal.Gen.bitsLt_bf16_f32

theorem idx : ∀ t : Fin cfg0.N, win0_0.index t = ![t.val, 0] ∧ win0_1.index t = ![0, 0]
    ∧ win0_2.index t = ![t.val / 4 * 6 + 1, 0, 0] ∧ win0_3.index t = ![t.val / 4 * 6 + 0, 0, 0] ∧ win0_4.index t = ![t.val, 0] :=
  (by decide +kernel : ∀ t : Fin grid0.N, _)

/-- One entry of a normalised and modulated row. -/
def ent (x : Fin 4096 → EReal) (g sc sh : EReal) (j : Fin 4096) : EReal :=
  x j * Ideal.rsqrt (Ideal.div (∑ k : Fin 4096, x k * x k) (Ideal.ofBits FTy.f32 0x45800000#32) + Ideal.ofBits FTy.f32 0x358637BD#32) * g
    * (Ideal.ofBits FTy.f32 0x3F800000#32 + sc) + sh

/-- The reference at an index. -/
theorem REF_at (X : FVec Ideal Cert.NormaRefIdeal.S4x2048x4096 .f32) (G : FVec Ideal Cert.NormaRefIdeal.S1x4096 .f32)
    (M : FVec Ideal Cert.NormaRefIdeal.S4x24576 .f32) (i : Fin 8192) (j : Fin 4096) :
    REF X G M (ix2 i j) = ent (fun k => X (ix3 ⟨i.val / 2048, by omega⟩ ⟨i.val % 2048, by omega⟩ k)) (G (ix2 0 j)) (M (ix2 ⟨i.val / 2048, by omega⟩ ⟨4096 + j.val, by omega⟩))
      (M (ix2 ⟨i.val / 2048, by omega⟩ ⟨0 + j.val, by omega⟩)) j := by
  pointwise [REF, ent]

/-- The kernel's arithmetic at an index. -/
theorem pay_at (x : Vec Ideal S512x4096 .f32) (g : Vec Ideal S1x4096 .f32) (sc sh : Vec Ideal S1x1x4096 .f32) (a : Fin 512) (j : Fin 4096) :
    k0_pay1 (F := Ideal) x g sc sh (ix2 a j) = ent (fun k => x (ix2 a k)) (g (ix2 0 j)) (sc (ix3 0 0 j)) (sh (ix3 0 0 j)) j := by
  pointwise [k0_pay1, ent]

theorem V0 (c : Dev nD) (i : Fin 8192) (j : Fin 4096) : V m c main_v0 (ix2 i j)
    = (m ((c : Thread nD τ).loc main_arg0)) (ix3 ⟨i.val / 2048, by omega⟩ ⟨i.val % 2048, by omega⟩ j) := by
  entry_read
  pointwise

theorem V1 (c : Dev nD) (i : Fin 24) (j : Fin 4096) : V m c main_v1 (ix3 i 0 j)
    = (m ((c : Thread nD τ).loc main_arg2)) (ix2 ⟨i.val / 6, by omega⟩ ⟨i.val % 6 * 4096 + j.val, by omega⟩) := by
  entry_read
  pointwise

theorem V2 (c : Dev nD) (j : Fin 4096) : V m c main_v3 (ix2 0 j) = (m ((c : Thread nD τ).loc main_arg1)) (ix2 0 j) := by
  entry_read
  pointwise

theorem lt16 (t : Fin cfg0.N) : t.val < 16 := lt_of_lt_of_eq t.isLt (show cfg0.N = 16 from N_0)

theorem r0 (c : Dev nD) (t : Fin cfg0.N) (a : Fin 512) (k : Fin 4096) (I : Fin 8192) (hI : I.val = t.val * 512 + a.val) :
    (iblk m c 0 t : Vec Ideal S512x4096 .f32) (ix2 a k) = (m ((c : Thread nD τ).loc main_arg0)) (ix3 ⟨I.val / 2048, by omega⟩ ⟨I.val % 2048, by omega⟩ k) := by
  rw [← V0 m c I k]
  blk_ext [iblk, idx t]

theorem r1 (c : Dev nD) (t : Fin cfg0.N) (j : Fin 4096) :
    (iblk m c 1 t : Vec Ideal S1x4096 .f32) (ix2 0 j) = (m ((c : Thread nD τ).loc main_arg1)) (ix2 0 j) := by
  rw [← V2 m c j]
  blk_ext [iblk, idx t]

theorem r2' (c : Dev nD) (t : Fin cfg0.N) (R : Fin 24) (j : Fin 4096) (hR : R.val = t.val / 4 * 6 + 1) :
    (iblk m c 2 t : Vec Ideal S1x1x4096 .f32) (ix3 0 0 j) = V m c main_v1 (ix3 R 0 j) := by
  blk_ext [iblk, idx t]

theorem r2 (c : Dev nD) (t : Fin cfg0.N) (a : Fin 512) (j : Fin 4096) (I : Fin 8192) (hI : I.val = t.val * 512 + a.val) :
    (iblk m c 2 t : Vec Ideal S1x1x4096 .f32) (ix3 0 0 j)
      = (m ((c : Thread nD τ).loc main_arg2)) (ix2 ⟨I.val / 2048, by omega⟩ ⟨4096 + j.val, by omega⟩) := by
  have := lt16 t
  rw [r2' m c t ⟨t.val / 4 * 6 + 1, by omega⟩ j rfl, V1]
  congr 1
  refine (ix2_inj ..).2 ⟨Fin.ext ?_, Fin.ext ?_⟩ <;> dsimp only <;> omega

theorem r3' (c : Dev nD) (t : Fin cfg0.N) (R : Fin 24) (j : Fin 4096) (hR : R.val = t.val / 4 * 6 + 0) :
    (iblk m c 3 t : Vec Ideal S1x1x4096 .f32) (ix3 0 0 j) = V m c main_v1 (ix3 R 0 j) := by
  blk_ext [iblk, idx t]

theorem r3 (c : Dev nD) (t : Fin cfg0.N) (a : Fin 512) (j : Fin 4096) (I : Fin 8192) (hI : I.val = t.val * 512 + a.val) :
    (iblk m c 3 t : Vec Ideal S1x1x4096 .f32) (ix3 0 0 j)
      = (m ((c : Thread nD τ).loc main_arg2)) (ix2 ⟨I.val / 2048, by omega⟩ ⟨0 + j.val, by omega⟩) := by
  have := lt16 t
  rw [r3' m c t ⟨t.val / 4 * 6 + 0, by omega⟩ j rfl, V1]
  congr 1
  refine (ix2_inj ..).2 ⟨Fin.ext ?_, Fin.ext ?_⟩ <;> dsimp only <;> omega

theorem emb_eq (t : Fin cfg0.N) (a : Fin 512) (j : Fin 4096) (I : Fin 8192) (hI : I.val = t.val * 512 + a.val) :
    (((cfg0.win 4).blk t).view.emb (ix2 a j : S512x4096.Idx) : S8192x4096.Idx) = ix2 I j := by
  blk_ext [idx t]

theorem blk_eq (c : Dev nD) (t : Fin cfg0.N) (a : Fin 512) (b : Fin 4096) (I : Fin 8192) (hI : I.val = t.val * 512 + a.val) :
    k0_pay1 (F := Ideal) (iblk m c 0 t : Vec Ideal S512x4096 .f32) (iblk m c 1 t : Vec Ideal S1x4096 .f32)
      (iblk m c 2 t : Vec Ideal S1x1x4096 .f32) (iblk m c 3 t : Vec Ideal S1x1x4096 .f32) (ix2 a b)
    = REF (m ((c : Thread nD τ).loc main_arg0)) (m ((c : Thread nD τ).loc main_arg1)) (m ((c : Thread nD τ).loc main_arg2)) (ix2 I b) := by
  have e : (fun k => (iblk m c 0 t : Vec Ideal S512x4096 .f32) (ix2 a k)) = fun k => (m ((c : Thread nD τ).loc main_arg0)) (ix3 ⟨I.val / 2048, by omega⟩ ⟨I.val % 2048, by omega⟩ k) :=
    funext fun k => r0 m c t a k I hI
  rw [pay_at, REF_at, r1 m c t b, r2 m c t a b I hI, r3 m c t a b I hI, e]

theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN := lt16 t
  obtain ⟨a, b, rfl⟩ : ∃ (a : Fin 512) (b : Fin 4096), y = (ix2 a b : S512x4096.Idx) := ⟨y 0, y 1, eq_ix2 (n0 := 512) (n1 := 4096) y⟩
  rw [emb_eq t a b ⟨t.val * 512 + a.val, by omega⟩ rfl]
  blk_simp
  rw [after0_4, ← blk_eq m c t a b _ rfl]
  frame_out

end Cert.NormaIdeal.RowValue

end
-- ==== Proof.RowNormb.lean ====
/-
  The second modulated normalisation: each point normalises 512 rows.
-/
module

public import proofs.«01_k».proof.Proof.Gen.NormbIdeal.Value
public import proofs.«01_k».proof.Proof.Gen.NormbRefIdeal.Run
public import Idealize.ShloMosaic.Lib.Claim
public import Idealize.ShloMosaic.Lib.Pointwise
public import Idealize.ShloMosaic.Lib.Pipeline.ValueKit
public import Idealize.ShloMosaic.Lib.KernelVsHost
public import Idealize.ShloMosaic.Lib.IdealHost

@[expose] public section

set_option maxRecDepth 16384

noncomputable section

namespace Cert.NormbIdeal.RowValue

open Idealize.ShloMosaic Idealize.ShloMosaic.TcCoe Idealize.SL.Sem
open Idealize.ShloMosaic.Pipeline (Dat)
open Cert.NormbIdeal Cert.NormbIdeal.Gen

variable (m : (ℓ : Loc nD τ sig) → Buf (Elt Ideal) ℓ)

/-- The reference's modulated normalisation. -/
def REF (X : FVec Ideal Cert.NormbRefIdeal.S8192x4096 .f32) (G : FVec Ideal Cert.NormbRefIdeal.S1x4096 .f32)
    (M : FVec Ideal Cert.NormbRefIdeal.S4x24576 .f32) : FVec Ideal Cert.NormbRefIdeal.S8192x4096 .bf16 :=
  truncf .bf16 (shapeCast _ (addf (mulf (mulf (mulf (shapeCast _ X Cert.NormbRefIdeal.Gen.shapeCasts_S8192x4096_S4x2048x4096) (broadcastInDim Cert.NormbRefIdeal.S4x2048x4096 ![0, 1, 2] Cert.NormbRefIdeal.Gen.bcast_S4x2048x1_S4x2048x4096_0_1_2 (Host.rsqrt (addf (Host.divf (broadcastInDim Cert.NormbRefIdeal.S4x2048x1 ![0, 1] Cert.NormbRefIdeal.Gen.bcast_S4x2048_S4x2048x1_0_1 (Host.reduceAdd (mulf (shapeCast _ X Cert.NormbRefIdeal.Gen.shapeCasts_S8192x4096_S4x2048x4096) (shapeCast _ X Cert.NormbRefIdeal.Gen.shapeCasts_S8192x4096_S4x2048x4096)) (constant Cert.NormbRefIdeal.S_ .f32 0x00000000#32) Cert.NormbRefIdeal.Gen.reducesTo_S4x2048x4096_S4x2048_d2 Cert.NormbRefIdeal.Gen.h_S_)) (broadcastInDim Cert.NormbRefIdeal.S4x2048x1 ![] Cert.NormbRefIdeal.Gen.bcast_S_S4x2048x1 (constant Cert.NormbRefIdeal.S_ .f32 0x45800000#32))) (broadcastInDim Cert.NormbRefIdeal.S4x2048x1 ![] Cert.NormbRefIdeal.Gen.bcast_S_S4x2048x1 (constant Cert.NormbRefIdeal.S_ .f32 0x358637BD#32)))))) (broadcastInDim Cert.NormbRefIdeal.S4x2048x4096 ![0, 1, 2] Cert.NormbRefIdeal.Gen.bcast_S1x1x4096_S4x2048x4096_0_1_2 (broadcastInDim Cert.NormbRefIdeal.S1x1x4096 ![2] Cert.NormbRefIdeal.Gen.bcast_S4096_S1x1x4096_2 (shapeCast _ G Cert.NormbRefIdeal.Gen.shapeCasts_S1x4096_S4096)))) (broadcastInDim Cert.NormbRefIdeal.S4x2048x4096 ![0, 1, 2] Cert.NormbRefIdeal.Gen.bcast_S4x1x4096_S4x2048x4096_0_1_2 (addf (broadcastInDim Cert.NormbRefIdeal.S4x1x4096 ![] Cert.NormbRefIdeal.Gen.bcast_S_S4x1x4096 (constant Cert.NormbRefIdeal.S_ .f32 0x3F800000#32)) (extractStridedSlice Cert.NormbRefIdeal.S4x1x4096 ![0, 0, 16384] (broadcastInDim Cert.NormbRefIdeal.S4x1x24576 ![0, 2] Cert.NormbRefIdeal.Gen.bcast_S4x24576_S4x1x24576_0_2 M) Cert.NormbRefIdeal.Gen.slices_S4x1x24576_S4x1x4096_0_0_16384)))) (broadcastInDim Cert.NormbRefIdeal.S4x2048x4096 ![0, 1, 2] Cert.NormbRefIdeal.Gen.bcast_S4x1x4096_S4x2048x4096_0_1_2 (extractStridedSlice Cert.NormbRefIdeal.S4x1x4096 ![0, 0, 12288] (broadcastInDim Cert.NormbRefIdeal.S4x1x24576 ![0, 2] Cert.NormbRefIdeal.Gen.bcast_S4x24576_S4x1x24576_0_2 M) Cert.NormbRefIdeal.Gen.slices_S4x1x24576_S4x1x4096_0_0_12288))) Cert.NormbRefIdeal.Gen.shapeCasts_S4x2048x4096_S8192x4096) Cert.NormbRefIdeal.Gen.bitsLt_bf16_f32

theorem idx : ∀ t : Fin cfg0.N, win0_0.index t = ![t.val, 0] ∧ win0_1.index t = ![0, 0]
    ∧ win0_2.index t = ![t.val / 4 * 6 + 4, 0, 0] ∧ win0_3.index t = ![t.val / 4 * 6 + 3, 0, 0] ∧ win0_4.index t = ![t.val, 0] :=
  (by decide +kernel : ∀ t : Fin grid0.N, _)

/-- One entry of a normalised and modulated row. -/
def ent (x : Fin 4096 → EReal) (g sc sh : EReal) (j : Fin 4096) : EReal :=
  x j * Ideal.rsqrt (Ideal.div (∑ k : Fin 4096, x k * x k) (Ideal.ofBits FTy.f32 0x45800000#32) + Ideal.ofBits FTy.f32 0x358637BD#32) * g
    * (Ideal.ofBits FTy.f32 0x3F800000#32 + sc) + sh

/-- The reference at an index. -/
theorem REF_at (X : FVec Ideal Cert.NormbRefIdeal.S8192x4096 .f32) (G : FVec Ideal Cert.NormbRefIdeal.S1x4096 .f32)
    (M : FVec Ideal Cert.NormbRefIdeal.S4x24576 .f32) (i : Fin 8192) (j : Fin 4096) :
    REF X G M (ix2 i j) = ent (fun k => X (ix2 i k)) (G (ix2 0 j)) (M (ix2 ⟨i.val / 2048, by omega⟩ ⟨16384 + j.val, by omega⟩))
      (M (ix2 ⟨i.val / 2048, by omega⟩ ⟨12288 + j.val, by omega⟩)) j := by
  pointwise [REF, ent]

/-- The kernel's arithmetic at an index. -/
theorem pay_at (x : Vec Ideal S512x4096 .f32) (g : Vec Ideal S1x4096 .f32) (sc sh : Vec Ideal S1x1x4096 .f32) (a : Fin 512) (j : Fin 4096) :
    k0_pay1 (F := Ideal) x g sc sh (ix2 a j) = ent (fun k => x (ix2 a k)) (g (ix2 0 j)) (sc (ix3 0 0 j)) (sh (ix3 0 0 j)) j := by
  pointwise [k0_pay1, ent]

theorem V1 (c : Dev nD) (i : Fin 24) (j : Fin 4096) : V m c main_v0 (ix3 i 0 j)
    = (m ((c : Thread nD τ).loc main_arg2)) (ix2 ⟨i.val / 6, by omega⟩ ⟨i.val % 6 * 4096 + j.val, by omega⟩) := by
  entry_read
  pointwise

theorem V2 (c : Dev nD) (j : Fin 4096) : V m c main_v2 (ix2 0 j) = (m ((c : Thread nD τ).loc main_arg1)) (ix2 0 j) := by
  entry_read
  pointwise

theorem lt16 (t : Fin cfg0.N) : t.val < 16 := lt_of_lt_of_eq t.isLt (show cfg0.N = 16 from N_0)

theorem r0 (c : Dev nD) (t : Fin cfg0.N) (a : Fin 512) (k : Fin 4096) (I : Fin 8192) (hI : I.val = t.val * 512 + a.val) :
    (iblk m c 0 t : Vec Ideal S512x4096 .f32) (ix2 a k) = (m ((c : Thread nD τ).loc main_arg0)) (ix2 I k) := by
  skip
  blk_ext [iblk, V, idx t]

theorem r1 (c : Dev nD) (t : Fin cfg0.N) (j : Fin 4096) :
    (iblk m c 1 t : Vec Ideal S1x4096 .f32) (ix2 0 j) = (m ((c : Thread nD τ).loc main_arg1)) (ix2 0 j) := by
  rw [← V2 m c j]
  blk_ext [iblk, idx t]

theorem r2' (c : Dev nD) (t : Fin cfg0.N) (R : Fin 24) (j : Fin 4096) (hR : R.val = t.val / 4 * 6 + 4) :
    (iblk m c 2 t : Vec Ideal S1x1x4096 .f32) (ix3 0 0 j) = V m c main_v0 (ix3 R 0 j) := by
  blk_ext [iblk, idx t]

theorem r2 (c : Dev nD) (t : Fin cfg0.N) (a : Fin 512) (j : Fin 4096) (I : Fin 8192) (hI : I.val = t.val * 512 + a.val) :
    (iblk m c 2 t : Vec Ideal S1x1x4096 .f32) (ix3 0 0 j)
      = (m ((c : Thread nD τ).loc main_arg2)) (ix2 ⟨I.val / 2048, by omega⟩ ⟨16384 + j.val, by omega⟩) := by
  have := lt16 t
  rw [r2' m c t ⟨t.val / 4 * 6 + 4, by omega⟩ j rfl, V1]
  congr 1
  refine (ix2_inj ..).2 ⟨Fin.ext ?_, Fin.ext ?_⟩ <;> dsimp only <;> omega

theorem r3' (c : Dev nD) (t : Fin cfg0.N) (R : Fin 24) (j : Fin 4096) (hR : R.val = t.val / 4 * 6 + 3) :
    (iblk m c 3 t : Vec Ideal S1x1x4096 .f32) (ix3 0 0 j) = V m c main_v0 (ix3 R 0 j) := by
  blk_ext [iblk, idx t]

theorem r3 (c : Dev nD) (t : Fin cfg0.N) (a : Fin 512) (j : Fin 4096) (I : Fin 8192) (hI : I.val = t.val * 512 + a.val) :
    (iblk m c 3 t : Vec Ideal S1x1x4096 .f32) (ix3 0 0 j)
      = (m ((c : Thread nD τ).loc main_arg2)) (ix2 ⟨I.val / 2048, by omega⟩ ⟨12288 + j.val, by omega⟩) := by
  have := lt16 t
  rw [r3' m c t ⟨t.val / 4 * 6 + 3, by omega⟩ j rfl, V1]
  congr 1
  refine (ix2_inj ..).2 ⟨Fin.ext ?_, Fin.ext ?_⟩ <;> dsimp only <;> omega

theorem emb_eq (t : Fin cfg0.N) (a : Fin 512) (j : Fin 4096) (I : Fin 8192) (hI : I.val = t.val * 512 + a.val) :
    (((cfg0.win 4).blk t).view.emb (ix2 a j : S512x4096.Idx) : S8192x4096.Idx) = ix2 I j := by
  blk_ext [idx t]

theorem blk_eq (c : Dev nD) (t : Fin cfg0.N) (a : Fin 512) (b : Fin 4096) (I : Fin 8192) (hI : I.val = t.val * 512 + a.val) :
    k0_pay1 (F := Ideal) (iblk m c 0 t : Vec Ideal S512x4096 .f32) (iblk m c 1 t : Vec Ideal S1x4096 .f32)
      (iblk m c 2 t : Vec Ideal S1x1x4096 .f32) (iblk m c 3 t : Vec Ideal S1x1x4096 .f32) (ix2 a b)
    = REF (m ((c : Thread nD τ).loc main_arg0)) (m ((c : Thread nD τ).loc main_arg1)) (m ((c : Thread nD τ).loc main_arg2)) (ix2 I b) := by
  have e : (fun k => (iblk m c 0 t : Vec Ideal S512x4096 .f32) (ix2 a k)) = fun k => (m ((c : Thread nD τ).loc main_arg0)) (ix2 I k) :=
    funext fun k => r0 m c t a k I hI
  rw [pay_at, REF_at, r1 m c t b, r2 m c t a b I hI, r3 m c t a b I hI, e]

theorem final (c : Dev nD) : (dats m 0 c).arrAt 4 cfg0.N
    = REF (m ((c : Thread nD τ).loc main_arg0)) (m ((c : Thread nD τ).loc main_arg1)) (m ((c : Thread nD τ).loc main_arg2)) := by
  refine (dats m 0 c).arrAt_eq_of_covers 4 _ (by decide +kernel) fun t hf y => ?_
  have hN := lt16 t
  obtain ⟨a, b, rfl⟩ : ∃ (a : Fin 512) (b : Fin 4096), y = (ix2 a b : S512x4096.Idx) := ⟨y 0, y 1, eq_ix2 (n0 := 512) (n1 := 4096) y⟩
  rw [emb_eq t a b ⟨t.val * 512 + a.val, by omega⟩ rfl]
  blk_simp
  rw [after0_4, ← blk_eq m c t a b _ rfl]
  frame_out

end Cert.NormbIdeal.RowValue

end
-- ==== Proof.RowFinal.lean ====
/-
  The gated sum with the transposed lookup and the final normalisation: each point normalises 512 rows.
-/
module

public import proofs.«01_k».proof.Proof.Gen.FinalIdeal.Value
public import proofs.«01_k».proof.Proof.Gen.FinalRefIdeal.Run
public import Idealize.ShloMosaic.Lib.Claim
public import Idealize.ShloMosaic.Lib.Pointwise
public import Idealize.ShloMosaic.Lib.Pipeline.ValueKit
public import Idealize.ShloMosaic.Lib.KernelVsHost
public import Idealize.ShloMosaic.Lib.IdealHost

@[expose] public section

set_option maxRecDepth 16384

noncomputable section

namespace Cert.FinalIdeal.RowValue

open Idealize.ShloMosaic Idealize.ShloMosaic.TcCoe Idealize.SL.Sem
open Idealize.ShloMosaic.Pipeline (Dat)
open Cert.FinalIdeal Cert.FinalIdeal.Gen

variable (m : (ℓ : Loc nD τ sig) → Buf (Elt Ideal) ℓ)

/-- The reference's gated sum and final normalisation. -/
def REF (X : FVec Ideal Cert.FinalRefIdeal.S8192x4096 .f32) (P : FVec Ideal Cert.FinalRefIdeal.S4096x8192 .bf16)
    (M : FVec Ideal Cert.FinalRefIdeal.S4x24576 .f32) (G : FVec Ideal Cert.FinalRefIdeal.S4096 .f32) : FVec Ideal Cert.FinalRefIdeal.S8192x4096 .f32 :=
  shapeCast _ (mulf (mulf (addf (shapeCast _ X Cert.FinalRefIdeal.Gen.shapeCasts_S8192x4096_S4x2048x4096) (mulf (broadcastInDim Cert.FinalRefIdeal.S4x2048x4096 ![0, 1, 2] Cert.FinalRefIdeal.Gen.bcast_S4x1x4096_S4x2048x4096_0_1_2 (extractStridedSlice Cert.FinalRefIdeal.S4x1x4096 ![0, 0, 20480] (broadcastInDim Cert.FinalRefIdeal.S4x1x24576 ![0, 2] Cert.FinalRefIdeal.Gen.bcast_S4x24576_S4x1x24576_0_2 M) Cert.FinalRefIdeal.Gen.slices_S4x1x24576_S4x1x4096_0_0_20480)) (shapeCast _ (transpose Cert.FinalRefIdeal.S8192x4096 [1, 0] (extf .f32 P Cert.FinalRefIdeal.Gen.bitsLt_bf16_f32) Cert.FinalRefIdeal.Gen.transposes_S4096x8192_S8192x4096_1_0) Cert.FinalRefIdeal.Gen.shapeCasts_S8192x4096_S4x2048x4096))) (broadcastInDim Cert.FinalRefIdeal.S4x2048x4096 ![0, 1, 2] Cert.FinalRefIdeal.Gen.bcast_S4x2048x1_S4x2048x4096_0_1_2 (Host.rsqrt (addf (Host.divf (broadcastInDim Cert.FinalRefIdeal.S4x2048x1 ![0, 1] Cert.FinalRefIdeal.Gen.bcast_S4x2048_S4x2048x1_0_1 (Host.reduceAdd (mulf (addf (shapeCast _ X Cert.FinalRefIdeal.Gen.shapeCasts_S8192x4096_S4x2048x4096) (mulf (broadcastInDim Cert.FinalRefIdeal.S4x2048x4096 ![0, 1, 2] Cert.FinalRefIdeal.Gen.bcast_S4x1x4096_S4x2048x4096_0_1_2 (extractStridedSlice Cert.FinalRefIdeal.S4x1x4096 ![0, 0, 20480] (broadcastInDim Cert.FinalRefIdeal.S4x1x24576 ![0, 2] Cert.FinalRefIdeal.Gen.bcast_S4x24576_S4x1x24576_0_2 M) Cert.FinalRefIdeal.Gen.slices_S4x1x24576_S4x1x4096_0_0_20480)) (shapeCast _ (transpose Cert.FinalRefIdeal.S8192x4096 [1, 0] (extf .f32 P Cert.FinalRefIdeal.Gen.bitsLt_bf16_f32) Cert.FinalRefIdeal.Gen.transposes_S4096x8192_S8192x4096_1_0) Cert.FinalRefIdeal.Gen.shapeCasts_S8192x4096_S4x2048x4096))) (addf (shapeCast _ X Cert.FinalRefIdeal.Gen.shapeCasts_S8192x4096_S4x2048x4096) (mulf (broadcastInDim Cert.FinalRefIdeal.S4x2048x4096 ![0, 1, 2] Cert.FinalRefIdeal.Gen.bcast_S4x1x4096_S4x2048x4096_0_1_2 (extractStridedSlice Cert.FinalRefIdeal.S4x1x4096 ![0, 0, 20480] (broadcastInDim Cert.FinalRefIdeal.S4x1x24576 ![0, 2] Cert.FinalRefIdeal.Gen.bcast_S4x24576_S4x1x24576_0_2 M) Cert.FinalRefIdeal.Gen.slices_S4x1x24576_S4x1x4096_0_0_20480)) (shapeCast _ (transpose Cert.FinalRefIdeal.S8192x4096 [1, 0] (extf .f32 P Cert.FinalRefIdeal.Gen.bitsLt_bf16_f32) Cert.FinalRefIdeal.Gen.transposes_S4096x8192_S8192x4096_1_0) Cert.FinalRefIdeal.Gen.shapeCasts_S8192x4096_S4x2048x4096)))) (constant Cert.FinalRefIdeal.S_ .f32 0x00000000#32) Cert.FinalRefIdeal.Gen.reducesTo_S4x2048x4096_S4x2048_d2 Cert.FinalRefIdeal.Gen.h_S_)) (broadcastInDim Cert.FinalRefIdeal.S4x2048x1 ![] Cert.FinalRefIdeal.Gen.bcast_S_S4x2048x1 (constant Cert.FinalRefIdeal.S_ .f32 0x45800000#32))) (broadcastInDim Cert.FinalRefIdeal.S4x2048x1 ![] Cert.FinalRefIdeal.Gen.bcast_S_S4x2048x1 (constant Cert.FinalRefIdeal.S_ .f32 0x358637BD#32)))))) (broadcastInDim Cert.FinalRefIdeal.S4x2048x4096 ![0, 1, 2] Cert.FinalRefIdeal.Gen.bcast_S1x1x4096_S4x2048x4096_0_1_2 (broadcastInDim Cert.FinalRefIdeal.S1x1x4096 ![2] Cert.FinalRefIdeal.Gen.bcast_S4096_S1x1x4096_2 G))) Cert.FinalRefIdeal.Gen.shapeCasts_S4x2048x4096_S8192x4096

theorem idx : ∀ t : Fin cfg0.N, win0_0.index t = ![t.val, 0] ∧ win0_1.index t = ![0, t.val]
    ∧ win0_2.index t = ![t.val / 4 * 6 + 5, 0, 0] ∧ win0_3.index t = ![0, 0] ∧ win0_4.index t = ![t.val, 0] :=
  (by decide +kernel : ∀ t : Fin grid0.N, _)

/-- One entry of a normalised row. -/
def ent (x : Fin 4096 → EReal) (g : EReal) (j : Fin 4096) : EReal :=
  x j * Ideal.rsqrt (Ideal.div (∑ k : Fin 4096, x k * x k) (Ideal.ofBits FTy.f32 0x45800000#32) + Ideal.ofBits FTy.f32 0x358637BD#32) * g

/-- The reference at an index. -/
theorem REF_at (X : FVec Ideal Cert.FinalRefIdeal.S8192x4096 .f32) (P : FVec Ideal Cert.FinalRefIdeal.S4096x8192 .bf16)
    (M : FVec Ideal Cert.FinalRefIdeal.S4x24576 .f32) (G : FVec Ideal Cert.FinalRefIdeal.S4096 .f32) (i : Fin 8192) (j : Fin 4096) :
    REF X P M G (ix2 i j) = ent (fun k => X (ix2 i k) + M (ix2 ⟨i.val / 2048, by omega⟩ ⟨20480 + k.val, by omega⟩) * P (ix2 k i))
      (G (ix1 j)) j := by
  pointwise [REF, ent]

/-- The kernel's arithmetic at an index. -/
theorem pay_at (x : Vec Ideal S512x4096 .f32) (ga : Vec Ideal S1x1x4096 .f32) (p : Vec Ideal S4096x512 .bf16) (g : Vec Ideal S1x4096 .f32)
    (a : Fin 512) (j : Fin 4096) :
    k0_pay1 (F := Ideal) x ga p g (ix2 a j) = ent (fun k => x (ix2 a k) + ga (ix3 0 0 k) * p (ix2 k a)) (g (ix2 0 j)) j := by
  pointwise [k0_pay1, ent]

theorem V1 (c : Dev nD) (i : Fin 24) (j : Fin 4096) : V m c main_v0 (ix3 i 0 j)
    = (m ((c : Thread nD τ).loc main_arg2)) (ix2 ⟨i.val / 6, by omega⟩ ⟨i.val % 6 * 4096 + j.val, by omega⟩) := by
  entry_read
  pointwise

theorem V2 (c : Dev nD) (j : Fin 4096) : V m c main_v1 (ix2 0 j) = (m ((c : Thread nD τ).loc main_arg3)) (ix1 j) := by
  entry_read
  pointwise

theorem lt16 (t : Fin cfg0.N) : t.val < 16 := lt_of_lt_of_eq t.isLt (show cfg0.N = 16 from N_0)

theorem r0 (c : Dev nD) (t : Fin cfg0.N) (a : Fin 512) (k : Fin 4096) (I : Fin 8192) (hI : I.val = t.val * 512 + a.val) :
    (iblk m c 0 t : Vec Ideal S512x4096 .f32) (ix2 a k) = (m ((c : Thread nD τ).loc main_arg0)) (ix2 I k) := by
  blk_ext [iblk, V, idx t]

theorem r1 (c : Dev nD) (t : Fin cfg0.N) (a : Fin 512) (k : Fin 4096) (I : Fin 8192) (hI : I.val = t.val * 512 + a.val) :
    (iblk m c 1 t : Vec Ideal S4096x512 .bf16) (ix2 k a) = (m ((c : Thread nD τ).loc main_arg1)) (ix2 k I) := by
  blk_ext [iblk, V, idx t]

theorem r3 (c : Dev nD) (t : Fin cfg0.N) (j : Fin 4096) :
    (iblk m c 3 t : Vec Ideal S1x4096 .f32) (ix2 0 j) = (m ((c : Thread nD τ).loc main_arg3)) (ix1 j) := by
  rw [← V2 m c j]
  blk_ext [iblk, idx t]

theorem r2' (c : Dev nD) (t : Fin cfg0.N) (R : Fin 24) (j : Fin 4096) (hR : R.val = t.val / 4 * 6 + 5) :
    (iblk m c 2 t : Vec Ideal S1x1x4096 .f32) (ix3 0 0 j) = V m c main_v0 (ix3 R 0 j) := by
  blk_ext [iblk, idx t]

theorem r2 (c : Dev nD) (t : Fin cfg0.N) (a : Fin 512) (j : Fin 4096) (I : Fin 8192) (hI : I.val = t.val * 512 + a.val) :
    (iblk m c 2 t : Vec Ideal S1x1x4096 .f32) (ix3 0 0 j)
      = (m ((c : Thread nD τ).loc main_arg2)) (ix2 ⟨I.val / 2048, by omega⟩ ⟨20480 + j.val, by omega⟩) := by
  have := lt16 t
  rw [r2' m c t ⟨t.val / 4 * 6 + 5, by omega⟩ j rfl, V1]
  congr 1
  refine (ix2_inj ..).2 ⟨Fin.ext ?_, Fin.ext ?_⟩ <;> dsimp only <;> omega

theorem emb_eq (t : Fin cfg0.N) (a : Fin 512) (j : Fin 4096) (I : Fin 8192) (hI : I.val = t.val * 512 + a.val) :
    (((cfg0.win 4).blk t).view.emb (ix2 a j : S512x4096.Idx) : S8192x4096.Idx) = ix2 I j := by
  blk_ext [idx t]

theorem blk_eq (c : Dev nD) (t : Fin cfg0.N) (a : Fin 512) (b : Fin 4096) (I : Fin 8192) (hI : I.val = t.val * 512 + a.val) :
    k0_pay1 (F := Ideal) (iblk m c 0 t : Vec Ideal S512x4096 .f32) (iblk m c 2 t : Vec Ideal S1x1x4096 .f32)
      (iblk m c 1 t : Vec Ideal S4096x512 .bf16) (iblk m c 3 t : Vec Ideal S1x4096 .f32) (ix2 a b)
    = REF (m ((c : Thread nD τ).loc main_arg0)) (m ((c : Thread nD τ).loc main_arg1)) (m ((c : Thread nD τ).loc main_arg2))
        (m ((c : Thread nD τ).loc main_arg3)) (ix2 I b) := by
  rw [pay_at, REF_at, r3 m c t b]
  congr 1
  funext k
  rw [r0 m c t a k I hI, r1 m c t a k I hI, r2 m c t a k I hI]

theorem final (c : Dev nD) : (dats m 0 c).arrAt 4 cfg0.N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  have hN := lt16 t
  obtain ⟨a, b, rfl⟩ : ∃ (a : Fin 512) (b : Fin 4096), y = (ix2 a b : S512x4096.Idx) := ⟨y 0, y 1, eq_ix2 (n0 := 512) (n1 := 4096) y⟩
  rw [emb_eq t a b ⟨t.val * 512 + a.val, by omega⟩ rfl]
  blk_simp
  rw [after0_4, ← blk_eq m c t a b _ rfl]
  frame_out

end Cert.FinalIdeal.RowValue

end
-- ==== Proof.lean ====
/-
  The claims of this certificate: the five matrix products of the layer, its sliding-window attention, its modulation and its
  three normalisations, each against its plain reference; and the frame of its recurrence. The value of each kernel is proved in its own module
  (`Proof/Mat….lean`, `Proof/AttnValue.lean`, `Proof/Row….lean`).
-/
module

public import proofs.«01_k».proof.Defs
public import proofs.«01_k».proof.Proof.Gen.Glow.Frame
public import proofs.«01_k».proof.Proof.Gen.GlowIdeal.Value
public import proofs.«01_k».proof.Proof.Gen.GlowRefIdeal.Run
public import proofs.«01_k».proof.Proof.MatGlow
public import proofs.«01_k».proof.Proof.Gen.Gout.Frame
public import proofs.«01_k».proof.Proof.Gen.GoutIdeal.Value
public import proofs.«01_k».proof.Proof.Gen.GoutRefIdeal.Run
public import proofs.«01_k».proof.Proof.MatGout
public import proofs.«01_k».proof.Proof.Gen.In.Frame
public import proofs.«01_k».proof.Proof.Gen.InIdeal.Value
public import proofs.«01_k».proof.Proof.Gen.InRefIdeal.Run
public import proofs.«01_k».proof.Proof.MatIn
public import proofs.«01_k».proof.Proof.Gen.Out.Frame
public import proofs.«01_k».proof.Proof.Gen.OutIdeal.Value
public import proofs.«01_k».proof.Proof.Gen.OutRefIdeal.Run
public import proofs.«01_k».proof.Proof.MatOut
public import proofs.«01_k».proof.Proof.Gen.Pq.Frame
public import proofs.«01_k».proof.Proof.Gen.PqIdeal.Value
public import proofs.«01_k».proof.Proof.Gen.PqRefIdeal.Run
public import proofs.«01_k».proof.Proof.MatPq
public import proofs.«01_k».proof.Proof.Gen.AttnRefIdeal.Run
public import proofs.«01_k».proof.Proof.AttnRun
public import proofs.«01_k».proof.Proof.AttnValue
public import proofs.«01_k».proof.Proof.Gen.Gla.Frame
public import proofs.«01_k».proof.Proof.Gen.GlaIdeal.Frame
public import proofs.«01_k».proof.Proof.Gen.Modu.Frame
public import proofs.«01_k».proof.Proof.Gen.ModuIdeal.Value
public import proofs.«01_k».proof.Proof.Gen.ModuRefIdeal.Run
public import proofs.«01_k».proof.Proof.RowModu
public import proofs.«01_k».proof.Proof.Gen.Norma.Frame
public import proofs.«01_k».proof.Proof.Gen.NormaIdeal.Value
public import proofs.«01_k».proof.Proof.Gen.NormaRefIdeal.Run
public import proofs.«01_k».proof.Proof.RowNorma
public import proofs.«01_k».proof.Proof.Gen.Normb.Frame
public import proofs.«01_k».proof.Proof.Gen.NormbIdeal.Value
public import proofs.«01_k».proof.Proof.Gen.NormbRefIdeal.Run
public import proofs.«01_k».proof.Proof.RowNormb
public import proofs.«01_k».proof.Proof.Gen.Final.Frame
public import proofs.«01_k».proof.Proof.Gen.FinalIdeal.Value
public import proofs.«01_k».proof.Proof.Gen.FinalRefIdeal.Run
public import proofs.«01_k».proof.Proof.RowFinal
public import Idealize.ShloMosaic.Adequacy
public import Idealize.ShloMosaic.Init
public import Idealize.ShloMosaic.Lib.Quiescent

@[expose] public section

noncomputable section

namespace Cert.Proof

open Idealize.ShloMosaic Idealize.SL.Sem

theorem quiescent_InRefIdeal : quiescent_InRefIdeal := fun m ρ _ =>
  (θ_run Cert.InRefIdeal.defs _ _).mono (fun r h => ⟨fun c => (h c).2, sem_eq_zero_of_no_sems (by decide) r.2⟩)
    (Cert.InRefIdeal.Value.run (F := Ideal) m ρ)

theorem quiescent_GoutRefIdeal : quiescent_GoutRefIdeal := fun m ρ _ =>
  (θ_run Cert.GoutRefIdeal.defs _ _).mono (fun r h => ⟨fun c => (h c).2, sem_eq_zero_of_no_sems (by decide) r.2⟩)
    (Cert.GoutRefIdeal.Value.run (F := Ideal) m ρ)

theorem quiescent_GlowRefIdeal : quiescent_GlowRefIdeal := fun m ρ _ =>
  (θ_run Cert.GlowRefIdeal.defs _ _).mono (fun r h => ⟨fun c => (h c).2, sem_eq_zero_of_no_sems (by decide) r.2⟩)
    (Cert.GlowRefIdeal.Value.run (F := Ideal) m ρ)

theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

theorem quiescent_PqRefIdeal : quiescent_PqRefIdeal := fun m ρ _ =>
  (θ_run Cert.PqRefIdeal.defs _ _).mono (fun r h => ⟨fun c => (h c).2, sem_eq_zero_of_no_sems (by decide) r.2⟩)
    (Cert.PqRefIdeal.Value.run (F := Ideal) m ρ)

theorem algebraic_InIdeal_InRefIdeal : algebraic_InIdeal_InRefIdeal := by
  intro m ρ m' ρ' _ hagree
  refine ⟨_, Cert.InIdeal.Value.run_blocks (F := Ideal) m ρ, ?_⟩
  refine (θ_run Cert.InRefIdeal.defs _ _).mono (fun _ h c => ⟨?_, (h c).2⟩) (Cert.InRefIdeal.Value.run (F := Ideal) m' ρ')
  rw [(h c).1]
  simp only [hagree c]
  exact (Cert.InIdeal.MatValue.final m c).symm

theorem algebraic_GoutIdeal_GoutRefIdeal : algebraic_GoutIdeal_GoutRefIdeal := by
  intro m ρ m' ρ' _ hagree
  refine ⟨_, Cert.GoutIdeal.Value.run_blocks (F := Ideal) m ρ, ?_⟩
  refine (θ_run Cert.GoutRefIdeal.defs _ _).mono (fun _ h c => ⟨?_, (h c).2⟩) (Cert.GoutRefIdeal.Value.run (F := Ideal) m' ρ')
  rw [(h c).1]
  simp only [hagree c]
  exact (Cert.GoutIdeal.MatValue.final m c).symm

theorem algebraic_GlowIdeal_GlowRefIdeal : algebraic_GlowIdeal_GlowRefIdeal := by
  intro m ρ m' ρ' _ hagree
  refine ⟨_, Cert.GlowIdeal.Value.run_blocks (F := Ideal) m ρ, ?_⟩
  refine (θ_run Cert.GlowRefIdeal.defs _ _).mono (fun _ h c => ⟨?_, (h c).2⟩) (Cert.GlowRefIdeal.Value.run (F := Ideal) m' ρ')
  rw [(h c).1]
  simp only [hagree c]
  exact (Cert.GlowIdeal.MatValue.final m c).symm

set_option maxHeartbeats 1600000 in
theorem algebraic_OutIdeal_OutRefIdeal : algebraic_OutIdeal_OutRefIdeal := by
  intro m ρ m' ρ' _ hagree
  refine ⟨fun c => (Cert.OutIdeal.Gen.dats m 0 c).arrAt 5 Cert.OutIdeal.cfg0.N,
    Cert.OutIdeal.Value.run_blocks (F := Ideal) m ρ, ?_⟩
  refine (θ_run Cert.OutRefIdeal.defs _ _).mono (fun _ h c => ⟨?_, (h c).2⟩) (Cert.OutRefIdeal.Value.run (F := Ideal) m' ρ')
  obtain ⟨a0, a1, a2, a3, a4⟩ := hagree c
  rw [(h c).1, a0, a1, a2, a3, a4]
  exact (Cert.OutIdeal.MatValue.final m c).symm

theorem algebraic_PqIdeal_PqRefIdeal : algebraic_PqIdeal_PqRefIdeal := by
  intro m ρ m' ρ' _ hagree
  refine ⟨_, Cert.PqIdeal.Value.run_blocks (F := Ideal) m ρ, ?_⟩
  refine (θ_run Cert.PqRefIdeal.defs _ _).mono (fun _ h c => ⟨?_, (h c).2⟩) (Cert.PqRefIdeal.Value.run (F := Ideal) m' ρ')
  rw [(h c).1]
  simp only [hagree c]
  exact (Cert.PqIdeal.MatValue.final m c).symm

theorem quiescent_AttnRefIdeal : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

theorem quiescent_AttnRefIdeal_pre_finite_inputs : quiescent_AttnRefIdeal_pre_finite_inputs := fun m ρ _ =>
  quiescent_AttnRefIdeal m ρ trivial

theorem preserves_Attn_AttnIdeal : preserves_Attn_AttnIdeal :=
  IdealRules.named_const.statement Cert.AttnIdeal.κ "mask" .f32 0xF149F2CA#32 ⊥ rfl

set_option maxHeartbeats 1600000 in
theorem algebraic_AttnIdeal_AttnRefIdeal : algebraic_AttnIdeal_AttnRefIdeal_pre_finite_inputs := by
  intro m ρ m' ρ' hpre hagree
  refine ⟨fun c => Cert.AttnIdeal.Run.res m c,
    (θ_run Cert.AttnIdeal.defs _ _).mono (fun _ h => h.1) (Cert.AttnIdeal.Run.run m ρ), ?_⟩
  refine (θ_run Cert.AttnRefIdeal.defs _ _).mono (fun _ h c => ⟨?_, (h c).2⟩) (Cert.AttnRefIdeal.Value.run (F := Ideal) m' ρ')
  obtain ⟨a0, a1, a2⟩ := hagree c
  rw [(h c).1, Cert.AttnRefIdeal.Pieces.res_eq, a0, a1, a2]
  exact (Cert.AttnValue.final m hpre c).symm

theorem quiescent_ModuRefIdeal : quiescent_ModuRefIdeal := fun m ρ _ =>
  (θ_run Cert.ModuRefIdeal.defs _ _).mono (fun r h => ⟨fun c => (h c).2, sem_eq_zero_of_no_sems (by decide) r.2⟩)
    (Cert.ModuRefIdeal.Value.run (F := Ideal) m ρ)

theorem algebraic_ModuIdeal_ModuRefIdeal : algebraic_ModuIdeal_ModuRefIdeal := by
  intro m ρ m' ρ' _ hagree
  refine ⟨fun c => (Cert.ModuIdeal.Gen.dats m 0 c).arrAt 3 Cert.ModuIdeal.cfg0.N,
    Cert.ModuIdeal.Value.run_blocks (F := Ideal) m ρ, ?_⟩
  refine (θ_run Cert.ModuRefIdeal.defs _ _).mono (fun _ h c => ⟨?_, (h c).2⟩) (Cert.ModuRefIdeal.Value.run (F := Ideal) m' ρ')
  obtain ⟨a0, a1, a2⟩ := hagree c
  rw [(h c).1, a0, a1, a2]
  exact (Cert.ModuIdeal.RowValue.final m c).symm

theorem quiescent_NormaRefIdeal : quiescent_NormaRefIdeal := fun m ρ _ =>
  (θ_run Cert.NormaRefIdeal.defs _ _).mono (fun r h => ⟨fun c => (h c).2, sem_eq_zero_of_no_sems (by decide) r.2⟩)
    (Cert.NormaRefIdeal.Value.run (F := Ideal) m ρ)

theorem algebraic_NormaIdeal_NormaRefIdeal : algebraic_NormaIdeal_NormaRefIdeal := by
  intro m ρ m' ρ' _ hagree
  refine ⟨fun c => (Cert.NormaIdeal.Gen.dats m 0 c).arrAt 4 Cert.NormaIdeal.cfg0.N,
    Cert.NormaIdeal.Value.run_blocks (F := Ideal) m ρ, ?_⟩
  refine (θ_run Cert.NormaRefIdeal.defs _ _).mono (fun _ h c => ⟨?_, (h c).2⟩) (Cert.NormaRefIdeal.Value.run (F := Ideal) m' ρ')
  obtain ⟨a0, a1, a2⟩ := hagree c
  rw [(h c).1, a0, a1, a2]
  exact (Cert.NormaIdeal.RowValue.final m c).symm

theorem quiescent_NormbRefIdeal : quiescent_NormbRefIdeal := fun m ρ _ =>
  (θ_run Cert.NormbRefIdeal.defs _ _).mono (fun r h => ⟨fun c => (h c).2, sem_eq_zero_of_no_sems (by decide) r.2⟩)
    (Cert.NormbRefIdeal.Value.run (F := Ideal) m ρ)

theorem algebraic_NormbIdeal_NormbRefIdeal : algebraic_NormbIdeal_NormbRefIdeal := by
  intro m ρ m' ρ' _ hagree
  refine ⟨fun c => (Cert.NormbIdeal.Gen.dats m 0 c).arrAt 4 Cert.NormbIdeal.cfg0.N,
    Cert.NormbIdeal.Value.run_blocks (F := Ideal) m ρ, ?_⟩
  refine (θ_run Cert.NormbRefIdeal.defs _ _).mono (fun _ h c => ⟨?_, (h c).2⟩) (Cert.NormbRefIdeal.Value.run (F := Ideal) m' ρ')
  obtain ⟨a0, a1, a2⟩ := hagree c
  rw [(h c).1, a0, a1, a2]
  exact (Cert.NormbIdeal.RowValue.final m c).symm

theorem quiescent_FinalRefIdeal : quiescent_FinalRefIdeal := fun m ρ _ =>
  (θ_run Cert.FinalRefIdeal.defs _ _).mono (fun r h => ⟨fun c => (h c).2, sem_eq_zero_of_no_sems (by decide) r.2⟩)
    (Cert.FinalRefIdeal.Value.run (F := Ideal) m ρ)

theorem algebraic_FinalIdeal_FinalRefIdeal : algebraic_FinalIdeal_FinalRefIdeal := by
  intro m ρ m' ρ' _ hagree
  refine ⟨fun c => (Cert.FinalIdeal.Gen.dats m 0 c).arrAt 4 Cert.FinalIdeal.cfg0.N,
    Cert.FinalIdeal.Value.run_blocks (F := Ideal) m ρ, ?_⟩
  refine (θ_run Cert.FinalRefIdeal.defs _ _).mono (fun _ h c => ⟨?_, (h c).2⟩) (Cert.FinalRefIdeal.Value.run (F := Ideal) m' ρ')
  obtain ⟨a0, a1, a2, a3⟩ := hagree c
  rw [(h c).1, a0, a1, a2, a3]
  exact (Cert.FinalIdeal.RowValue.final m c).symm

theorem claim : Cert.Claim := ⟨Cert.In.Gen.facts, Cert.InIdeal.Gen.facts, Cert.InRefIdeal.Gen.facts, Cert.Gout.Gen.facts, Cert.GoutIdeal.Gen.facts, Cert.GoutRefIdeal.Gen.facts, Cert.Glow.Gen.facts, Cert.GlowIdeal.Gen.facts, Cert.GlowRefIdeal.Gen.facts, Cert.Out.Gen.facts, Cert.OutIdeal.Gen.facts, Cert.OutRefIdeal.Gen.facts, Cert.Pq.Gen.facts, Cert.PqIdeal.Gen.facts, Cert.PqRefIdeal.Gen.facts, Cert.Attn.Gen.facts, Cert.AttnIdeal.Gen.facts, Cert.AttnRefIdeal.Gen.facts, Cert.Modu.Gen.facts, Cert.ModuIdeal.Gen.facts, Cert.ModuRefIdeal.Gen.facts, Cert.Norma.Gen.facts, Cert.NormaIdeal.Gen.facts, Cert.NormaRefIdeal.Gen.facts, Cert.Normb.Gen.facts, Cert.NormbIdeal.Gen.facts, Cert.NormbRefIdeal.Gen.facts, Cert.Final.Gen.facts, Cert.FinalIdeal.Gen.facts, Cert.FinalRefIdeal.Gen.facts, Cert.Gla.Gen.facts, Cert.GlaIdeal.Gen.facts, Cert.Pre_finite_inputs.Gen.facts,
  fun m ρ _ => Cert.In.Gen.frame m ρ, fun m ρ _ => Cert.InIdeal.Gen.frame m ρ, quiescent_InRefIdeal, fun m ρ _ => Cert.Gout.Gen.frame m ρ, fun m ρ _ => Cert.GoutIdeal.Gen.frame m ρ, quiescent_GoutRefIdeal, fun m ρ _ => Cert.Glow.Gen.frame m ρ, fun m ρ _ => Cert.GlowIdeal.Gen.frame m ρ, quiescent_GlowRefIdeal, fun m ρ _ => Cert.Out.Gen.frame m ρ, fun m ρ _ => Cert.OutIdeal.Gen.frame m ρ, quiescent_OutRefIdeal, fun m ρ _ => Cert.Pq.Gen.frame m ρ, fun m ρ _ => Cert.PqIdeal.Gen.frame m ρ, quiescent_PqRefIdeal, fun m ρ _ => Cert.Attn.Run.frame m ρ, fun m ρ _ => Cert.AttnIdeal.Run.frame m ρ, fun m ρ _ => Cert.AttnIdeal.Run.frame m ρ, quiescent_AttnRefIdeal, quiescent_AttnRefIdeal_pre_finite_inputs, fun m ρ _ => Cert.Modu.Gen.frame m ρ, fun m ρ _ => Cert.ModuIdeal.Gen.frame m ρ, quiescent_ModuRefIdeal, fun m ρ _ => Cert.Norma.Gen.frame m ρ, fun m ρ _ => Cert.NormaIdeal.Gen.frame m ρ, quiescent_NormaRefIdeal, fun m ρ _ => Cert.Normb.Gen.frame m ρ, fun m ρ _ => Cert.NormbIdeal.Gen.frame m ρ, quiescent_NormbRefIdeal, fun m ρ _ => Cert.Final.Gen.frame m ρ, fun m ρ _ => Cert.FinalIdeal.Gen.frame m ρ, quiescent_FinalRefIdeal, fun m ρ _ => Cert.Gla.Gen.frame m ρ, fun m ρ _ => Cert.GlaIdeal.Gen.frame m ρ, (trivial : preserves_In_InIdeal), algebraic_InIdeal_InRefIdeal, (trivial : preserves_Gout_GoutIdeal), algebraic_GoutIdeal_GoutRefIdeal, (trivial : preserves_Glow_GlowIdeal), algebraic_GlowIdeal_GlowRefIdeal, (trivial : preserves_Out_OutIdeal), algebraic_OutIdeal_OutRefIdeal, (trivial : preserves_Pq_PqIdeal), algebraic_PqIdeal_PqRefIdeal, preserves_Attn_AttnIdeal, algebraic_AttnIdeal_AttnRefIdeal, (trivial : preserves_Modu_ModuIdeal), algebraic_ModuIdeal_ModuRefIdeal, (trivial : preserves_Norma_NormaIdeal), algebraic_NormaIdeal_NormaRefIdeal, (trivial : preserves_Normb_NormbIdeal), algebraic_NormbIdeal_NormbRefIdeal, (trivial : preserves_Final_FinalIdeal), algebraic_FinalIdeal_FinalRefIdeal, (trivial : preserves_Gla_GlaIdeal)⟩

end Cert.Proof

end
